-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_no_iou_bias_and_finite_cells [hPre_no_iou_bias_and_finite_cells : Cert.Pre_no_iou_bias_and_finite_cells.Facts] (m : (ℓ : Loc Cert.KernelIdeal.nD Cert.KernelIdeal.τ Cert.KernelIdeal.sig) → Buf (Elt Ideal) ℓ) : Prop :=
  ∀ c : Dev Cert.KernelIdeal.nD,
    (Cert.Pre_no_iou_bias_and_finite_cells.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_no_iou_bias_and_finite_cells [hPre_no_iou_bias_and_finite_cells : Cert.Pre_no_iou_bias_and_finite_cells.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_no_iou_bias_and_finite_cells.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_KernelIdeal_pre_no_iou_bias_and_finite_cells [hKernelIdeal : Cert.KernelIdeal.Facts] [hPre_no_iou_bias_and_finite_cells : Cert.Pre_no_iou_bias_and_finite_cells.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_no_iou_bias_and_finite_cells m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_no_iou_bias_and_finite_cells [hReferenceIdeal : Cert.ReferenceIdeal.Facts] [hPre_no_iou_bias_and_finite_cells : Cert.Pre_no_iou_bias_and_finite_cells.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_no_iou_bias_and_finite_cells m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def preserves_Kernel_KernelIdeal : Prop :=
  True

def algebraic_KernelIdeal_ReferenceIdeal_pre_no_iou_bias_and_finite_cells [hKernelIdeal : Cert.KernelIdeal.Facts] [hReferenceIdeal : Cert.ReferenceIdeal.Facts] [hPre_no_iou_bias_and_finite_cells : Cert.Pre_no_iou_bias_and_finite_cells.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_no_iou_bias_and_finite_cells m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1314) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_no_iou_bias_and_finite_cells : Cert.Pre_no_iou_bias_and_finite_cells.Facts),
    quiescent_Kernel (hKernel := hKernel)
    ∧ quiescent_KernelIdeal (hKernelIdeal := hKernelIdeal)
    ∧ quiescent_KernelIdeal_pre_no_iou_bias_and_finite_cells (hKernelIdeal := hKernelIdeal) (hPre_no_iou_bias_and_finite_cells := hPre_no_iou_bias_and_finite_cells)
    ∧ quiescent_ReferenceIdeal (hReferenceIdeal := hReferenceIdeal)
    ∧ quiescent_ReferenceIdeal_pre_no_iou_bias_and_finite_cells (hReferenceIdeal := hReferenceIdeal) (hPre_no_iou_bias_and_finite_cells := hPre_no_iou_bias_and_finite_cells)
    ∧ preserves_Kernel_KernelIdeal
    ∧ algebraic_KernelIdeal_ReferenceIdeal_pre_no_iou_bias_and_finite_cells (hKernelIdeal := hKernelIdeal) (hReferenceIdeal := hReferenceIdeal) (hPre_no_iou_bias_and_finite_cells := hPre_no_iou_bias_and_finite_cells)
-- ==== Pre_no_iou_bias_and_finite_cells.lean ====
abbrev S49152x128 : Shape := ⟨2, ![49152, 128]⟩
abbrev S256x384 : Shape := ⟨2, ![256, 384]⟩
abbrev S384 : Shape := ⟨1, ![384]⟩
abbrev S256x256 : Shape := ⟨2, ![256, 256]⟩
abbrev S256 : Shape := ⟨1, ![256]⟩
abbrev S_ : Shape := ⟨0, ![]⟩

class Facts : Prop where
  bcast_S_S49152x128 : S_.BroadcastsInDim S49152x128 (![] : Fin 0 → Fin S49152x128.rank)
  reducesTo_S49152x128_S_d0_1 : S49152x128.ReducesTo [0, 1] S_
  h_S_ : 0 < S_.numel
  bcast_S_S384 : S_.BroadcastsInDim S384 (![] : Fin 0 → Fin S384.rank)
  reducesTo_S384_S_d0 : S384.ReducesTo [0] S_

variable [Facts]

def fn {F : FTy → Type} [FloatOps F] (main_arg0 : FVec F S49152x128 .f32) (main_arg1 : FVec F S49152x128 .f32) (main_arg2 : FVec F S256x384 .f32) (main_arg3 : FVec F S384 .f32) (main_arg4 : FVec F S256x256 .f32) (main_arg5 : FVec F S256 .f32) (main_arg6 : FVec F S256x384 .f32) (main_arg7 : FVec F S384 .f32) (main_arg8 : FVec F S256x256 .f32) (main_arg9 : FVec F S256 .f32) : IVec S_ 1 :=
  let main_v0 : FVec F S49152x128 .f32 := Host.absf main_arg1
  let main_cst : FVec F S_ .f32 := constant S_ .f32 0x7F800000#32
  let main_v1 : FVec F S49152x128 .f32 := broadcastInDim S49152x128 ![] bcast_S_S49152x128 main_cst
  let main_v2 : IVec S49152x128 1 := cmpf .olt main_v0 main_v1
  let main_c : IVec S_ 1 := constantI S_ 1 1#1
  let main_v3 : IVec S_ 1 := (fun x v => Host.reduce IntOp.andi x v reducesTo_S49152x128_S_d0_1 h_S_) main_v2 main_c
  let main_cst_0 : FVec F S_ .f32 := constant S_ .f32 0x00000000#32
  let main_v4 : FVec F S384 .f32 := broadcastInDim S384 ![] bcast_S_S384 main_cst_0
  let main_v5 : IVec S384 1 := cmpf .oeq main_arg3 main_v4
  let main_c_1 : IVec S_ 1 := constantI S_ 1 1#1
  let main_v6 : IVec S_ 1 := (fun x v => Host.reduce IntOp.andi x v reducesTo_S384_S_d0 h_S_) main_v5 main_c_1
  let main_v7 : IVec S_ 1 := andi main_v3 main_v6
  let main_cst_2 : FVec F S_ .f32 := constant S_ .f32 0x00000000#32
  let main_v8 : FVec F S384 .f32 := broadcastInDim S384 ![] bcast_S_S384 main_cst_2
  let main_v9 : IVec S384 1 := cmpf .oeq main_arg7 main_v8
  let main_c_3 : IVec S_ 1 := constantI S_ 1 1#1
  let main_v10 : IVec S_ 1 := (fun x v => Host.reduce IntOp.andi x v reducesTo_S384_S_d0 h_S_) main_v9 main_c_3
  let main_v11 : IVec S_ 1 := andi main_v7 main_v10
  main_v11
-- ==== Kernel.lean ====
abbrev S49152x128 : Shape := ⟨2, ![49152, 128]⟩
abbrev S256x384 : Shape := ⟨2, ![256, 384]⟩
abbrev S384 : Shape := ⟨1, ![384]⟩
abbrev S256x256 : Shape := ⟨2, ![256, 256]⟩
abbrev S256 : Shape := ⟨1, ![256]⟩
abbrev S24576x256 : Shape := ⟨2, ![24576, 256]⟩
abbrev S_ : Shape := ⟨0, ![]⟩
abbrev S128 : Shape := ⟨1, ![128]⟩
abbrev S640 : Shape := ⟨1, ![640]⟩
abbrev S256x640 : Shape := ⟨2, ![256, 640]⟩
abbrev S1x640 : Shape := ⟨2, ![1, 640]⟩
abbrev S1x256 : Shape := ⟨2, ![1, 256]⟩
abbrev S4096x256 : Shape := ⟨2, ![4096, 256]⟩
abbrev S7168x128 : Shape := ⟨2, ![7168, 128]⟩
abbrev S3072x128 : Shape := ⟨2, ![3072, 128]⟩
abbrev S256x128 : Shape := ⟨2, ![256, 128]⟩
abbrev S512x128 : Shape := ⟨2, ![512, 128]⟩
abbrev S128x256 : Shape := ⟨2, ![128, 256]⟩
abbrev S128x640 : Shape := ⟨2, ![128, 640]⟩
abbrev S128x384 : Shape := ⟨2, ![128, 384]⟩
abbrev S128x128 : Shape := ⟨2, ![128, 128]⟩
abbrev S384x128 : Shape := ⟨2, ![384, 128]⟩
abbrev S192x256 : Shape := ⟨2, ![192, 256]⟩
abbrev S192x640 : Shape := ⟨2, ![192, 640]⟩
abbrev S192x384 : Shape := ⟨2, ![192, 384]⟩
abbrev S192x128 : Shape := ⟨2, ![192, 128]⟩
abbrev S96x256 : Shape := ⟨2, ![96, 256]⟩
abbrev S96x640 : Shape := ⟨2, ![96, 640]⟩
abbrev S96x384 : Shape := ⟨2, ![96, 384]⟩
abbrev S96x128 : Shape := ⟨2, ![96, 128]⟩
abbrev S48x256 : Shape := ⟨2, ![48, 256]⟩
abbrev S48x640 : Shape := ⟨2, ![48, 640]⟩
abbrev S48x384 : Shape := ⟨2, ![48, 384]⟩
abbrev S48x128 : Shape := ⟨2, ![48, 128]⟩
abbrev S24x256 : Shape := ⟨2, ![24, 256]⟩
abbrev S24x640 : Shape := ⟨2, ![24, 640]⟩
abbrev S24x384 : Shape := ⟨2, ![24, 384]⟩
abbrev S24x128 : Shape := ⟨2, ![24, 128]⟩
abbrev S12x256 : Shape := ⟨2, ![12, 256]⟩
abbrev S12x640 : Shape := ⟨2, ![12, 640]⟩
abbrev S12x384 : Shape := ⟨2, ![12, 384]⟩
abbrev S12x128 : Shape := ⟨2, ![12, 128]⟩
abbrev S6x256 : Shape := ⟨2, ![6, 256]⟩
abbrev S6x640 : Shape := ⟨2, ![6, 640]⟩
abbrev S6x384 : Shape := ⟨2, ![6, 384]⟩
abbrev S6x128 : Shape := ⟨2, ![6, 128]⟩
abbrev S3x256 : Shape := ⟨2, ![3, 256]⟩
abbrev S3x640 : Shape := ⟨2, ![3, 640]⟩
abbrev S3x384 : Shape := ⟨2, ![3, 384]⟩
abbrev S3x128 : Shape := ⟨2, ![3, 128]⟩
abbrev S1x128 : Shape := ⟨2, ![1, 128]⟩
abbrev S1x384 : Shape := ⟨2, ![1, 384]⟩

abbrev nBuf : Space → Nat
  | .hbm => 45
  | .vmem => 14
  | .smem => 0
  | _ => 0

abbrev bufTy : (tb : Table) → Fin (tcTables nBuf tb) → BufTy
  | .hbm, ⟨0, _⟩ => ⟨S49152x128, .f32⟩
  | .hbm, ⟨1, _⟩ => ⟨S49152x128, .f32⟩
  | .hbm, ⟨2, _⟩ => ⟨S256x384, .f32⟩
  | .hbm, ⟨3, _⟩ => ⟨S384, .f32⟩
  | .hbm, ⟨4, _⟩ => ⟨S256x256, .f32⟩
  | .hbm, ⟨5, _⟩ => ⟨S256, .f32⟩
  | .hbm, ⟨6, _⟩ => ⟨S256x384, .f32⟩
  | .hbm, ⟨7, _⟩ => ⟨S384, .f32⟩
  | .hbm, ⟨8, _⟩ => ⟨S256x256, .f32⟩
  | .hbm, ⟨9, _⟩ => ⟨S256, .f32⟩
  | .hbm, ⟨10, _⟩ => ⟨S24576x256, .f32⟩
  | .hbm, ⟨11, _⟩ => ⟨S24576x256, .f32⟩
  | .hbm, ⟨12, _⟩ => ⟨S_, .f32⟩
  | .hbm, ⟨13, _⟩ => ⟨S256, .f32⟩
  | .hbm, ⟨14, _⟩ => ⟨S_, .f32⟩
  | .hbm, ⟨15, _⟩ => ⟨S128, .f32⟩
  | .hbm, ⟨16, _⟩ => ⟨S_, .f32⟩
  | .hbm, ⟨17, _⟩ => ⟨S256, .f32⟩
  | .hbm, ⟨18, _⟩ => ⟨S640, .f32⟩
  | .hbm, ⟨19, _⟩ => ⟨S256x640, .f32⟩
  | .hbm, ⟨20, _⟩ => ⟨S1x640, .f32⟩
  | .hbm, ⟨21, _⟩ => ⟨S256x640, .f32⟩
  | .hbm, ⟨22, _⟩ => ⟨S256x640, .f32⟩
  | .hbm, ⟨23, _⟩ => ⟨S256x640, .bf16⟩
  | .hbm, ⟨24, _⟩ => ⟨S_, .f32⟩
  | .hbm, ⟨25, _⟩ => ⟨S256x640, .f32⟩
  | .hbm, ⟨26, _⟩ => ⟨S256x640, .f32⟩
  | .hbm, ⟨27, _⟩ => ⟨S256x640, .bf16⟩
  | .hbm, ⟨28, _⟩ => ⟨S_, .f32⟩
  | .hbm, ⟨29, _⟩ => ⟨S640, .f32⟩
  | .hbm, ⟨30, _⟩ => ⟨S640, .f32⟩
  | .hbm, ⟨31, _⟩ => ⟨S256x640, .f32⟩
  | .hbm, ⟨32, _⟩ => ⟨S1x640, .f32⟩
  | .hbm, ⟨33, _⟩ => ⟨S256x640, .f32⟩
  | .hbm, ⟨34, _⟩ => ⟨S256x640, .f32⟩
  | .hbm, ⟨35, _⟩ => ⟨S256x640, .bf16⟩
  | .hbm, ⟨36, _⟩ => ⟨S_, .f32⟩
  | .hbm, ⟨37, _⟩ => ⟨S256, .f32⟩
  | .hbm, ⟨38, _⟩ => ⟨S256, .f32⟩
  | .hbm, ⟨39, _⟩ => ⟨S1x256, .f32⟩
  | .hbm, ⟨40, _⟩ => ⟨S_, .f32⟩
  | .hbm, ⟨41, _⟩ => ⟨S256, .f32⟩
  | .hbm, ⟨42, _⟩ => ⟨S256, .f32⟩
  | .hbm, ⟨43, _⟩ => ⟨S1x256, .f32⟩
  | .hbm, ⟨44, _⟩ => ⟨S1x256, .f32⟩
  | .local _ .vmem, ⟨0, _⟩ => ⟨S4096x256, .f32⟩
  | .local _ .vmem, ⟨1, _⟩ => ⟨S4096x256, .f32⟩
  | .local _ .vmem, ⟨2, _⟩ => ⟨S4096x256, .f32⟩
  | .local _ .vmem, ⟨3, _⟩ => ⟨S4096x256, .f32⟩
  | .local _ .vmem, ⟨4, _⟩ => ⟨S256x640, .bf16⟩
  | .local _ .vmem, ⟨5, _⟩ => ⟨S256x640, .bf16⟩
  | .local _ .vmem, ⟨6, _⟩ => ⟨S256x640, .bf16⟩
  | .local _ .vmem, ⟨7, _⟩ => ⟨S1x256, .f32⟩
  | .local _ .vmem, ⟨8, _⟩ => ⟨S1x256, .f32⟩
  | .local _ .vmem, ⟨9, _⟩ => ⟨S1x256, .f32⟩
  | .local _ .vmem, ⟨10, _⟩ => ⟨S7168x128, .bf16⟩
  | .local _ .vmem, ⟨11, _⟩ => ⟨S7168x128, .f32⟩
  | .local _ .vmem, ⟨12, _⟩ => ⟨S3072x128, .bf16⟩
  | .local _ .vmem, ⟨13, _⟩ => ⟨S3072x128, .f32⟩
  | _, _ => ⟨S49152x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_cst : Ref sig .tc := ⟨.hbm, 12, rfl⟩
abbrev main_v2 : Ref sig .tc := ⟨.hbm, 13, rfl⟩
abbrev main_cst_0 : Ref sig .tc := ⟨.hbm, 14, rfl⟩
abbrev main_v3 : Ref sig .tc := ⟨.hbm, 15, rfl⟩
abbrev main_cst_1 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_2 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_3 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_cst_4 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_cst_5 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9

abbrev nD : Nat := 1
abbrev τ : Topo := Topo.v7x

variable {F : FTy → Type} [FloatOps F]

abbrev grid0 : Pipeline.Grid := ⟨1, ![6], ![false]⟩

def k0_off1 (i : grid0.Coords) (c0_i32 : BitVec 32) : Fin 2 → Nat :=
  let arg0 : BitVec 32 := BitVec.ofNat 32 (i 0).val
  let c512_i32 : BitVec 32 := 512#32
  let v1058 : BitVec 32 := Scalar.muli arg0 c512_i32
  let v1090 : BitVec 32 := Scalar.addi v1058 c0_i32
  let v1091 : Index := Scalar.indexCast v1090
  let c0_263 : Index := 0#32
  ![v1091.toNat, 0]
def k0_cond1 (i : grid0.Coords) : BitVec 1 :=
  let arg0 : BitVec 32 := BitVec.ofNat 32 (i 0).val
  let c5_i32 : BitVec 32 := 5#32
  let v1141 : BitVec 1 := Scalar.cmpi .eq arg0 c5_i32
  let v1142 : BitVec 32 := Scalar.extui v1141
  let c0_i32_275 : BitVec 32 := 0#32
  let v1143 : BitVec 1 := Scalar.cmpi .ne v1142 c0_i32_275
  v1143

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S4096x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x640 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x640 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x640 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== ReferenceIdeal.lean ====
abbrev S49152x128 : Shape := ⟨2, ![49152, 128]⟩
abbrev S256x384 : Shape := ⟨2, ![256, 384]⟩
abbrev S384 : Shape := ⟨1, ![384]⟩
abbrev S256x256 : Shape := ⟨2, ![256, 256]⟩
abbrev S256 : Shape := ⟨1, ![256]⟩
abbrev S32768x128 : Shape := ⟨2, ![32768, 128]⟩
abbrev S16384x128 : Shape := ⟨2, ![16384, 128]⟩
abbrev S16384x256 : Shape := ⟨2, ![16384, 256]⟩
abbrev S16384x384 : Shape := ⟨2, ![16384, 384]⟩
abbrev S1x384 : Shape := ⟨2, ![1, 384]⟩
abbrev S_ : Shape := ⟨0, ![]⟩
abbrev S1x256 : Shape := ⟨2, ![1, 256]⟩
abbrev S8192x128 : Shape := ⟨2, ![8192, 128]⟩
abbrev S8192x256 : Shape := ⟨2, ![8192, 256]⟩
abbrev S8192x384 : Shape := ⟨2, ![8192, 384]⟩
abbrev S4096x128 : Shape := ⟨2, ![4096, 128]⟩
abbrev S4096x256 : Shape := ⟨2, ![4096, 256]⟩
abbrev S4096x384 : Shape := ⟨2, ![4096, 384]⟩
abbrev S2048x128 : Shape := ⟨2, ![2048, 128]⟩
abbrev S2048x256 : Shape := ⟨2, ![2048, 256]⟩
abbrev S2048x384 : Shape := ⟨2, ![2048, 384]⟩
abbrev S1024x128 : Shape := ⟨2, ![1024, 128]⟩
abbrev S1024x256 : Shape := ⟨2, ![1024, 256]⟩
abbrev S1024x384 : Shape := ⟨2, ![1024, 384]⟩
abbrev S512x128 : Shape := ⟨2, ![512, 128]⟩
abbrev S512x256 : Shape := ⟨2, ![512, 256]⟩
abbrev S512x384 : Shape := ⟨2, ![512, 384]⟩
abbrev S256x128 : Shape := ⟨2, ![256, 128]⟩
abbrev S128x128 : Shape := ⟨2, ![128, 128]⟩
abbrev S128x256 : Shape := ⟨2, ![128, 256]⟩
abbrev S128x384 : Shape := ⟨2, ![128, 384]⟩
abbrev S64x128 : Shape := ⟨2, ![64, 128]⟩
abbrev S64x256 : Shape := ⟨2, ![64, 256]⟩
abbrev S64x384 : Shape := ⟨2, ![64, 384]⟩
abbrev S32x128 : Shape := ⟨2, ![32, 128]⟩
abbrev S32x256 : Shape := ⟨2, ![32, 256]⟩
abbrev S32x384 : Shape := ⟨2, ![32, 384]⟩
abbrev S16x128 : Shape := ⟨2, ![16, 128]⟩
abbrev S16x256 : Shape := ⟨2, ![16, 256]⟩
abbrev S16x384 : Shape := ⟨2, ![16, 384]⟩
abbrev S8x128 : Shape := ⟨2, ![8, 128]⟩
abbrev S8x256 : Shape := ⟨2, ![8, 256]⟩
abbrev S8x384 : Shape := ⟨2, ![8, 384]⟩
abbrev S4x128 : Shape := ⟨2, ![4, 128]⟩
abbrev S4x256 : Shape := ⟨2, ![4, 256]⟩
abbrev S4x384 : Shape := ⟨2, ![4, 384]⟩
abbrev S2x128 : Shape := ⟨2, ![2, 128]⟩
abbrev S2x256 : Shape := ⟨2, ![2, 256]⟩
abbrev S2x384 : Shape := ⟨2, ![2, 384]⟩
abbrev S1x128 : Shape := ⟨2, ![1, 128]⟩

abbrev nBuf : Space → Nat
  | .hbm => 1505
  | .vmem => 0
  | .smem => 0
  | _ => 0

abbrev hbmTy0_0 (i : Nat) : BufTy := match i % 128 with
  | 0 => ⟨S49152x128, .f32⟩
  | 1 => ⟨S49152x128, .f32⟩
  | 2 => ⟨S256x384, .f32⟩
  | 3 => ⟨S384, .f32⟩
  | 4 => ⟨S256x256, .f32⟩
  | 5 => ⟨S256, .f32⟩
  | 6 => ⟨S256x384, .f32⟩
  | 7 => ⟨S384, .f32⟩
  | 8 => ⟨S256x256, .f32⟩
  | 9 => ⟨S256, .f32⟩
  | 10 => ⟨S32768x128, .f32⟩
  | 11 => ⟨S32768x128, .f32⟩
  | 12 => ⟨S16384x128, .f32⟩
  | 13 => ⟨S16384x128, .f32⟩
  | 14 => ⟨S16384x128, .f32⟩
  | 15 => ⟨S16384x128, .f32⟩
  | 16 => ⟨S16384x256, .f32⟩
  | 17 => ⟨S16384x384, .f32⟩
  | 18 => ⟨S1x384, .f32⟩
  | 19 => ⟨S16384x384, .f32⟩
  | 20 => ⟨S16384x384, .f32⟩
  | 21 => ⟨S16384x128, .f32⟩
  | 22 => ⟨S16384x128, .f32⟩
  | 23 => ⟨S16384x128, .f32⟩
  | 24 => ⟨S16384x128, .f32⟩
  | 25 => ⟨S16384x128, .f32⟩
  | 26 => ⟨S_, .f32⟩
  | 27 => ⟨S16384x128, .f32⟩
  | 28 => ⟨S16384x128, .f32⟩
  | 29 => ⟨S_, .f32⟩
  | 30 => ⟨S16384x128, .f32⟩
  | 31 => ⟨S16384x128, .f32⟩
  | 32 => ⟨S16384x128, .f32⟩
  | 33 => ⟨S16384x128, .f32⟩
  | 34 => ⟨S_, .f32⟩
  | 35 => ⟨S16384x128, .f32⟩
  | 36 => ⟨S16384x128, .f32⟩
  | 37 => ⟨S_, .f32⟩
  | 38 => ⟨S16384x128, .f32⟩
  | 39 => ⟨S16384x128, .f32⟩
  | 40 => ⟨S16384x128, .f32⟩
  | 41 => ⟨S16384x256, .f32⟩
  | 42 => ⟨S1x256, .f32⟩
  | 43 => ⟨S16384x256, .f32⟩
  | 44 => ⟨S16384x256, .f32⟩
  | 45 => ⟨S16384x256, .f32⟩
  | 46 => ⟨S16384x256, .f32⟩
  | 47 => ⟨S_, .f32⟩
  | 48 => ⟨S16384x256, .f32⟩
  | 49 => ⟨S16384x256, .f32⟩
  | 50 => ⟨S_, .f32⟩
  | 51 => ⟨S16384x256, .f32⟩
  | 52 => ⟨S16384x256, .f32⟩
  | 53 => ⟨S16384x128, .f32⟩
  | 54 => ⟨S16384x128, .f32⟩
  | 55 => ⟨S16384x128, .f32⟩
  | 56 => ⟨S16384x128, .f32⟩
  | 57 => ⟨S16384x128, .f32⟩
  | 58 => ⟨S16384x128, .f32⟩
  | 59 => ⟨S16384x128, .f32⟩
  | 60 => ⟨S16384x128, .f32⟩
  | 61 => ⟨S16384x128, .f32⟩
  | 62 => ⟨S8192x128, .f32⟩
  | 63 => ⟨S8192x128, .f32⟩
  | 64 => ⟨S8192x128, .f32⟩
  | 65 => ⟨S8192x128, .f32⟩
  | 66 => ⟨S8192x256, .f32⟩
  | 67 => ⟨S8192x384, .f32⟩
  | 68 => ⟨S1x384, .f32⟩
  | 69 => ⟨S8192x384, .f32⟩
  | 70 => ⟨S8192x384, .f32⟩
  | 71 => ⟨S8192x128, .f32⟩
  | 72 => ⟨S8192x128, .f32⟩
  | 73 => ⟨S8192x128, .f32⟩
  | 74 => ⟨S8192x128, .f32⟩
  | 75 => ⟨S8192x128, .f32⟩
  | 76 => ⟨S_, .f32⟩
  | 77 => ⟨S8192x128, .f32⟩
  | 78 => ⟨S8192x128, .f32⟩
  | 79 => ⟨S_, .f32⟩
  | 80 => ⟨S8192x128, .f32⟩
  | 81 => ⟨S8192x128, .f32⟩
  | 82 => ⟨S8192x128, .f32⟩
  | 83 => ⟨S8192x128, .f32⟩
  | 84 => ⟨S_, .f32⟩
  | 85 => ⟨S8192x128, .f32⟩
  | 86 => ⟨S8192x128, .f32⟩
  | 87 => ⟨S_, .f32⟩
  | 88 => ⟨S8192x128, .f32⟩
  | 89 => ⟨S8192x128, .f32⟩
  | 90 => ⟨S8192x128, .f32⟩
  | 91 => ⟨S8192x256, .f32⟩
  | 92 => ⟨S1x256, .f32⟩
  | 93 => ⟨S8192x256, .f32⟩
  | 94 => ⟨S8192x256, .f32⟩
  | 95 => ⟨S8192x256, .f32⟩
  | 96 => ⟨S8192x256, .f32⟩
  | 97 => ⟨S_, .f32⟩
  | 98 => ⟨S8192x256, .f32⟩
  | 99 => ⟨S8192x256, .f32⟩
  | 100 => ⟨S_, .f32⟩
  | 101 => ⟨S8192x256, .f32⟩
  | 102 => ⟨S8192x256, .f32⟩
  | 103 => ⟨S8192x128, .f32⟩
  | 104 => ⟨S8192x128, .f32⟩
  | 105 => ⟨S8192x128, .f32⟩
  | 106 => ⟨S8192x128, .f32⟩
  | 107 => ⟨S8192x128, .f32⟩
  | 108 => ⟨S8192x128, .f32⟩
  | 109 => ⟨S8192x128, .f32⟩
  | 110 => ⟨S8192x128, .f32⟩
  | 111 => ⟨S8192x128, .f32⟩
  | 112 => ⟨S4096x128, .f32⟩
  | 113 => ⟨S4096x128, .f32⟩
  | 114 => ⟨S4096x128, .f32⟩
  | 115 => ⟨S4096x128, .f32⟩
  | 116 => ⟨S4096x256, .f32⟩
  | 117 => ⟨S4096x384, .f32⟩
  | 118 => ⟨S1x384, .f32⟩
  | 119 => ⟨S4096x384, .f32⟩
  | 120 => ⟨S4096x384, .f32⟩
  | 121 => ⟨S4096x128, .f32⟩
  | 122 => ⟨S4096x128, .f32⟩
  | 123 => ⟨S4096x128, .f32⟩
  | 124 => ⟨S4096x128, .f32⟩
  | 125 => ⟨S4096x128, .f32⟩
  | 126 => ⟨S_, .f32⟩
  | 127 => ⟨S4096x128, .f32⟩
  | _ => ⟨S49152x128, .f32⟩

abbrev hbmTy0_1 (i : Nat) : BufTy := match i % 128 with
  | 0 => ⟨S4096x128, .f32⟩
  | 1 => ⟨S_, .f32⟩
  | 2 => ⟨S4096x128, .f32⟩
  | 3 => ⟨S4096x128, .f32⟩
  | 4 => ⟨S4096x128, .f32⟩
  | 5 => ⟨S4096x128, .f32⟩
  | 6 => ⟨S_, .f32⟩
  | 7 => ⟨S4096x128, .f32⟩
  | 8 => ⟨S4096x128, .f32⟩
  | 9 => ⟨S_, .f32⟩
  | 10 => ⟨S4096x128, .f32⟩
  | 11 => ⟨S4096x128, .f32⟩
  | 12 => ⟨S4096x128, .f32⟩
  | 13 => ⟨S4096x256, .f32⟩
  | 14 => ⟨S1x256, .f32⟩
  | 15 => ⟨S4096x256, .f32⟩
  | 16 => ⟨S4096x256, .f32⟩
  | 17 => ⟨S4096x256, .f32⟩
  | 18 => ⟨S4096x256, .f32⟩
  | 19 => ⟨S_, .f32⟩
  | 20 => ⟨S4096x256, .f32⟩
  | 21 => ⟨S4096x256, .f32⟩
  | 22 => ⟨S_, .f32⟩
  | 23 => ⟨S4096x256, .f32⟩
  | 24 => ⟨S4096x256, .f32⟩
  | 25 => ⟨S4096x128, .f32⟩
  | 26 => ⟨S4096x128, .f32⟩
  | 27 => ⟨S4096x128, .f32⟩
  | 28 => ⟨S4096x128, .f32⟩
  | 29 => ⟨S4096x128, .f32⟩
  | 30 => ⟨S4096x128, .f32⟩
  | 31 => ⟨S4096x128, .f32⟩
  | 32 => ⟨S4096x128, .f32⟩
  | 33 => ⟨S4096x128, .f32⟩
  | 34 => ⟨S2048x128, .f32⟩
  | 35 => ⟨S2048x128, .f32⟩
  | 36 => ⟨S2048x128, .f32⟩
  | 37 => ⟨S2048x128, .f32⟩
  | 38 => ⟨S2048x256, .f32⟩
  | 39 => ⟨S2048x384, .f32⟩
  | 40 => ⟨S1x384, .f32⟩
  | 41 => ⟨S2048x384, .f32⟩
  | 42 => ⟨S2048x384, .f32⟩
  | 43 => ⟨S2048x128, .f32⟩
  | 44 => ⟨S2048x128, .f32⟩
  | 45 => ⟨S2048x128, .f32⟩
  | 46 => ⟨S2048x128, .f32⟩
  | 47 => ⟨S2048x128, .f32⟩
  | 48 => ⟨S_, .f32⟩
  | 49 => ⟨S2048x128, .f32⟩
  | 50 => ⟨S2048x128, .f32⟩
  | 51 => ⟨S_, .f32⟩
  | 52 => ⟨S2048x128, .f32⟩
  | 53 => ⟨S2048x128, .f32⟩
  | 54 => ⟨S2048x128, .f32⟩
  | 55 => ⟨S2048x128, .f32⟩
  | 56 => ⟨S_, .f32⟩
  | 57 => ⟨S2048x128, .f32⟩
  | 58 => ⟨S2048x128, .f32⟩
  | 59 => ⟨S_, .f32⟩
  | 60 => ⟨S2048x128, .f32⟩
  | 61 => ⟨S2048x128, .f32⟩
  | 62 => ⟨S2048x128, .f32⟩
  | 63 => ⟨S2048x256, .f32⟩
  | 64 => ⟨S1x256, .f32⟩
  | 65 => ⟨S2048x256, .f32⟩
  | 66 => ⟨S2048x256, .f32⟩
  | 67 => ⟨S2048x256, .f32⟩
  | 68 => ⟨S2048x256, .f32⟩
  | 69 => ⟨S_, .f32⟩
  | 70 => ⟨S2048x256, .f32⟩
  | 71 => ⟨S2048x256, .f32⟩
  | 72 => ⟨S_, .f32⟩
  | 73 => ⟨S2048x256, .f32⟩
  | 74 => ⟨S2048x256, .f32⟩
  | 75 => ⟨S2048x128, .f32⟩
  | 76 => ⟨S2048x128, .f32⟩
  | 77 => ⟨S2048x128, .f32⟩
  | 78 => ⟨S2048x128, .f32⟩
  | 79 => ⟨S2048x128, .f32⟩
  | 80 => ⟨S2048x128, .f32⟩
  | 81 => ⟨S2048x128, .f32⟩
  | 82 => ⟨S2048x128, .f32⟩
  | 83 => ⟨S2048x128, .f32⟩
  | 84 => ⟨S1024x128, .f32⟩
  | 85 => ⟨S1024x128, .f32⟩
  | 86 => ⟨S1024x128, .f32⟩
  | 87 => ⟨S1024x128, .f32⟩
  | 88 => ⟨S1024x256, .f32⟩
  | 89 => ⟨S1024x384, .f32⟩
  | 90 => ⟨S1x384, .f32⟩
  | 91 => ⟨S1024x384, .f32⟩
  | 92 => ⟨S1024x384, .f32⟩
  | 93 => ⟨S1024x128, .f32⟩
  | 94 => ⟨S1024x128, .f32⟩
  | 95 => ⟨S1024x128, .f32⟩
  | 96 => ⟨S1024x128, .f32⟩
  | 97 => ⟨S1024x128, .f32⟩
  | 98 => ⟨S_, .f32⟩
  | 99 => ⟨S1024x128, .f32⟩
  | 100 => ⟨S1024x128, .f32⟩
  | 101 => ⟨S_, .f32⟩
  | 102 => ⟨S1024x128, .f32⟩
  | 103 => ⟨S1024x128, .f32⟩
  | 104 => ⟨S1024x128, .f32⟩
  | 105 => ⟨S1024x128, .f32⟩
  | 106 => ⟨S_, .f32⟩
  | 107 => ⟨S1024x128, .f32⟩
  | 108 => ⟨S1024x128, .f32⟩
  | 109 => ⟨S_, .f32⟩
  | 110 => ⟨S1024x128, .f32⟩
  | 111 => ⟨S1024x128, .f32⟩
  | 112 => ⟨S1024x128, .f32⟩
  | 113 => ⟨S1024x256, .f32⟩
  | 114 => ⟨S1x256, .f32⟩
  | 115 => ⟨S1024x256, .f32⟩
  | 116 => ⟨S1024x256, .f32⟩
  | 117 => ⟨S1024x256, .f32⟩
  | 118 => ⟨S1024x256, .f32⟩
  | 119 => ⟨S_, .f32⟩
  | 120 => ⟨S1024x256, .f32⟩
  | 121 => ⟨S1024x256, .f32⟩
  | 122 => ⟨S_, .f32⟩
  | 123 => ⟨S1024x256, .f32⟩
  | 124 => ⟨S1024x256, .f32⟩
  | 125 => ⟨S1024x128, .f32⟩
  | 126 => ⟨S1024x128, .f32⟩
  | 127 => ⟨S1024x128, .f32⟩
  | _ => ⟨S49152x128, .f32⟩

abbrev hbmTy0_2 (i : Nat) : BufTy := match i % 128 with
  | 0 => ⟨S1024x128, .f32⟩
  | 1 => ⟨S1024x128, .f32⟩
  | 2 => ⟨S1024x128, .f32⟩
  | 3 => ⟨S1024x128, .f32⟩
  | 4 => ⟨S1024x128, .f32⟩
  | 5 => ⟨S1024x128, .f32⟩
  | 6 => ⟨S512x128, .f32⟩
  | 7 => ⟨S512x128, .f32⟩
  | 8 => ⟨S512x128, .f32⟩
  | 9 => ⟨S512x128, .f32⟩
  | 10 => ⟨S512x256, .f32⟩
  | 11 => ⟨S512x384, .f32⟩
  | 12 => ⟨S1x384, .f32⟩
  | 13 => ⟨S512x384, .f32⟩
  | 14 => ⟨S512x384, .f32⟩
  | 15 => ⟨S512x128, .f32⟩
  | 16 => ⟨S512x128, .f32⟩
  | 17 => ⟨S512x128, .f32⟩
  | 18 => ⟨S512x128, .f32⟩
  | 19 => ⟨S512x128, .f32⟩
  | 20 => ⟨S_, .f32⟩
  | 21 => ⟨S512x128, .f32⟩
  | 22 => ⟨S512x128, .f32⟩
  | 23 => ⟨S_, .f32⟩
  | 24 => ⟨S512x128, .f32⟩
  | 25 => ⟨S512x128, .f32⟩
  | 26 => ⟨S512x128, .f32⟩
  | 27 => ⟨S512x128, .f32⟩
  | 28 => ⟨S_, .f32⟩
  | 29 => ⟨S512x128, .f32⟩
  | 30 => ⟨S512x128, .f32⟩
  | 31 => ⟨S_, .f32⟩
  | 32 => ⟨S512x128, .f32⟩
  | 33 => ⟨S512x128, .f32⟩
  | 34 => ⟨S512x128, .f32⟩
  | 35 => ⟨S512x256, .f32⟩
  | 36 => ⟨S1x256, .f32⟩
  | 37 => ⟨S512x256, .f32⟩
  | 38 => ⟨S512x256, .f32⟩
  | 39 => ⟨S512x256, .f32⟩
  | 40 => ⟨S512x256, .f32⟩
  | 41 => ⟨S_, .f32⟩
  | 42 => ⟨S512x256, .f32⟩
  | 43 => ⟨S512x256, .f32⟩
  | 44 => ⟨S_, .f32⟩
  | 45 => ⟨S512x256, .f32⟩
  | 46 => ⟨S512x256, .f32⟩
  | 47 => ⟨S512x128, .f32⟩
  | 48 => ⟨S512x128, .f32⟩
  | 49 => ⟨S512x128, .f32⟩
  | 50 => ⟨S512x128, .f32⟩
  | 51 => ⟨S512x128, .f32⟩
  | 52 => ⟨S512x128, .f32⟩
  | 53 => ⟨S512x128, .f32⟩
  | 54 => ⟨S512x128, .f32⟩
  | 55 => ⟨S512x128, .f32⟩
  | 56 => ⟨S256x128, .f32⟩
  | 57 => ⟨S256x128, .f32⟩
  | 58 => ⟨S256x128, .f32⟩
  | 59 => ⟨S256x128, .f32⟩
  | 60 => ⟨S256x256, .f32⟩
  | 61 => ⟨S256x384, .f32⟩
  | 62 => ⟨S1x384, .f32⟩
  | 63 => ⟨S256x384, .f32⟩
  | 64 => ⟨S256x384, .f32⟩
  | 65 => ⟨S256x128, .f32⟩
  | 66 => ⟨S256x128, .f32⟩
  | 67 => ⟨S256x128, .f32⟩
  | 68 => ⟨S256x128, .f32⟩
  | 69 => ⟨S256x128, .f32⟩
  | 70 => ⟨S_, .f32⟩
  | 71 => ⟨S256x128, .f32⟩
  | 72 => ⟨S256x128, .f32⟩
  | 73 => ⟨S_, .f32⟩
  | 74 => ⟨S256x128, .f32⟩
  | 75 => ⟨S256x128, .f32⟩
  | 76 => ⟨S256x128, .f32⟩
  | 77 => ⟨S256x128, .f32⟩
  | 78 => ⟨S_, .f32⟩
  | 79 => ⟨S256x128, .f32⟩
  | 80 => ⟨S256x128, .f32⟩
  | 81 => ⟨S_, .f32⟩
  | 82 => ⟨S256x128, .f32⟩
  | 83 => ⟨S256x128, .f32⟩
  | 84 => ⟨S256x128, .f32⟩
  | 85 => ⟨S256x256, .f32⟩
  | 86 => ⟨S1x256, .f32⟩
  | 87 => ⟨S256x256, .f32⟩
  | 88 => ⟨S256x256, .f32⟩
  | 89 => ⟨S256x256, .f32⟩
  | 90 => ⟨S256x256, .f32⟩
  | 91 => ⟨S_, .f32⟩
  | 92 => ⟨S256x256, .f32⟩
  | 93 => ⟨S256x256, .f32⟩
  | 94 => ⟨S_, .f32⟩
  | 95 => ⟨S256x256, .f32⟩
  | 96 => ⟨S256x256, .f32⟩
  | 97 => ⟨S256x128, .f32⟩
  | 98 => ⟨S256x128, .f32⟩
  | 99 => ⟨S256x128, .f32⟩
  | 100 => ⟨S256x128, .f32⟩
  | 101 => ⟨S256x128, .f32⟩
  | 102 => ⟨S256x128, .f32⟩
  | 103 => ⟨S256x128, .f32⟩
  | 104 => ⟨S256x128, .f32⟩
  | 105 => ⟨S256x128, .f32⟩
  | 106 => ⟨S128x128, .f32⟩
  | 107 => ⟨S128x128, .f32⟩
  | 108 => ⟨S128x128, .f32⟩
  | 109 => ⟨S128x128, .f32⟩
  | 110 => ⟨S128x256, .f32⟩
  | 111 => ⟨S128x384, .f32⟩
  | 112 => ⟨S1x384, .f32⟩
  | 113 => ⟨S128x384, .f32⟩
  | 114 => ⟨S128x384, .f32⟩
  | 115 => ⟨S128x128, .f32⟩
  | 116 => ⟨S128x128, .f32⟩
  | 117 => ⟨S128x128, .f32⟩
  | 118 => ⟨S128x128, .f32⟩
  | 119 => ⟨S128x128, .f32⟩
  | 120 => ⟨S_, .f32⟩
  | 121 => ⟨S128x128, .f32⟩
  | 122 => ⟨S128x128, .f32⟩
  | 123 => ⟨S_, .f32⟩
  | 124 => ⟨S128x128, .f32⟩
  | 125 => ⟨S128x128, .f32⟩
  | 126 => ⟨S128x128, .f32⟩
  | 127 => ⟨S128x128, .f32⟩
  | _ => ⟨S49152x128, .f32⟩

abbrev hbmTy0_3 (i : Nat) : BufTy := match i % 128 with
  | 0 => ⟨S_, .f32⟩
  | 1 => ⟨S128x128, .f32⟩
  | 2 => ⟨S128x128, .f32⟩
  | 3 => ⟨S_, .f32⟩
  | 4 => ⟨S128x128, .f32⟩
  | 5 => ⟨S128x128, .f32⟩
  | 6 => ⟨S128x128, .f32⟩
  | 7 => ⟨S128x256, .f32⟩
  | 8 => ⟨S1x256, .f32⟩
  | 9 => ⟨S128x256, .f32⟩
  | 10 => ⟨S128x256, .f32⟩
  | 11 => ⟨S128x256, .f32⟩
  | 12 => ⟨S128x256, .f32⟩
  | 13 => ⟨S_, .f32⟩
  | 14 => ⟨S128x256, .f32⟩
  | 15 => ⟨S128x256, .f32⟩
  | 16 => ⟨S_, .f32⟩
  | 17 => ⟨S128x256, .f32⟩
  | 18 => ⟨S128x256, .f32⟩
  | 19 => ⟨S128x128, .f32⟩
  | 20 => ⟨S128x128, .f32⟩
  | 21 => ⟨S128x128, .f32⟩
  | 22 => ⟨S128x128, .f32⟩
  | 23 => ⟨S128x128, .f32⟩
  | 24 => ⟨S128x128, .f32⟩
  | 25 => ⟨S128x128, .f32⟩
  | 26 => ⟨S128x128, .f32⟩
  | 27 => ⟨S128x128, .f32⟩
  | 28 => ⟨S64x128, .f32⟩
  | 29 => ⟨S64x128, .f32⟩
  | 30 => ⟨S64x128, .f32⟩
  | 31 => ⟨S64x128, .f32⟩
  | 32 => ⟨S64x256, .f32⟩
  | 33 => ⟨S64x384, .f32⟩
  | 34 => ⟨S1x384, .f32⟩
  | 35 => ⟨S64x384, .f32⟩
  | 36 => ⟨S64x384, .f32⟩
  | 37 => ⟨S64x128, .f32⟩
  | 38 => ⟨S64x128, .f32⟩
  | 39 => ⟨S64x128, .f32⟩
  | 40 => ⟨S64x128, .f32⟩
  | 41 => ⟨S64x128, .f32⟩
  | 42 => ⟨S_, .f32⟩
  | 43 => ⟨S64x128, .f32⟩
  | 44 => ⟨S64x128, .f32⟩
  | 45 => ⟨S_, .f32⟩
  | 46 => ⟨S64x128, .f32⟩
  | 47 => ⟨S64x128, .f32⟩
  | 48 => ⟨S64x128, .f32⟩
  | 49 => ⟨S64x128, .f32⟩
  | 50 => ⟨S_, .f32⟩
  | 51 => ⟨S64x128, .f32⟩
  | 52 => ⟨S64x128, .f32⟩
  | 53 => ⟨S_, .f32⟩
  | 54 => ⟨S64x128, .f32⟩
  | 55 => ⟨S64x128, .f32⟩
  | 56 => ⟨S64x128, .f32⟩
  | 57 => ⟨S64x256, .f32⟩
  | 58 => ⟨S1x256, .f32⟩
  | 59 => ⟨S64x256, .f32⟩
  | 60 => ⟨S64x256, .f32⟩
  | 61 => ⟨S64x256, .f32⟩
  | 62 => ⟨S64x256, .f32⟩
  | 63 => ⟨S_, .f32⟩
  | 64 => ⟨S64x256, .f32⟩
  | 65 => ⟨S64x256, .f32⟩
  | 66 => ⟨S_, .f32⟩
  | 67 => ⟨S64x256, .f32⟩
  | 68 => ⟨S64x256, .f32⟩
  | 69 => ⟨S64x128, .f32⟩
  | 70 => ⟨S64x128, .f32⟩
  | 71 => ⟨S64x128, .f32⟩
  | 72 => ⟨S64x128, .f32⟩
  | 73 => ⟨S64x128, .f32⟩
  | 74 => ⟨S64x128, .f32⟩
  | 75 => ⟨S64x128, .f32⟩
  | 76 => ⟨S64x128, .f32⟩
  | 77 => ⟨S64x128, .f32⟩
  | 78 => ⟨S32x128, .f32⟩
  | 79 => ⟨S32x128, .f32⟩
  | 80 => ⟨S32x128, .f32⟩
  | 81 => ⟨S32x128, .f32⟩
  | 82 => ⟨S32x256, .f32⟩
  | 83 => ⟨S32x384, .f32⟩
  | 84 => ⟨S1x384, .f32⟩
  | 85 => ⟨S32x384, .f32⟩
  | 86 => ⟨S32x384, .f32⟩
  | 87 => ⟨S32x128, .f32⟩
  | 88 => ⟨S32x128, .f32⟩
  | 89 => ⟨S32x128, .f32⟩
  | 90 => ⟨S32x128, .f32⟩
  | 91 => ⟨S32x128, .f32⟩
  | 92 => ⟨S_, .f32⟩
  | 93 => ⟨S32x128, .f32⟩
  | 94 => ⟨S32x128, .f32⟩
  | 95 => ⟨S_, .f32⟩
  | 96 => ⟨S32x128, .f32⟩
  | 97 => ⟨S32x128, .f32⟩
  | 98 => ⟨S32x128, .f32⟩
  | 99 => ⟨S32x128, .f32⟩
  | 100 => ⟨S_, .f32⟩
  | 101 => ⟨S32x128, .f32⟩
  | 102 => ⟨S32x128, .f32⟩
  | 103 => ⟨S_, .f32⟩
  | 104 => ⟨S32x128, .f32⟩
  | 105 => ⟨S32x128, .f32⟩
  | 106 => ⟨S32x128, .f32⟩
  | 107 => ⟨S32x256, .f32⟩
  | 108 => ⟨S1x256, .f32⟩
  | 109 => ⟨S32x256, .f32⟩
  | 110 => ⟨S32x256, .f32⟩
  | 111 => ⟨S32x256, .f32⟩
  | 112 => ⟨S32x256, .f32⟩
  | 113 => ⟨S_, .f32⟩
  | 114 => ⟨S32x256, .f32⟩
  | 115 => ⟨S32x256, .f32⟩
  | 116 => ⟨S_, .f32⟩
  | 117 => ⟨S32x256, .f32⟩
  | 118 => ⟨S32x256, .f32⟩
  | 119 => ⟨S32x128, .f32⟩
  | 120 => ⟨S32x128, .f32⟩
  | 121 => ⟨S32x128, .f32⟩
  | 122 => ⟨S32x128, .f32⟩
  | 123 => ⟨S32x128, .f32⟩
  | 124 => ⟨S32x128, .f32⟩
  | 125 => ⟨S32x128, .f32⟩
  | 126 => ⟨S32x128, .f32⟩
  | 127 => ⟨S32x128, .f32⟩
  | _ => ⟨S49152x128, .f32⟩

abbrev hbmTy0_4 (i : Nat) : BufTy := match i % 128 with
  | 0 => ⟨S16x128, .f32⟩
  | 1 => ⟨S16x128, .f32⟩
  | 2 => ⟨S16x128, .f32⟩
  | 3 => ⟨S16x128, .f32⟩
  | 4 => ⟨S16x256, .f32⟩
  | 5 => ⟨S16x384, .f32⟩
  | 6 => ⟨S1x384, .f32⟩
  | 7 => ⟨S16x384, .f32⟩
  | 8 => ⟨S16x384, .f32⟩
  | 9 => ⟨S16x128, .f32⟩
  | 10 => ⟨S16x128, .f32⟩
  | 11 => ⟨S16x128, .f32⟩
  | 12 => ⟨S16x128, .f32⟩
  | 13 => ⟨S16x128, .f32⟩
  | 14 => ⟨S_, .f32⟩
  | 15 => ⟨S16x128, .f32⟩
  | 16 => ⟨S16x128, .f32⟩
  | 17 => ⟨S_, .f32⟩
  | 18 => ⟨S16x128, .f32⟩
  | 19 => ⟨S16x128, .f32⟩
  | 20 => ⟨S16x128, .f32⟩
  | 21 => ⟨S16x128, .f32⟩
  | 22 => ⟨S_, .f32⟩
  | 23 => ⟨S16x128, .f32⟩
  | 24 => ⟨S16x128, .f32⟩
  | 25 => ⟨S_, .f32⟩
  | 26 => ⟨S16x128, .f32⟩
  | 27 => ⟨S16x128, .f32⟩
  | 28 => ⟨S16x128, .f32⟩
  | 29 => ⟨S16x256, .f32⟩
  | 30 => ⟨S1x256, .f32⟩
  | 31 => ⟨S16x256, .f32⟩
  | 32 => ⟨S16x256, .f32⟩
  | 33 => ⟨S16x256, .f32⟩
  | 34 => ⟨S16x256, .f32⟩
  | 35 => ⟨S_, .f32⟩
  | 36 => ⟨S16x256, .f32⟩
  | 37 => ⟨S16x256, .f32⟩
  | 38 => ⟨S_, .f32⟩
  | 39 => ⟨S16x256, .f32⟩
  | 40 => ⟨S16x256, .f32⟩
  | 41 => ⟨S16x128, .f32⟩
  | 42 => ⟨S16x128, .f32⟩
  | 43 => ⟨S16x128, .f32⟩
  | 44 => ⟨S16x128, .f32⟩
  | 45 => ⟨S16x128, .f32⟩
  | 46 => ⟨S16x128, .f32⟩
  | 47 => ⟨S16x128, .f32⟩
  | 48 => ⟨S16x128, .f32⟩
  | 49 => ⟨S16x128, .f32⟩
  | 50 => ⟨S8x128, .f32⟩
  | 51 => ⟨S8x128, .f32⟩
  | 52 => ⟨S8x128, .f32⟩
  | 53 => ⟨S8x128, .f32⟩
  | 54 => ⟨S8x256, .f32⟩
  | 55 => ⟨S8x384, .f32⟩
  | 56 => ⟨S1x384, .f32⟩
  | 57 => ⟨S8x384, .f32⟩
  | 58 => ⟨S8x384, .f32⟩
  | 59 => ⟨S8x128, .f32⟩
  | 60 => ⟨S8x128, .f32⟩
  | 61 => ⟨S8x128, .f32⟩
  | 62 => ⟨S8x128, .f32⟩
  | 63 => ⟨S8x128, .f32⟩
  | 64 => ⟨S_, .f32⟩
  | 65 => ⟨S8x128, .f32⟩
  | 66 => ⟨S8x128, .f32⟩
  | 67 => ⟨S_, .f32⟩
  | 68 => ⟨S8x128, .f32⟩
  | 69 => ⟨S8x128, .f32⟩
  | 70 => ⟨S8x128, .f32⟩
  | 71 => ⟨S8x128, .f32⟩
  | 72 => ⟨S_, .f32⟩
  | 73 => ⟨S8x128, .f32⟩
  | 74 => ⟨S8x128, .f32⟩
  | 75 => ⟨S_, .f32⟩
  | 76 => ⟨S8x128, .f32⟩
  | 77 => ⟨S8x128, .f32⟩
  | 78 => ⟨S8x128, .f32⟩
  | 79 => ⟨S8x256, .f32⟩
  | 80 => ⟨S1x256, .f32⟩
  | 81 => ⟨S8x256, .f32⟩
  | 82 => ⟨S8x256, .f32⟩
  | 83 => ⟨S8x256, .f32⟩
  | 84 => ⟨S8x256, .f32⟩
  | 85 => ⟨S_, .f32⟩
  | 86 => ⟨S8x256, .f32⟩
  | 87 => ⟨S8x256, .f32⟩
  | 88 => ⟨S_, .f32⟩
  | 89 => ⟨S8x256, .f32⟩
  | 90 => ⟨S8x256, .f32⟩
  | 91 => ⟨S8x128, .f32⟩
  | 92 => ⟨S8x128, .f32⟩
  | 93 => ⟨S8x128, .f32⟩
  | 94 => ⟨S8x128, .f32⟩
  | 95 => ⟨S8x128, .f32⟩
  | 96 => ⟨S8x128, .f32⟩
  | 97 => ⟨S8x128, .f32⟩
  | 98 => ⟨S8x128, .f32⟩
  | 99 => ⟨S8x128, .f32⟩
  | 100 => ⟨S4x128, .f32⟩
  | 101 => ⟨S4x128, .f32⟩
  | 102 => ⟨S4x128, .f32⟩
  | 103 => ⟨S4x128, .f32⟩
  | 104 => ⟨S4x256, .f32⟩
  | 105 => ⟨S4x384, .f32⟩
  | 106 => ⟨S1x384, .f32⟩
  | 107 => ⟨S4x384, .f32⟩
  | 108 => ⟨S4x384, .f32⟩
  | 109 => ⟨S4x128, .f32⟩
  | 110 => ⟨S4x128, .f32⟩
  | 111 => ⟨S4x128, .f32⟩
  | 112 => ⟨S4x128, .f32⟩
  | 113 => ⟨S4x128, .f32⟩
  | 114 => ⟨S_, .f32⟩
  | 115 => ⟨S4x128, .f32⟩
  | 116 => ⟨S4x128, .f32⟩
  | 117 => ⟨S_, .f32⟩
  | 118 => ⟨S4x128, .f32⟩
  | 119 => ⟨S4x128, .f32⟩
  | 120 => ⟨S4x128, .f32⟩
  | 121 => ⟨S4x128, .f32⟩
  | 122 => ⟨S_, .f32⟩
  | 123 => ⟨S4x128, .f32⟩
  | 124 => ⟨S4x128, .f32⟩
  | 125 => ⟨S_, .f32⟩
  | 126 => ⟨S4x128, .f32⟩
  | 127 => ⟨S4x128, .f32⟩
  | _ => ⟨S49152x128, .f32⟩

abbrev hbmTy0_5 (i : Nat) : BufTy := match i % 128 with
  | 0 => ⟨S4x128, .f32⟩
  | 1 => ⟨S4x256, .f32⟩
  | 2 => ⟨S1x256, .f32⟩
  | 3 => ⟨S4x256, .f32⟩
  | 4 => ⟨S4x256, .f32⟩
  | 5 => ⟨S4x256, .f32⟩
  | 6 => ⟨S4x256, .f32⟩
  | 7 => ⟨S_, .f32⟩
  | 8 => ⟨S4x256, .f32⟩
  | 9 => ⟨S4x256, .f32⟩
  | 10 => ⟨S_, .f32⟩
  | 11 => ⟨S4x256, .f32⟩
  | 12 => ⟨S4x256, .f32⟩
  | 13 => ⟨S4x128, .f32⟩
  | 14 => ⟨S4x128, .f32⟩
  | 15 => ⟨S4x128, .f32⟩
  | 16 => ⟨S4x128, .f32⟩
  | 17 => ⟨S4x128, .f32⟩
  | 18 => ⟨S4x128, .f32⟩
  | 19 => ⟨S4x128, .f32⟩
  | 20 => ⟨S4x128, .f32⟩
  | 21 => ⟨S4x128, .f32⟩
  | 22 => ⟨S2x128, .f32⟩
  | 23 => ⟨S2x128, .f32⟩
  | 24 => ⟨S2x128, .f32⟩
  | 25 => ⟨S2x128, .f32⟩
  | 26 => ⟨S2x256, .f32⟩
  | 27 => ⟨S2x384, .f32⟩
  | 28 => ⟨S1x384, .f32⟩
  | 29 => ⟨S2x384, .f32⟩
  | 30 => ⟨S2x384, .f32⟩
  | 31 => ⟨S2x128, .f32⟩
  | 32 => ⟨S2x128, .f32⟩
  | 33 => ⟨S2x128, .f32⟩
  | 34 => ⟨S2x128, .f32⟩
  | 35 => ⟨S2x128, .f32⟩
  | 36 => ⟨S_, .f32⟩
  | 37 => ⟨S2x128, .f32⟩
  | 38 => ⟨S2x128, .f32⟩
  | 39 => ⟨S_, .f32⟩
  | 40 => ⟨S2x128, .f32⟩
  | 41 => ⟨S2x128, .f32⟩
  | 42 => ⟨S2x128, .f32⟩
  | 43 => ⟨S2x128, .f32⟩
  | 44 => ⟨S_, .f32⟩
  | 45 => ⟨S2x128, .f32⟩
  | 46 => ⟨S2x128, .f32⟩
  | 47 => ⟨S_, .f32⟩
  | 48 => ⟨S2x128, .f32⟩
  | 49 => ⟨S2x128, .f32⟩
  | 50 => ⟨S2x128, .f32⟩
  | 51 => ⟨S2x256, .f32⟩
  | 52 => ⟨S1x256, .f32⟩
  | 53 => ⟨S2x256, .f32⟩
  | 54 => ⟨S2x256, .f32⟩
  | 55 => ⟨S2x256, .f32⟩
  | 56 => ⟨S2x256, .f32⟩
  | 57 => ⟨S_, .f32⟩
  | 58 => ⟨S2x256, .f32⟩
  | 59 => ⟨S2x256, .f32⟩
  | 60 => ⟨S_, .f32⟩
  | 61 => ⟨S2x256, .f32⟩
  | 62 => ⟨S2x256, .f32⟩
  | 63 => ⟨S2x128, .f32⟩
  | 64 => ⟨S2x128, .f32⟩
  | 65 => ⟨S2x128, .f32⟩
  | 66 => ⟨S2x128, .f32⟩
  | 67 => ⟨S2x128, .f32⟩
  | 68 => ⟨S2x128, .f32⟩
  | 69 => ⟨S2x128, .f32⟩
  | 70 => ⟨S2x128, .f32⟩
  | 71 => ⟨S2x128, .f32⟩
  | 72 => ⟨S1x128, .f32⟩
  | 73 => ⟨S1x128, .f32⟩
  | 74 => ⟨S1x128, .f32⟩
  | 75 => ⟨S1x128, .f32⟩
  | 76 => ⟨S1x256, .f32⟩
  | 77 => ⟨S1x384, .f32⟩
  | 78 => ⟨S1x384, .f32⟩
  | 79 => ⟨S1x384, .f32⟩
  | 80 => ⟨S1x128, .f32⟩
  | 81 => ⟨S1x128, .f32⟩
  | 82 => ⟨S1x128, .f32⟩
  | 83 => ⟨S1x128, .f32⟩
  | 84 => ⟨S1x128, .f32⟩
  | 85 => ⟨S_, .f32⟩
  | 86 => ⟨S1x128, .f32⟩
  | 87 => ⟨S1x128, .f32⟩
  | 88 => ⟨S_, .f32⟩
  | 89 => ⟨S1x128, .f32⟩
  | 90 => ⟨S1x128, .f32⟩
  | 91 => ⟨S1x128, .f32⟩
  | 92 => ⟨S1x128, .f32⟩
  | 93 => ⟨S_, .f32⟩
  | 94 => ⟨S1x128, .f32⟩
  | 95 => ⟨S1x128, .f32⟩
  | 96 => ⟨S_, .f32⟩
  | 97 => ⟨S1x128, .f32⟩
  | 98 => ⟨S1x128, .f32⟩
  | 99 => ⟨S1x128, .f32⟩
  | 100 => ⟨S1x256, .f32⟩
  | 101 => ⟨S1x256, .f32⟩
  | 102 => ⟨S1x256, .f32⟩
  | 103 => ⟨S1x256, .f32⟩
  | 104 => ⟨S1x256, .f32⟩
  | 105 => ⟨S_, .f32⟩
  | 106 => ⟨S1x256, .f32⟩
  | 107 => ⟨S1x256, .f32⟩
  | 108 => ⟨S_, .f32⟩
  | 109 => ⟨S1x256, .f32⟩
  | 110 => ⟨S1x256, .f32⟩
  | 111 => ⟨S1x128, .f32⟩
  | 112 => ⟨S1x128, .f32⟩
  | 113 => ⟨S1x128, .f32⟩
  | 114 => ⟨S1x128, .f32⟩
  | 115 => ⟨S1x128, .f32⟩
  | 116 => ⟨S1x128, .f32⟩
  | 117 => ⟨S1x128, .f32⟩
  | 118 => ⟨S1x128, .f32⟩
  | 119 => ⟨S1x128, .f32⟩
  | 120 => ⟨S16384x128, .f32⟩
  | 121 => ⟨S16384x128, .f32⟩
  | 122 => ⟨S8192x128, .f32⟩
  | 123 => ⟨S8192x128, .f32⟩
  | 124 => ⟨S8192x128, .f32⟩
  | 125 => ⟨S8192x128, .f32⟩
  | 126 => ⟨S8192x256, .f32⟩
  | 127 => ⟨S8192x384, .f32⟩
  | _ => ⟨S49152x128, .f32⟩

abbrev hbmTy0_6 (i : Nat) : BufTy := match i % 128 with
  | 0 => ⟨S1x384, .f32⟩
  | 1 => ⟨S8192x384, .f32⟩
  | 2 => ⟨S8192x384, .f32⟩
  | 3 => ⟨S8192x128, .f32⟩
  | 4 => ⟨S8192x128, .f32⟩
  | 5 => ⟨S8192x128, .f32⟩
  | 6 => ⟨S8192x128, .f32⟩
  | 7 => ⟨S8192x128, .f32⟩
  | 8 => ⟨S_, .f32⟩
  | 9 => ⟨S8192x128, .f32⟩
  | 10 => ⟨S8192x128, .f32⟩
  | 11 => ⟨S_, .f32⟩
  | 12 => ⟨S8192x128, .f32⟩
  | 13 => ⟨S8192x128, .f32⟩
  | 14 => ⟨S8192x128, .f32⟩
  | 15 => ⟨S8192x128, .f32⟩
  | 16 => ⟨S_, .f32⟩
  | 17 => ⟨S8192x128, .f32⟩
  | 18 => ⟨S8192x128, .f32⟩
  | 19 => ⟨S_, .f32⟩
  | 20 => ⟨S8192x128, .f32⟩
  | 21 => ⟨S8192x128, .f32⟩
  | 22 => ⟨S8192x128, .f32⟩
  | 23 => ⟨S8192x256, .f32⟩
  | 24 => ⟨S1x256, .f32⟩
  | 25 => ⟨S8192x256, .f32⟩
  | 26 => ⟨S8192x256, .f32⟩
  | 27 => ⟨S8192x256, .f32⟩
  | 28 => ⟨S8192x256, .f32⟩
  | 29 => ⟨S_, .f32⟩
  | 30 => ⟨S8192x256, .f32⟩
  | 31 => ⟨S8192x256, .f32⟩
  | 32 => ⟨S_, .f32⟩
  | 33 => ⟨S8192x256, .f32⟩
  | 34 => ⟨S8192x256, .f32⟩
  | 35 => ⟨S8192x128, .f32⟩
  | 36 => ⟨S8192x128, .f32⟩
  | 37 => ⟨S8192x128, .f32⟩
  | 38 => ⟨S8192x128, .f32⟩
  | 39 => ⟨S8192x128, .f32⟩
  | 40 => ⟨S8192x128, .f32⟩
  | 41 => ⟨S8192x128, .f32⟩
  | 42 => ⟨S8192x128, .f32⟩
  | 43 => ⟨S8192x128, .f32⟩
  | 44 => ⟨S4096x128, .f32⟩
  | 45 => ⟨S4096x128, .f32⟩
  | 46 => ⟨S4096x128, .f32⟩
  | 47 => ⟨S4096x128, .f32⟩
  | 48 => ⟨S4096x256, .f32⟩
  | 49 => ⟨S4096x384, .f32⟩
  | 50 => ⟨S1x384, .f32⟩
  | 51 => ⟨S4096x384, .f32⟩
  | 52 => ⟨S4096x384, .f32⟩
  | 53 => ⟨S4096x128, .f32⟩
  | 54 => ⟨S4096x128, .f32⟩
  | 55 => ⟨S4096x128, .f32⟩
  | 56 => ⟨S4096x128, .f32⟩
  | 57 => ⟨S4096x128, .f32⟩
  | 58 => ⟨S_, .f32⟩
  | 59 => ⟨S4096x128, .f32⟩
  | 60 => ⟨S4096x128, .f32⟩
  | 61 => ⟨S_, .f32⟩
  | 62 => ⟨S4096x128, .f32⟩
  | 63 => ⟨S4096x128, .f32⟩
  | 64 => ⟨S4096x128, .f32⟩
  | 65 => ⟨S4096x128, .f32⟩
  | 66 => ⟨S_, .f32⟩
  | 67 => ⟨S4096x128, .f32⟩
  | 68 => ⟨S4096x128, .f32⟩
  | 69 => ⟨S_, .f32⟩
  | 70 => ⟨S4096x128, .f32⟩
  | 71 => ⟨S4096x128, .f32⟩
  | 72 => ⟨S4096x128, .f32⟩
  | 73 => ⟨S4096x256, .f32⟩
  | 74 => ⟨S1x256, .f32⟩
  | 75 => ⟨S4096x256, .f32⟩
  | 76 => ⟨S4096x256, .f32⟩
  | 77 => ⟨S4096x256, .f32⟩
  | 78 => ⟨S4096x256, .f32⟩
  | 79 => ⟨S_, .f32⟩
  | 80 => ⟨S4096x256, .f32⟩
  | 81 => ⟨S4096x256, .f32⟩
  | 82 => ⟨S_, .f32⟩
  | 83 => ⟨S4096x256, .f32⟩
  | 84 => ⟨S4096x256, .f32⟩
  | 85 => ⟨S4096x128, .f32⟩
  | 86 => ⟨S4096x128, .f32⟩
  | 87 => ⟨S4096x128, .f32⟩
  | 88 => ⟨S4096x128, .f32⟩
  | 89 => ⟨S4096x128, .f32⟩
  | 90 => ⟨S4096x128, .f32⟩
  | 91 => ⟨S4096x128, .f32⟩
  | 92 => ⟨S4096x128, .f32⟩
  | 93 => ⟨S4096x128, .f32⟩
  | 94 => ⟨S2048x128, .f32⟩
  | 95 => ⟨S2048x128, .f32⟩
  | 96 => ⟨S2048x128, .f32⟩
  | 97 => ⟨S2048x128, .f32⟩
  | 98 => ⟨S2048x256, .f32⟩
  | 99 => ⟨S2048x384, .f32⟩
  | 100 => ⟨S1x384, .f32⟩
  | 101 => ⟨S2048x384, .f32⟩
  | 102 => ⟨S2048x384, .f32⟩
  | 103 => ⟨S2048x128, .f32⟩
  | 104 => ⟨S2048x128, .f32⟩
  | 105 => ⟨S2048x128, .f32⟩
  | 106 => ⟨S2048x128, .f32⟩
  | 107 => ⟨S2048x128, .f32⟩
  | 108 => ⟨S_, .f32⟩
  | 109 => ⟨S2048x128, .f32⟩
  | 110 => ⟨S2048x128, .f32⟩
  | 111 => ⟨S_, .f32⟩
  | 112 => ⟨S2048x128, .f32⟩
  | 113 => ⟨S2048x128, .f32⟩
  | 114 => ⟨S2048x128, .f32⟩
  | 115 => ⟨S2048x128, .f32⟩
  | 116 => ⟨S_, .f32⟩
  | 117 => ⟨S2048x128, .f32⟩
  | 118 => ⟨S2048x128, .f32⟩
  | 119 => ⟨S_, .f32⟩
  | 120 => ⟨S2048x128, .f32⟩
  | 121 => ⟨S2048x128, .f32⟩
  | 122 => ⟨S2048x128, .f32⟩
  | 123 => ⟨S2048x256, .f32⟩
  | 124 => ⟨S1x256, .f32⟩
  | 125 => ⟨S2048x256, .f32⟩
  | 126 => ⟨S2048x256, .f32⟩
  | 127 => ⟨S2048x256, .f32⟩
  | _ => ⟨S49152x128, .f32⟩

abbrev hbmTy0_7 (i : Nat) : BufTy := match i % 128 with
  | 0 => ⟨S2048x256, .f32⟩
  | 1 => ⟨S_, .f32⟩
  | 2 => ⟨S2048x256, .f32⟩
  | 3 => ⟨S2048x256, .f32⟩
  | 4 => ⟨S_, .f32⟩
  | 5 => ⟨S2048x256, .f32⟩
  | 6 => ⟨S2048x256, .f32⟩
  | 7 => ⟨S2048x128, .f32⟩
  | 8 => ⟨S2048x128, .f32⟩
  | 9 => ⟨S2048x128, .f32⟩
  | 10 => ⟨S2048x128, .f32⟩
  | 11 => ⟨S2048x128, .f32⟩
  | 12 => ⟨S2048x128, .f32⟩
  | 13 => ⟨S2048x128, .f32⟩
  | 14 => ⟨S2048x128, .f32⟩
  | 15 => ⟨S2048x128, .f32⟩
  | 16 => ⟨S1024x128, .f32⟩
  | 17 => ⟨S1024x128, .f32⟩
  | 18 => ⟨S1024x128, .f32⟩
  | 19 => ⟨S1024x128, .f32⟩
  | 20 => ⟨S1024x256, .f32⟩
  | 21 => ⟨S1024x384, .f32⟩
  | 22 => ⟨S1x384, .f32⟩
  | 23 => ⟨S1024x384, .f32⟩
  | 24 => ⟨S1024x384, .f32⟩
  | 25 => ⟨S1024x128, .f32⟩
  | 26 => ⟨S1024x128, .f32⟩
  | 27 => ⟨S1024x128, .f32⟩
  | 28 => ⟨S1024x128, .f32⟩
  | 29 => ⟨S1024x128, .f32⟩
  | 30 => ⟨S_, .f32⟩
  | 31 => ⟨S1024x128, .f32⟩
  | 32 => ⟨S1024x128, .f32⟩
  | 33 => ⟨S_, .f32⟩
  | 34 => ⟨S1024x128, .f32⟩
  | 35 => ⟨S1024x128, .f32⟩
  | 36 => ⟨S1024x128, .f32⟩
  | 37 => ⟨S1024x128, .f32⟩
  | 38 => ⟨S_, .f32⟩
  | 39 => ⟨S1024x128, .f32⟩
  | 40 => ⟨S1024x128, .f32⟩
  | 41 => ⟨S_, .f32⟩
  | 42 => ⟨S1024x128, .f32⟩
  | 43 => ⟨S1024x128, .f32⟩
  | 44 => ⟨S1024x128, .f32⟩
  | 45 => ⟨S1024x256, .f32⟩
  | 46 => ⟨S1x256, .f32⟩
  | 47 => ⟨S1024x256, .f32⟩
  | 48 => ⟨S1024x256, .f32⟩
  | 49 => ⟨S1024x256, .f32⟩
  | 50 => ⟨S1024x256, .f32⟩
  | 51 => ⟨S_, .f32⟩
  | 52 => ⟨S1024x256, .f32⟩
  | 53 => ⟨S1024x256, .f32⟩
  | 54 => ⟨S_, .f32⟩
  | 55 => ⟨S1024x256, .f32⟩
  | 56 => ⟨S1024x256, .f32⟩
  | 57 => ⟨S1024x128, .f32⟩
  | 58 => ⟨S1024x128, .f32⟩
  | 59 => ⟨S1024x128, .f32⟩
  | 60 => ⟨S1024x128, .f32⟩
  | 61 => ⟨S1024x128, .f32⟩
  | 62 => ⟨S1024x128, .f32⟩
  | 63 => ⟨S1024x128, .f32⟩
  | 64 => ⟨S1024x128, .f32⟩
  | 65 => ⟨S1024x128, .f32⟩
  | 66 => ⟨S512x128, .f32⟩
  | 67 => ⟨S512x128, .f32⟩
  | 68 => ⟨S512x128, .f32⟩
  | 69 => ⟨S512x128, .f32⟩
  | 70 => ⟨S512x256, .f32⟩
  | 71 => ⟨S512x384, .f32⟩
  | 72 => ⟨S1x384, .f32⟩
  | 73 => ⟨S512x384, .f32⟩
  | 74 => ⟨S512x384, .f32⟩
  | 75 => ⟨S512x128, .f32⟩
  | 76 => ⟨S512x128, .f32⟩
  | 77 => ⟨S512x128, .f32⟩
  | 78 => ⟨S512x128, .f32⟩
  | 79 => ⟨S512x128, .f32⟩
  | 80 => ⟨S_, .f32⟩
  | 81 => ⟨S512x128, .f32⟩
  | 82 => ⟨S512x128, .f32⟩
  | 83 => ⟨S_, .f32⟩
  | 84 => ⟨S512x128, .f32⟩
  | 85 => ⟨S512x128, .f32⟩
  | 86 => ⟨S512x128, .f32⟩
  | 87 => ⟨S512x128, .f32⟩
  | 88 => ⟨S_, .f32⟩
  | 89 => ⟨S512x128, .f32⟩
  | 90 => ⟨S512x128, .f32⟩
  | 91 => ⟨S_, .f32⟩
  | 92 => ⟨S512x128, .f32⟩
  | 93 => ⟨S512x128, .f32⟩
  | 94 => ⟨S512x128, .f32⟩
  | 95 => ⟨S512x256, .f32⟩
  | 96 => ⟨S1x256, .f32⟩
  | 97 => ⟨S512x256, .f32⟩
  | 98 => ⟨S512x256, .f32⟩
  | 99 => ⟨S512x256, .f32⟩
  | 100 => ⟨S512x256, .f32⟩
  | 101 => ⟨S_, .f32⟩
  | 102 => ⟨S512x256, .f32⟩
  | 103 => ⟨S512x256, .f32⟩
  | 104 => ⟨S_, .f32⟩
  | 105 => ⟨S512x256, .f32⟩
  | 106 => ⟨S512x256, .f32⟩
  | 107 => ⟨S512x128, .f32⟩
  | 108 => ⟨S512x128, .f32⟩
  | 109 => ⟨S512x128, .f32⟩
  | 110 => ⟨S512x128, .f32⟩
  | 111 => ⟨S512x128, .f32⟩
  | 112 => ⟨S512x128, .f32⟩
  | 113 => ⟨S512x128, .f32⟩
  | 114 => ⟨S512x128, .f32⟩
  | 115 => ⟨S512x128, .f32⟩
  | 116 => ⟨S256x128, .f32⟩
  | 117 => ⟨S256x128, .f32⟩
  | 118 => ⟨S256x128, .f32⟩
  | 119 => ⟨S256x128, .f32⟩
  | 120 => ⟨S256x256, .f32⟩
  | 121 => ⟨S256x384, .f32⟩
  | 122 => ⟨S1x384, .f32⟩
  | 123 => ⟨S256x384, .f32⟩
  | 124 => ⟨S256x384, .f32⟩
  | 125 => ⟨S256x128, .f32⟩
  | 126 => ⟨S256x128, .f32⟩
  | 127 => ⟨S256x128, .f32⟩
  | _ => ⟨S49152x128, .f32⟩

abbrev hbmTy0_8 (i : Nat) : BufTy := match i % 128 with
  | 0 => ⟨S256x128, .f32⟩
  | 1 => ⟨S256x128, .f32⟩
  | 2 => ⟨S_, .f32⟩
  | 3 => ⟨S256x128, .f32⟩
  | 4 => ⟨S256x128, .f32⟩
  | 5 => ⟨S_, .f32⟩
  | 6 => ⟨S256x128, .f32⟩
  | 7 => ⟨S256x128, .f32⟩
  | 8 => ⟨S256x128, .f32⟩
  | 9 => ⟨S256x128, .f32⟩
  | 10 => ⟨S_, .f32⟩
  | 11 => ⟨S256x128, .f32⟩
  | 12 => ⟨S256x128, .f32⟩
  | 13 => ⟨S_, .f32⟩
  | 14 => ⟨S256x128, .f32⟩
  | 15 => ⟨S256x128, .f32⟩
  | 16 => ⟨S256x128, .f32⟩
  | 17 => ⟨S256x256, .f32⟩
  | 18 => ⟨S1x256, .f32⟩
  | 19 => ⟨S256x256, .f32⟩
  | 20 => ⟨S256x256, .f32⟩
  | 21 => ⟨S256x256, .f32⟩
  | 22 => ⟨S256x256, .f32⟩
  | 23 => ⟨S_, .f32⟩
  | 24 => ⟨S256x256, .f32⟩
  | 25 => ⟨S256x256, .f32⟩
  | 26 => ⟨S_, .f32⟩
  | 27 => ⟨S256x256, .f32⟩
  | 28 => ⟨S256x256, .f32⟩
  | 29 => ⟨S256x128, .f32⟩
  | 30 => ⟨S256x128, .f32⟩
  | 31 => ⟨S256x128, .f32⟩
  | 32 => ⟨S256x128, .f32⟩
  | 33 => ⟨S256x128, .f32⟩
  | 34 => ⟨S256x128, .f32⟩
  | 35 => ⟨S256x128, .f32⟩
  | 36 => ⟨S256x128, .f32⟩
  | 37 => ⟨S256x128, .f32⟩
  | 38 => ⟨S128x128, .f32⟩
  | 39 => ⟨S128x128, .f32⟩
  | 40 => ⟨S128x128, .f32⟩
  | 41 => ⟨S128x128, .f32⟩
  | 42 => ⟨S128x256, .f32⟩
  | 43 => ⟨S128x384, .f32⟩
  | 44 => ⟨S1x384, .f32⟩
  | 45 => ⟨S128x384, .f32⟩
  | 46 => ⟨S128x384, .f32⟩
  | 47 => ⟨S128x128, .f32⟩
  | 48 => ⟨S128x128, .f32⟩
  | 49 => ⟨S128x128, .f32⟩
  | 50 => ⟨S128x128, .f32⟩
  | 51 => ⟨S128x128, .f32⟩
  | 52 => ⟨S_, .f32⟩
  | 53 => ⟨S128x128, .f32⟩
  | 54 => ⟨S128x128, .f32⟩
  | 55 => ⟨S_, .f32⟩
  | 56 => ⟨S128x128, .f32⟩
  | 57 => ⟨S128x128, .f32⟩
  | 58 => ⟨S128x128, .f32⟩
  | 59 => ⟨S128x128, .f32⟩
  | 60 => ⟨S_, .f32⟩
  | 61 => ⟨S128x128, .f32⟩
  | 62 => ⟨S128x128, .f32⟩
  | 63 => ⟨S_, .f32⟩
  | 64 => ⟨S128x128, .f32⟩
  | 65 => ⟨S128x128, .f32⟩
  | 66 => ⟨S128x128, .f32⟩
  | 67 => ⟨S128x256, .f32⟩
  | 68 => ⟨S1x256, .f32⟩
  | 69 => ⟨S128x256, .f32⟩
  | 70 => ⟨S128x256, .f32⟩
  | 71 => ⟨S128x256, .f32⟩
  | 72 => ⟨S128x256, .f32⟩
  | 73 => ⟨S_, .f32⟩
  | 74 => ⟨S128x256, .f32⟩
  | 75 => ⟨S128x256, .f32⟩
  | 76 => ⟨S_, .f32⟩
  | 77 => ⟨S128x256, .f32⟩
  | 78 => ⟨S128x256, .f32⟩
  | 79 => ⟨S128x128, .f32⟩
  | 80 => ⟨S128x128, .f32⟩
  | 81 => ⟨S128x128, .f32⟩
  | 82 => ⟨S128x128, .f32⟩
  | 83 => ⟨S128x128, .f32⟩
  | 84 => ⟨S128x128, .f32⟩
  | 85 => ⟨S128x128, .f32⟩
  | 86 => ⟨S128x128, .f32⟩
  | 87 => ⟨S128x128, .f32⟩
  | 88 => ⟨S64x128, .f32⟩
  | 89 => ⟨S64x128, .f32⟩
  | 90 => ⟨S64x128, .f32⟩
  | 91 => ⟨S64x128, .f32⟩
  | 92 => ⟨S64x256, .f32⟩
  | 93 => ⟨S64x384, .f32⟩
  | 94 => ⟨S1x384, .f32⟩
  | 95 => ⟨S64x384, .f32⟩
  | 96 => ⟨S64x384, .f32⟩
  | 97 => ⟨S64x128, .f32⟩
  | 98 => ⟨S64x128, .f32⟩
  | 99 => ⟨S64x128, .f32⟩
  | 100 => ⟨S64x128, .f32⟩
  | 101 => ⟨S64x128, .f32⟩
  | 102 => ⟨S_, .f32⟩
  | 103 => ⟨S64x128, .f32⟩
  | 104 => ⟨S64x128, .f32⟩
  | 105 => ⟨S_, .f32⟩
  | 106 => ⟨S64x128, .f32⟩
  | 107 => ⟨S64x128, .f32⟩
  | 108 => ⟨S64x128, .f32⟩
  | 109 => ⟨S64x128, .f32⟩
  | 110 => ⟨S_, .f32⟩
  | 111 => ⟨S64x128, .f32⟩
  | 112 => ⟨S64x128, .f32⟩
  | 113 => ⟨S_, .f32⟩
  | 114 => ⟨S64x128, .f32⟩
  | 115 => ⟨S64x128, .f32⟩
  | 116 => ⟨S64x128, .f32⟩
  | 117 => ⟨S64x256, .f32⟩
  | 118 => ⟨S1x256, .f32⟩
  | 119 => ⟨S64x256, .f32⟩
  | 120 => ⟨S64x256, .f32⟩
  | 121 => ⟨S64x256, .f32⟩
  | 122 => ⟨S64x256, .f32⟩
  | 123 => ⟨S_, .f32⟩
  | 124 => ⟨S64x256, .f32⟩
  | 125 => ⟨S64x256, .f32⟩
  | 126 => ⟨S_, .f32⟩
  | 127 => ⟨S64x256, .f32⟩
  | _ => ⟨S49152x128, .f32⟩

abbrev hbmTy0_9 (i : Nat) : BufTy := match i % 128 with
  | 0 => ⟨S64x256, .f32⟩
  | 1 => ⟨S64x128, .f32⟩
  | 2 => ⟨S64x128, .f32⟩
  | 3 => ⟨S64x128, .f32⟩
  | 4 => ⟨S64x128, .f32⟩
  | 5 => ⟨S64x128, .f32⟩
  | 6 => ⟨S64x128, .f32⟩
  | 7 => ⟨S64x128, .f32⟩
  | 8 => ⟨S64x128, .f32⟩
  | 9 => ⟨S64x128, .f32⟩
  | 10 => ⟨S32x128, .f32⟩
  | 11 => ⟨S32x128, .f32⟩
  | 12 => ⟨S32x128, .f32⟩
  | 13 => ⟨S32x128, .f32⟩
  | 14 => ⟨S32x256, .f32⟩
  | 15 => ⟨S32x384, .f32⟩
  | 16 => ⟨S1x384, .f32⟩
  | 17 => ⟨S32x384, .f32⟩
  | 18 => ⟨S32x384, .f32⟩
  | 19 => ⟨S32x128, .f32⟩
  | 20 => ⟨S32x128, .f32⟩
  | 21 => ⟨S32x128, .f32⟩
  | 22 => ⟨S32x128, .f32⟩
  | 23 => ⟨S32x128, .f32⟩
  | 24 => ⟨S_, .f32⟩
  | 25 => ⟨S32x128, .f32⟩
  | 26 => ⟨S32x128, .f32⟩
  | 27 => ⟨S_, .f32⟩
  | 28 => ⟨S32x128, .f32⟩
  | 29 => ⟨S32x128, .f32⟩
  | 30 => ⟨S32x128, .f32⟩
  | 31 => ⟨S32x128, .f32⟩
  | 32 => ⟨S_, .f32⟩
  | 33 => ⟨S32x128, .f32⟩
  | 34 => ⟨S32x128, .f32⟩
  | 35 => ⟨S_, .f32⟩
  | 36 => ⟨S32x128, .f32⟩
  | 37 => ⟨S32x128, .f32⟩
  | 38 => ⟨S32x128, .f32⟩
  | 39 => ⟨S32x256, .f32⟩
  | 40 => ⟨S1x256, .f32⟩
  | 41 => ⟨S32x256, .f32⟩
  | 42 => ⟨S32x256, .f32⟩
  | 43 => ⟨S32x256, .f32⟩
  | 44 => ⟨S32x256, .f32⟩
  | 45 => ⟨S_, .f32⟩
  | 46 => ⟨S32x256, .f32⟩
  | 47 => ⟨S32x256, .f32⟩
  | 48 => ⟨S_, .f32⟩
  | 49 => ⟨S32x256, .f32⟩
  | 50 => ⟨S32x256, .f32⟩
  | 51 => ⟨S32x128, .f32⟩
  | 52 => ⟨S32x128, .f32⟩
  | 53 => ⟨S32x128, .f32⟩
  | 54 => ⟨S32x128, .f32⟩
  | 55 => ⟨S32x128, .f32⟩
  | 56 => ⟨S32x128, .f32⟩
  | 57 => ⟨S32x128, .f32⟩
  | 58 => ⟨S32x128, .f32⟩
  | 59 => ⟨S32x128, .f32⟩
  | 60 => ⟨S16x128, .f32⟩
  | 61 => ⟨S16x128, .f32⟩
  | 62 => ⟨S16x128, .f32⟩
  | 63 => ⟨S16x128, .f32⟩
  | 64 => ⟨S16x256, .f32⟩
  | 65 => ⟨S16x384, .f32⟩
  | 66 => ⟨S1x384, .f32⟩
  | 67 => ⟨S16x384, .f32⟩
  | 68 => ⟨S16x384, .f32⟩
  | 69 => ⟨S16x128, .f32⟩
  | 70 => ⟨S16x128, .f32⟩
  | 71 => ⟨S16x128, .f32⟩
  | 72 => ⟨S16x128, .f32⟩
  | 73 => ⟨S16x128, .f32⟩
  | 74 => ⟨S_, .f32⟩
  | 75 => ⟨S16x128, .f32⟩
  | 76 => ⟨S16x128, .f32⟩
  | 77 => ⟨S_, .f32⟩
  | 78 => ⟨S16x128, .f32⟩
  | 79 => ⟨S16x128, .f32⟩
  | 80 => ⟨S16x128, .f32⟩
  | 81 => ⟨S16x128, .f32⟩
  | 82 => ⟨S_, .f32⟩
  | 83 => ⟨S16x128, .f32⟩
  | 84 => ⟨S16x128, .f32⟩
  | 85 => ⟨S_, .f32⟩
  | 86 => ⟨S16x128, .f32⟩
  | 87 => ⟨S16x128, .f32⟩
  | 88 => ⟨S16x128, .f32⟩
  | 89 => ⟨S16x256, .f32⟩
  | 90 => ⟨S1x256, .f32⟩
  | 91 => ⟨S16x256, .f32⟩
  | 92 => ⟨S16x256, .f32⟩
  | 93 => ⟨S16x256, .f32⟩
  | 94 => ⟨S16x256, .f32⟩
  | 95 => ⟨S_, .f32⟩
  | 96 => ⟨S16x256, .f32⟩
  | 97 => ⟨S16x256, .f32⟩
  | 98 => ⟨S_, .f32⟩
  | 99 => ⟨S16x256, .f32⟩
  | 100 => ⟨S16x256, .f32⟩
  | 101 => ⟨S16x128, .f32⟩
  | 102 => ⟨S16x128, .f32⟩
  | 103 => ⟨S16x128, .f32⟩
  | 104 => ⟨S16x128, .f32⟩
  | 105 => ⟨S16x128, .f32⟩
  | 106 => ⟨S16x128, .f32⟩
  | 107 => ⟨S16x128, .f32⟩
  | 108 => ⟨S16x128, .f32⟩
  | 109 => ⟨S16x128, .f32⟩
  | 110 => ⟨S8x128, .f32⟩
  | 111 => ⟨S8x128, .f32⟩
  | 112 => ⟨S8x128, .f32⟩
  | 113 => ⟨S8x128, .f32⟩
  | 114 => ⟨S8x256, .f32⟩
  | 115 => ⟨S8x384, .f32⟩
  | 116 => ⟨S1x384, .f32⟩
  | 117 => ⟨S8x384, .f32⟩
  | 118 => ⟨S8x384, .f32⟩
  | 119 => ⟨S8x128, .f32⟩
  | 120 => ⟨S8x128, .f32⟩
  | 121 => ⟨S8x128, .f32⟩
  | 122 => ⟨S8x128, .f32⟩
  | 123 => ⟨S8x128, .f32⟩
  | 124 => ⟨S_, .f32⟩
  | 125 => ⟨S8x128, .f32⟩
  | 126 => ⟨S8x128, .f32⟩
  | 127 => ⟨S_, .f32⟩
  | _ => ⟨S49152x128, .f32⟩

abbrev hbmTy0_10 (i : Nat) : BufTy := match i % 128 with
  | 0 => ⟨S8x128, .f32⟩
  | 1 => ⟨S8x128, .f32⟩
  | 2 => ⟨S8x128, .f32⟩
  | 3 => ⟨S8x128, .f32⟩
  | 4 => ⟨S_, .f32⟩
  | 5 => ⟨S8x128, .f32⟩
  | 6 => ⟨S8x128, .f32⟩
  | 7 => ⟨S_, .f32⟩
  | 8 => ⟨S8x128, .f32⟩
  | 9 => ⟨S8x128, .f32⟩
  | 10 => ⟨S8x128, .f32⟩
  | 11 => ⟨S8x256, .f32⟩
  | 12 => ⟨S1x256, .f32⟩
  | 13 => ⟨S8x256, .f32⟩
  | 14 => ⟨S8x256, .f32⟩
  | 15 => ⟨S8x256, .f32⟩
  | 16 => ⟨S8x256, .f32⟩
  | 17 => ⟨S_, .f32⟩
  | 18 => ⟨S8x256, .f32⟩
  | 19 => ⟨S8x256, .f32⟩
  | 20 => ⟨S_, .f32⟩
  | 21 => ⟨S8x256, .f32⟩
  | 22 => ⟨S8x256, .f32⟩
  | 23 => ⟨S8x128, .f32⟩
  | 24 => ⟨S8x128, .f32⟩
  | 25 => ⟨S8x128, .f32⟩
  | 26 => ⟨S8x128, .f32⟩
  | 27 => ⟨S8x128, .f32⟩
  | 28 => ⟨S8x128, .f32⟩
  | 29 => ⟨S8x128, .f32⟩
  | 30 => ⟨S8x128, .f32⟩
  | 31 => ⟨S8x128, .f32⟩
  | 32 => ⟨S4x128, .f32⟩
  | 33 => ⟨S4x128, .f32⟩
  | 34 => ⟨S4x128, .f32⟩
  | 35 => ⟨S4x128, .f32⟩
  | 36 => ⟨S4x256, .f32⟩
  | 37 => ⟨S4x384, .f32⟩
  | 38 => ⟨S1x384, .f32⟩
  | 39 => ⟨S4x384, .f32⟩
  | 40 => ⟨S4x384, .f32⟩
  | 41 => ⟨S4x128, .f32⟩
  | 42 => ⟨S4x128, .f32⟩
  | 43 => ⟨S4x128, .f32⟩
  | 44 => ⟨S4x128, .f32⟩
  | 45 => ⟨S4x128, .f32⟩
  | 46 => ⟨S_, .f32⟩
  | 47 => ⟨S4x128, .f32⟩
  | 48 => ⟨S4x128, .f32⟩
  | 49 => ⟨S_, .f32⟩
  | 50 => ⟨S4x128, .f32⟩
  | 51 => ⟨S4x128, .f32⟩
  | 52 => ⟨S4x128, .f32⟩
  | 53 => ⟨S4x128, .f32⟩
  | 54 => ⟨S_, .f32⟩
  | 55 => ⟨S4x128, .f32⟩
  | 56 => ⟨S4x128, .f32⟩
  | 57 => ⟨S_, .f32⟩
  | 58 => ⟨S4x128, .f32⟩
  | 59 => ⟨S4x128, .f32⟩
  | 60 => ⟨S4x128, .f32⟩
  | 61 => ⟨S4x256, .f32⟩
  | 62 => ⟨S1x256, .f32⟩
  | 63 => ⟨S4x256, .f32⟩
  | 64 => ⟨S4x256, .f32⟩
  | 65 => ⟨S4x256, .f32⟩
  | 66 => ⟨S4x256, .f32⟩
  | 67 => ⟨S_, .f32⟩
  | 68 => ⟨S4x256, .f32⟩
  | 69 => ⟨S4x256, .f32⟩
  | 70 => ⟨S_, .f32⟩
  | 71 => ⟨S4x256, .f32⟩
  | 72 => ⟨S4x256, .f32⟩
  | 73 => ⟨S4x128, .f32⟩
  | 74 => ⟨S4x128, .f32⟩
  | 75 => ⟨S4x128, .f32⟩
  | 76 => ⟨S4x128, .f32⟩
  | 77 => ⟨S4x128, .f32⟩
  | 78 => ⟨S4x128, .f32⟩
  | 79 => ⟨S4x128, .f32⟩
  | 80 => ⟨S4x128, .f32⟩
  | 81 => ⟨S4x128, .f32⟩
  | 82 => ⟨S2x128, .f32⟩
  | 83 => ⟨S2x128, .f32⟩
  | 84 => ⟨S2x128, .f32⟩
  | 85 => ⟨S2x128, .f32⟩
  | 86 => ⟨S2x256, .f32⟩
  | 87 => ⟨S2x384, .f32⟩
  | 88 => ⟨S1x384, .f32⟩
  | 89 => ⟨S2x384, .f32⟩
  | 90 => ⟨S2x384, .f32⟩
  | 91 => ⟨S2x128, .f32⟩
  | 92 => ⟨S2x128, .f32⟩
  | 93 => ⟨S2x128, .f32⟩
  | 94 => ⟨S2x128, .f32⟩
  | 95 => ⟨S2x128, .f32⟩
  | 96 => ⟨S_, .f32⟩
  | 97 => ⟨S2x128, .f32⟩
  | 98 => ⟨S2x128, .f32⟩
  | 99 => ⟨S_, .f32⟩
  | 100 => ⟨S2x128, .f32⟩
  | 101 => ⟨S2x128, .f32⟩
  | 102 => ⟨S2x128, .f32⟩
  | 103 => ⟨S2x128, .f32⟩
  | 104 => ⟨S_, .f32⟩
  | 105 => ⟨S2x128, .f32⟩
  | 106 => ⟨S2x128, .f32⟩
  | 107 => ⟨S_, .f32⟩
  | 108 => ⟨S2x128, .f32⟩
  | 109 => ⟨S2x128, .f32⟩
  | 110 => ⟨S2x128, .f32⟩
  | 111 => ⟨S2x256, .f32⟩
  | 112 => ⟨S1x256, .f32⟩
  | 113 => ⟨S2x256, .f32⟩
  | 114 => ⟨S2x256, .f32⟩
  | 115 => ⟨S2x256, .f32⟩
  | 116 => ⟨S2x256, .f32⟩
  | 117 => ⟨S_, .f32⟩
  | 118 => ⟨S2x256, .f32⟩
  | 119 => ⟨S2x256, .f32⟩
  | 120 => ⟨S_, .f32⟩
  | 121 => ⟨S2x256, .f32⟩
  | 122 => ⟨S2x256, .f32⟩
  | 123 => ⟨S2x128, .f32⟩
  | 124 => ⟨S2x128, .f32⟩
  | 125 => ⟨S2x128, .f32⟩
  | 126 => ⟨S2x128, .f32⟩
  | 127 => ⟨S2x128, .f32⟩
  | _ => ⟨S49152x128, .f32⟩

abbrev hbmTy0_11 (i : Nat) : BufTy := match i % 128 with
  | 0 => ⟨S2x128, .f32⟩
  | 1 => ⟨S2x128, .f32⟩
  | 2 => ⟨S2x128, .f32⟩
  | 3 => ⟨S2x128, .f32⟩
  | 4 => ⟨S1x128, .f32⟩
  | 5 => ⟨S1x128, .f32⟩
  | 6 => ⟨S1x128, .f32⟩
  | 7 => ⟨S1x128, .f32⟩
  | 8 => ⟨S1x256, .f32⟩
  | 9 => ⟨S1x384, .f32⟩
  | 10 => ⟨S1x384, .f32⟩
  | 11 => ⟨S1x384, .f32⟩
  | 12 => ⟨S1x128, .f32⟩
  | 13 => ⟨S1x128, .f32⟩
  | 14 => ⟨S1x128, .f32⟩
  | 15 => ⟨S1x128, .f32⟩
  | 16 => ⟨S1x128, .f32⟩
  | 17 => ⟨S_, .f32⟩
  | 18 => ⟨S1x128, .f32⟩
  | 19 => ⟨S1x128, .f32⟩
  | 20 => ⟨S_, .f32⟩
  | 21 => ⟨S1x128, .f32⟩
  | 22 => ⟨S1x128, .f32⟩
  | 23 => ⟨S1x128, .f32⟩
  | 24 => ⟨S1x128, .f32⟩
  | 25 => ⟨S_, .f32⟩
  | 26 => ⟨S1x128, .f32⟩
  | 27 => ⟨S1x128, .f32⟩
  | 28 => ⟨S_, .f32⟩
  | 29 => ⟨S1x128, .f32⟩
  | 30 => ⟨S1x128, .f32⟩
  | 31 => ⟨S1x128, .f32⟩
  | 32 => ⟨S1x256, .f32⟩
  | 33 => ⟨S1x256, .f32⟩
  | 34 => ⟨S1x256, .f32⟩
  | 35 => ⟨S1x256, .f32⟩
  | 36 => ⟨S1x256, .f32⟩
  | 37 => ⟨S_, .f32⟩
  | 38 => ⟨S1x256, .f32⟩
  | 39 => ⟨S1x256, .f32⟩
  | 40 => ⟨S_, .f32⟩
  | 41 => ⟨S1x256, .f32⟩
  | 42 => ⟨S1x256, .f32⟩
  | 43 => ⟨S1x128, .f32⟩
  | 44 => ⟨S1x128, .f32⟩
  | 45 => ⟨S1x128, .f32⟩
  | 46 => ⟨S1x128, .f32⟩
  | 47 => ⟨S1x128, .f32⟩
  | 48 => ⟨S1x128, .f32⟩
  | 49 => ⟨S1x128, .f32⟩
  | 50 => ⟨S1x128, .f32⟩
  | 51 => ⟨S1x128, .f32⟩
  | 52 => ⟨S1x256, .f32⟩
  | 53 => ⟨S1x384, .f32⟩
  | 54 => ⟨S1x384, .f32⟩
  | 55 => ⟨S1x384, .f32⟩
  | 56 => ⟨S1x128, .f32⟩
  | 57 => ⟨S1x128, .f32⟩
  | 58 => ⟨S1x128, .f32⟩
  | 59 => ⟨S1x128, .f32⟩
  | 60 => ⟨S1x128, .f32⟩
  | 61 => ⟨S_, .f32⟩
  | 62 => ⟨S1x128, .f32⟩
  | 63 => ⟨S1x128, .f32⟩
  | 64 => ⟨S_, .f32⟩
  | 65 => ⟨S1x128, .f32⟩
  | 66 => ⟨S1x128, .f32⟩
  | 67 => ⟨S1x128, .f32⟩
  | 68 => ⟨S1x128, .f32⟩
  | 69 => ⟨S_, .f32⟩
  | 70 => ⟨S1x128, .f32⟩
  | 71 => ⟨S1x128, .f32⟩
  | 72 => ⟨S_, .f32⟩
  | 73 => ⟨S1x128, .f32⟩
  | 74 => ⟨S1x128, .f32⟩
  | 75 => ⟨S1x128, .f32⟩
  | 76 => ⟨S1x256, .f32⟩
  | 77 => ⟨S1x256, .f32⟩
  | 78 => ⟨S1x256, .f32⟩
  | 79 => ⟨S1x256, .f32⟩
  | 80 => ⟨S1x256, .f32⟩
  | 81 => ⟨S_, .f32⟩
  | 82 => ⟨S1x256, .f32⟩
  | 83 => ⟨S1x256, .f32⟩
  | 84 => ⟨S_, .f32⟩
  | 85 => ⟨S1x256, .f32⟩
  | 86 => ⟨S1x256, .f32⟩
  | 87 => ⟨S1x128, .f32⟩
  | 88 => ⟨S1x128, .f32⟩
  | 89 => ⟨S1x128, .f32⟩
  | 90 => ⟨S1x128, .f32⟩
  | 91 => ⟨S1x128, .f32⟩
  | 92 => ⟨S1x128, .f32⟩
  | 93 => ⟨S1x128, .f32⟩
  | 94 => ⟨S1x128, .f32⟩
  | 95 => ⟨S1x128, .f32⟩
  | 96 => ⟨S1x256, .f32⟩
  | _ => ⟨S49152x128, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | 7 => hbmTy0_7 i
  | 8 => hbmTy0_8 i
  | 9 => hbmTy0_9 i
  | 10 => hbmTy0_10 i
  | 11 => hbmTy0_11 i
  | _ => ⟨S49152x128, .f32⟩

abbrev bufTy : (tb : Table) → Fin (tcTables nBuf tb) → BufTy
  | .hbm, ⟨i, _⟩ => hbmTy i
  | _, _ => ⟨S49152x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst : Ref sig .tc := ⟨.hbm, 26, rfl⟩
abbrev main_v16 : Ref sig .tc := ⟨.hbm, 27, rfl⟩
abbrev main_v17 : Ref sig .tc := ⟨.hbm, 28, rfl⟩
abbrev main_cst_0 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_1 : Ref sig .tc := ⟨.hbm, 34, rfl⟩
abbrev main_v22 : Ref sig .tc := ⟨.hbm, 35, rfl⟩
abbrev main_v23 : Ref sig .tc := ⟨.hbm, 36, rfl⟩
abbrev main_cst_2 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_cst_3 : Ref sig .tc := ⟨.hbm, 47, rfl⟩
abbrev main_v33 : Ref sig .tc := ⟨.hbm, 48, rfl⟩
abbrev main_v34 : Ref sig .tc := ⟨.hbm, 49, rfl⟩
abbrev main_cst_4 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_cst_5 : Ref sig .tc := ⟨.hbm, 76, rfl⟩
abbrev main_v60 : Ref sig .tc := ⟨.hbm, 77, rfl⟩
abbrev main_v61 : Ref sig .tc := ⟨.hbm, 78, rfl⟩
abbrev main_cst_6 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_cst_7 : Ref sig .tc := ⟨.hbm, 84, rfl⟩
abbrev main_v66 : Ref sig .tc := ⟨.hbm, 85, rfl⟩
abbrev main_v67 : Ref sig .tc := ⟨.hbm, 86, rfl⟩
abbrev main_cst_8 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_cst_9 : Ref sig .tc := ⟨.hbm, 97, rfl⟩
abbrev main_v77 : Ref sig .tc := ⟨.hbm, 98, rfl⟩
abbrev main_v78 : Ref sig .tc := ⟨.hbm, 99, rfl⟩
abbrev main_cst_10 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev main_v85 : Ref sig .tc := ⟨.hbm, 107, rfl⟩
abbrev main_v86 : Ref sig .tc := ⟨.hbm, 108, rfl⟩
abbrev main_v87 : Ref sig .tc := ⟨.hbm, 109, rfl⟩
abbrev main_v88 : Ref sig .tc := ⟨.hbm, 110, rfl⟩
abbrev main_v89 : Ref sig .tc := ⟨.hbm, 111, rfl⟩
abbrev main_v90 : Ref sig .tc := ⟨.hbm, 112, rfl⟩
abbrev main_v91 : Ref sig .tc := ⟨.hbm, 113, rfl⟩
abbrev main_v92 : Ref sig .tc := ⟨.hbm, 114, rfl⟩
abbrev main_v93 : Ref sig .tc := ⟨.hbm, 115, rfl⟩
abbrev main_v94 : Ref sig .tc := ⟨.hbm, 116, rfl⟩
abbrev main_v95 : Ref sig .tc := ⟨.hbm, 117, rfl⟩
abbrev main_v96 : Ref sig .tc := ⟨.hbm, 118, rfl⟩
abbrev main_v97 : Ref sig .tc := ⟨.hbm, 119, rfl⟩
abbrev main_v98 : Ref sig .tc := ⟨.hbm, 120, rfl⟩
abbrev main_v99 : Ref sig .tc := ⟨.hbm, 121, rfl⟩
abbrev main_v100 : Ref sig .tc := ⟨.hbm, 122, rfl⟩
abbrev main_v101 : Ref sig .tc := ⟨.hbm, 123, rfl⟩
abbrev main_v102 : Ref sig .tc := ⟨.hbm, 124, rfl⟩
abbrev main_v103 : Ref sig .tc := ⟨.hbm, 125, rfl⟩
abbrev main_cst_11 : Ref sig .tc := ⟨.hbm, 126, rfl⟩
abbrev main_v104 : Ref sig .tc := ⟨.hbm, 127, rfl⟩
abbrev main_v105 : Ref sig .tc := ⟨.hbm, 128, rfl⟩
abbrev main_cst_12 : Ref sig .tc := ⟨.hbm, 129, rfl⟩
abbrev main_v106 : Ref sig .tc := ⟨.hbm, 130, rfl⟩
abbrev main_v107 : Ref sig .tc := ⟨.hbm, 131, rfl⟩
abbrev main_v108 : Ref sig .tc := ⟨.hbm, 132, rfl⟩
abbrev main_v109 : Ref sig .tc := ⟨.hbm, 133, rfl⟩
abbrev main_cst_13 : Ref sig .tc := ⟨.hbm, 134, rfl⟩
abbrev main_v110 : Ref sig .tc := ⟨.hbm, 135, rfl⟩
abbrev main_v111 : Ref sig .tc := ⟨.hbm, 136, rfl⟩
abbrev main_cst_14 : Ref sig .tc := ⟨.hbm, 137, rfl⟩
abbrev main_v112 : Ref sig .tc := ⟨.hbm, 138, rfl⟩
abbrev main_v113 : Ref sig .tc := ⟨.hbm, 139, rfl⟩
abbrev main_v114 : Ref sig .tc := ⟨.hbm, 140, rfl⟩
abbrev main_v115 : Ref sig .tc := ⟨.hbm, 141, rfl⟩
abbrev main_v116 : Ref sig .tc := ⟨.hbm, 142, rfl⟩
abbrev main_v117 : Ref sig .tc := ⟨.hbm, 143, rfl⟩
abbrev main_v118 : Ref sig .tc := ⟨.hbm, 144, rfl⟩
abbrev main_v119 : Ref sig .tc := ⟨.hbm, 145, rfl⟩
abbrev main_v120 : Ref sig .tc := ⟨.hbm, 146, rfl⟩
abbrev main_cst_15 : Ref sig .tc := ⟨.hbm, 147, rfl⟩
abbrev main_v121 : Ref sig .tc := ⟨.hbm, 148, rfl⟩
abbrev main_v122 : Ref sig .tc := ⟨.hbm, 149, rfl⟩
abbrev main_cst_16 : Ref sig .tc := ⟨.hbm, 150, rfl⟩
abbrev main_v123 : Ref sig .tc := ⟨.hbm, 151, rfl⟩
abbrev main_v124 : Ref sig .tc := ⟨.hbm, 152, rfl⟩
abbrev main_v125 : Ref sig .tc := ⟨.hbm, 153, rfl⟩
abbrev main_v126 : Ref sig .tc := ⟨.hbm, 154, rfl⟩
abbrev main_v127 : Ref sig .tc := ⟨.hbm, 155, rfl⟩
abbrev main_v128 : Ref sig .tc := ⟨.hbm, 156, rfl⟩
abbrev main_v129 : Ref sig .tc := ⟨.hbm, 157, rfl⟩
abbrev main_v130 : Ref sig .tc := ⟨.hbm, 158, rfl⟩
abbrev main_v131 : Ref sig .tc := ⟨.hbm, 159, rfl⟩
abbrev main_v132 : Ref sig .tc := ⟨.hbm, 160, rfl⟩
abbrev main_v133 : Ref sig .tc := ⟨.hbm, 161, rfl⟩
abbrev main_v134 : Ref sig .tc := ⟨.hbm, 162, rfl⟩
abbrev main_v135 : Ref sig .tc := ⟨.hbm, 163, rfl⟩
abbrev main_v136 : Ref sig .tc := ⟨.hbm, 164, rfl⟩
abbrev main_v137 : Ref sig .tc := ⟨.hbm, 165, rfl⟩
abbrev main_v138 : Ref sig .tc := ⟨.hbm, 166, rfl⟩
abbrev main_v139 : Ref sig .tc := ⟨.hbm, 167, rfl⟩
abbrev main_v140 : Ref sig .tc := ⟨.hbm, 168, rfl⟩
abbrev main_v141 : Ref sig .tc := ⟨.hbm, 169, rfl⟩
abbrev main_v142 : Ref sig .tc := ⟨.hbm, 170, rfl⟩
abbrev main_v143 : Ref sig .tc := ⟨.hbm, 171, rfl⟩
abbrev main_v144 : Ref sig .tc := ⟨.hbm, 172, rfl⟩
abbrev main_v145 : Ref sig .tc := ⟨.hbm, 173, rfl⟩
abbrev main_v146 : Ref sig .tc := ⟨.hbm, 174, rfl⟩
abbrev main_v147 : Ref sig .tc := ⟨.hbm, 175, rfl⟩
abbrev main_cst_17 : Ref sig .tc := ⟨.hbm, 176, rfl⟩
abbrev main_v148 : Ref sig .tc := ⟨.hbm, 177, rfl⟩
abbrev main_v149 : Ref sig .tc := ⟨.hbm, 178, rfl⟩
abbrev main_cst_18 : Ref sig .tc := ⟨.hbm, 179, rfl⟩
abbrev main_v150 : Ref sig .tc := ⟨.hbm, 180, rfl⟩
abbrev main_v151 : Ref sig .tc := ⟨.hbm, 181, rfl⟩
abbrev main_v152 : Ref sig .tc := ⟨.hbm, 182, rfl⟩
abbrev main_v153 : Ref sig .tc := ⟨.hbm, 183, rfl⟩
abbrev main_cst_19 : Ref sig .tc := ⟨.hbm, 184, rfl⟩
abbrev main_v154 : Ref sig .tc := ⟨.hbm, 185, rfl⟩
abbrev main_v155 : Ref sig .tc := ⟨.hbm, 186, rfl⟩
abbrev main_cst_20 : Ref sig .tc := ⟨.hbm, 187, rfl⟩
abbrev main_v156 : Ref sig .tc := ⟨.hbm, 188, rfl⟩
abbrev main_v157 : Ref sig .tc := ⟨.hbm, 189, rfl⟩
abbrev main_v158 : Ref sig .tc := ⟨.hbm, 190, rfl⟩
abbrev main_v159 : Ref sig .tc := ⟨.hbm, 191, rfl⟩
abbrev main_v160 : Ref sig .tc := ⟨.hbm, 192, rfl⟩
abbrev main_v161 : Ref sig .tc := ⟨.hbm, 193, rfl⟩
abbrev main_v162 : Ref sig .tc := ⟨.hbm, 194, rfl⟩
abbrev main_v163 : Ref sig .tc := ⟨.hbm, 195, rfl⟩
abbrev main_v164 : Ref sig .tc := ⟨.hbm, 196, rfl⟩
abbrev main_cst_21 : Ref sig .tc := ⟨.hbm, 197, rfl⟩
abbrev main_v165 : Ref sig .tc := ⟨.hbm, 198, rfl⟩
abbrev main_v166 : Ref sig .tc := ⟨.hbm, 199, rfl⟩
abbrev main_cst_22 : Ref sig .tc := ⟨.hbm, 200, rfl⟩
abbrev main_v167 : Ref sig .tc := ⟨.hbm, 201, rfl⟩
abbrev main_v168 : Ref sig .tc := ⟨.hbm, 202, rfl⟩
abbrev main_v169 : Ref sig .tc := ⟨.hbm, 203, rfl⟩
abbrev main_v170 : Ref sig .tc := ⟨.hbm, 204, rfl⟩
abbrev main_v171 : Ref sig .tc := ⟨.hbm, 205, rfl⟩
abbrev main_v172 : Ref sig .tc := ⟨.hbm, 206, rfl⟩
abbrev main_v173 : Ref sig .tc := ⟨.hbm, 207, rfl⟩
abbrev main_v174 : Ref sig .tc := ⟨.hbm, 208, rfl⟩
abbrev main_v175 : Ref sig .tc := ⟨.hbm, 209, rfl⟩
abbrev main_v176 : Ref sig .tc := ⟨.hbm, 210, rfl⟩
abbrev main_v177 : Ref sig .tc := ⟨.hbm, 211, rfl⟩
abbrev main_v178 : Ref sig .tc := ⟨.hbm, 212, rfl⟩
abbrev main_v179 : Ref sig .tc := ⟨.hbm, 213, rfl⟩
abbrev main_v180 : Ref sig .tc := ⟨.hbm, 214, rfl⟩
abbrev main_v181 : Ref sig .tc := ⟨.hbm, 215, rfl⟩
abbrev main_v182 : Ref sig .tc := ⟨.hbm, 216, rfl⟩
abbrev main_v183 : Ref sig .tc := ⟨.hbm, 217, rfl⟩
abbrev main_v184 : Ref sig .tc := ⟨.hbm, 218, rfl⟩
abbrev main_v185 : Ref sig .tc := ⟨.hbm, 219, rfl⟩
abbrev main_v186 : Ref sig .tc := ⟨.hbm, 220, rfl⟩
abbrev main_v187 : Ref sig .tc := ⟨.hbm, 221, rfl⟩
abbrev main_v188 : Ref sig .tc := ⟨.hbm, 222, rfl⟩
abbrev main_v189 : Ref sig .tc := ⟨.hbm, 223, rfl⟩
abbrev main_v190 : Ref sig .tc := ⟨.hbm, 224, rfl⟩
abbrev main_v191 : Ref sig .tc := ⟨.hbm, 225, rfl⟩
abbrev main_cst_23 : Ref sig .tc := ⟨.hbm, 226, rfl⟩
abbrev main_v192 : Ref sig .tc := ⟨.hbm, 227, rfl⟩
abbrev main_v193 : Ref sig .tc := ⟨.hbm, 228, rfl⟩
abbrev main_cst_24 : Ref sig .tc := ⟨.hbm, 229, rfl⟩
abbrev main_v194 : Ref sig .tc := ⟨.hbm, 230, rfl⟩
abbrev main_v195 : Ref sig .tc := ⟨.hbm, 231, rfl⟩
abbrev main_v196 : Ref sig .tc := ⟨.hbm, 232, rfl⟩
abbrev main_v197 : Ref sig .tc := ⟨.hbm, 233, rfl⟩
abbrev main_cst_25 : Ref sig .tc := ⟨.hbm, 234, rfl⟩
abbrev main_v198 : Ref sig .tc := ⟨.hbm, 235, rfl⟩
abbrev main_v199 : Ref sig .tc := ⟨.hbm, 236, rfl⟩
abbrev main_cst_26 : Ref sig .tc := ⟨.hbm, 237, rfl⟩
abbrev main_v200 : Ref sig .tc := ⟨.hbm, 238, rfl⟩
abbrev main_v201 : Ref sig .tc := ⟨.hbm, 239, rfl⟩
abbrev main_v202 : Ref sig .tc := ⟨.hbm, 240, rfl⟩
abbrev main_v203 : Ref sig .tc := ⟨.hbm, 241, rfl⟩
abbrev main_v204 : Ref sig .tc := ⟨.hbm, 242, rfl⟩
abbrev main_v205 : Ref sig .tc := ⟨.hbm, 243, rfl⟩
abbrev main_v206 : Ref sig .tc := ⟨.hbm, 244, rfl⟩
abbrev main_v207 : Ref sig .tc := ⟨.hbm, 245, rfl⟩
abbrev main_v208 : Ref sig .tc := ⟨.hbm, 246, rfl⟩
abbrev main_cst_27 : Ref sig .tc := ⟨.hbm, 247, rfl⟩
abbrev main_v209 : Ref sig .tc := ⟨.hbm, 248, rfl⟩
abbrev main_v210 : Ref sig .tc := ⟨.hbm, 249, rfl⟩
abbrev main_cst_28 : Ref sig .tc := ⟨.hbm, 250, rfl⟩
abbrev main_v211 : Ref sig .tc := ⟨.hbm, 251, rfl⟩
abbrev main_v212 : Ref sig .tc := ⟨.hbm, 252, rfl⟩
abbrev main_v213 : Ref sig .tc := ⟨.hbm, 253, rfl⟩
abbrev main_v214 : Ref sig .tc := ⟨.hbm, 254, rfl⟩
abbrev main_v215 : Ref sig .tc := ⟨.hbm, 255, rfl⟩
abbrev main_v216 : Ref sig .tc := ⟨.hbm, 256, rfl⟩
abbrev main_v217 : Ref sig .tc := ⟨.hbm, 257, rfl⟩
abbrev main_v218 : Ref sig .tc := ⟨.hbm, 258, rfl⟩
abbrev main_v219 : Ref sig .tc := ⟨.hbm, 259, rfl⟩
abbrev main_v220 : Ref sig .tc := ⟨.hbm, 260, rfl⟩
abbrev main_v221 : Ref sig .tc := ⟨.hbm, 261, rfl⟩
abbrev main_v222 : Ref sig .tc := ⟨.hbm, 262, rfl⟩
abbrev main_v223 : Ref sig .tc := ⟨.hbm, 263, rfl⟩
abbrev main_v224 : Ref sig .tc := ⟨.hbm, 264, rfl⟩
abbrev main_v225 : Ref sig .tc := ⟨.hbm, 265, rfl⟩
abbrev main_v226 : Ref sig .tc := ⟨.hbm, 266, rfl⟩
abbrev main_v227 : Ref sig .tc := ⟨.hbm, 267, rfl⟩
abbrev main_v228 : Ref sig .tc := ⟨.hbm, 268, rfl⟩
abbrev main_v229 : Ref sig .tc := ⟨.hbm, 269, rfl⟩
abbrev main_v230 : Ref sig .tc := ⟨.hbm, 270, rfl⟩
abbrev main_v231 : Ref sig .tc := ⟨.hbm, 271, rfl⟩
abbrev main_v232 : Ref sig .tc := ⟨.hbm, 272, rfl⟩
abbrev main_v233 : Ref sig .tc := ⟨.hbm, 273, rfl⟩
abbrev main_v234 : Ref sig .tc := ⟨.hbm, 274, rfl⟩
abbrev main_v235 : Ref sig .tc := ⟨.hbm, 275, rfl⟩
abbrev main_cst_29 : Ref sig .tc := ⟨.hbm, 276, rfl⟩
abbrev main_v236 : Ref sig .tc := ⟨.hbm, 277, rfl⟩
abbrev main_v237 : Ref sig .tc := ⟨.hbm, 278, rfl⟩
abbrev main_cst_30 : Ref sig .tc := ⟨.hbm, 279, rfl⟩
abbrev main_v238 : Ref sig .tc := ⟨.hbm, 280, rfl⟩
abbrev main_v239 : Ref sig .tc := ⟨.hbm, 281, rfl⟩
abbrev main_v240 : Ref sig .tc := ⟨.hbm, 282, rfl⟩
abbrev main_v241 : Ref sig .tc := ⟨.hbm, 283, rfl⟩
abbrev main_cst_31 : Ref sig .tc := ⟨.hbm, 284, rfl⟩
abbrev main_v242 : Ref sig .tc := ⟨.hbm, 285, rfl⟩
abbrev main_v243 : Ref sig .tc := ⟨.hbm, 286, rfl⟩
abbrev main_cst_32 : Ref sig .tc := ⟨.hbm, 287, rfl⟩
abbrev main_v244 : Ref sig .tc := ⟨.hbm, 288, rfl⟩
abbrev main_v245 : Ref sig .tc := ⟨.hbm, 289, rfl⟩
abbrev main_v246 : Ref sig .tc := ⟨.hbm, 290, rfl⟩
abbrev main_v247 : Ref sig .tc := ⟨.hbm, 291, rfl⟩
abbrev main_v248 : Ref sig .tc := ⟨.hbm, 292, rfl⟩
abbrev main_v249 : Ref sig .tc := ⟨.hbm, 293, rfl⟩
abbrev main_v250 : Ref sig .tc := ⟨.hbm, 294, rfl⟩
abbrev main_v251 : Ref sig .tc := ⟨.hbm, 295, rfl⟩
abbrev main_v252 : Ref sig .tc := ⟨.hbm, 296, rfl⟩
abbrev main_cst_33 : Ref sig .tc := ⟨.hbm, 297, rfl⟩
abbrev main_v253 : Ref sig .tc := ⟨.hbm, 298, rfl⟩
abbrev main_v254 : Ref sig .tc := ⟨.hbm, 299, rfl⟩
abbrev main_cst_34 : Ref sig .tc := ⟨.hbm, 300, rfl⟩
abbrev main_v255 : Ref sig .tc := ⟨.hbm, 301, rfl⟩
abbrev main_v256 : Ref sig .tc := ⟨.hbm, 302, rfl⟩
abbrev main_v257 : Ref sig .tc := ⟨.hbm, 303, rfl⟩
abbrev main_v258 : Ref sig .tc := ⟨.hbm, 304, rfl⟩
abbrev main_v259 : Ref sig .tc := ⟨.hbm, 305, rfl⟩
abbrev main_v260 : Ref sig .tc := ⟨.hbm, 306, rfl⟩
abbrev main_v261 : Ref sig .tc := ⟨.hbm, 307, rfl⟩
abbrev main_v262 : Ref sig .tc := ⟨.hbm, 308, rfl⟩
abbrev main_v263 : Ref sig .tc := ⟨.hbm, 309, rfl⟩
abbrev main_v264 : Ref sig .tc := ⟨.hbm, 310, rfl⟩
abbrev main_v265 : Ref sig .tc := ⟨.hbm, 311, rfl⟩
abbrev main_v266 : Ref sig .tc := ⟨.hbm, 312, rfl⟩
abbrev main_v267 : Ref sig .tc := ⟨.hbm, 313, rfl⟩
abbrev main_v268 : Ref sig .tc := ⟨.hbm, 314, rfl⟩
abbrev main_v269 : Ref sig .tc := ⟨.hbm, 315, rfl⟩
abbrev main_v270 : Ref sig .tc := ⟨.hbm, 316, rfl⟩
abbrev main_v271 : Ref sig .tc := ⟨.hbm, 317, rfl⟩
abbrev main_v272 : Ref sig .tc := ⟨.hbm, 318, rfl⟩
abbrev main_v273 : Ref sig .tc := ⟨.hbm, 319, rfl⟩
abbrev main_v274 : Ref sig .tc := ⟨.hbm, 320, rfl⟩
abbrev main_v275 : Ref sig .tc := ⟨.hbm, 321, rfl⟩
abbrev main_v276 : Ref sig .tc := ⟨.hbm, 322, rfl⟩
abbrev main_v277 : Ref sig .tc := ⟨.hbm, 323, rfl⟩
abbrev main_v278 : Ref sig .tc := ⟨.hbm, 324, rfl⟩
abbrev main_v279 : Ref sig .tc := ⟨.hbm, 325, rfl⟩
abbrev main_cst_35 : Ref sig .tc := ⟨.hbm, 326, rfl⟩
abbrev main_v280 : Ref sig .tc := ⟨.hbm, 327, rfl⟩
abbrev main_v281 : Ref sig .tc := ⟨.hbm, 328, rfl⟩
abbrev main_cst_36 : Ref sig .tc := ⟨.hbm, 329, rfl⟩
abbrev main_v282 : Ref sig .tc := ⟨.hbm, 330, rfl⟩
abbrev main_v283 : Ref sig .tc := ⟨.hbm, 331, rfl⟩
abbrev main_v284 : Ref sig .tc := ⟨.hbm, 332, rfl⟩
abbrev main_v285 : Ref sig .tc := ⟨.hbm, 333, rfl⟩
abbrev main_cst_37 : Ref sig .tc := ⟨.hbm, 334, rfl⟩
abbrev main_v286 : Ref sig .tc := ⟨.hbm, 335, rfl⟩
abbrev main_v287 : Ref sig .tc := ⟨.hbm, 336, rfl⟩
abbrev main_cst_38 : Ref sig .tc := ⟨.hbm, 337, rfl⟩
abbrev main_v288 : Ref sig .tc := ⟨.hbm, 338, rfl⟩
abbrev main_v289 : Ref sig .tc := ⟨.hbm, 339, rfl⟩
abbrev main_v290 : Ref sig .tc := ⟨.hbm, 340, rfl⟩
abbrev main_v291 : Ref sig .tc := ⟨.hbm, 341, rfl⟩
abbrev main_v292 : Ref sig .tc := ⟨.hbm, 342, rfl⟩
abbrev main_v293 : Ref sig .tc := ⟨.hbm, 343, rfl⟩
abbrev main_v294 : Ref sig .tc := ⟨.hbm, 344, rfl⟩
abbrev main_v295 : Ref sig .tc := ⟨.hbm, 345, rfl⟩
abbrev main_v296 : Ref sig .tc := ⟨.hbm, 346, rfl⟩
abbrev main_cst_39 : Ref sig .tc := ⟨.hbm, 347, rfl⟩
abbrev main_v297 : Ref sig .tc := ⟨.hbm, 348, rfl⟩
abbrev main_v298 : Ref sig .tc := ⟨.hbm, 349, rfl⟩
abbrev main_cst_40 : Ref sig .tc := ⟨.hbm, 350, rfl⟩
abbrev main_v299 : Ref sig .tc := ⟨.hbm, 351, rfl⟩
abbrev main_v300 : Ref sig .tc := ⟨.hbm, 352, rfl⟩
abbrev main_v301 : Ref sig .tc := ⟨.hbm, 353, rfl⟩
abbrev main_v302 : Ref sig .tc := ⟨.hbm, 354, rfl⟩
abbrev main_v303 : Ref sig .tc := ⟨.hbm, 355, rfl⟩
abbrev main_v304 : Ref sig .tc := ⟨.hbm, 356, rfl⟩
abbrev main_v305 : Ref sig .tc := ⟨.hbm, 357, rfl⟩
abbrev main_v306 : Ref sig .tc := ⟨.hbm, 358, rfl⟩
abbrev main_v307 : Ref sig .tc := ⟨.hbm, 359, rfl⟩
abbrev main_v308 : Ref sig .tc := ⟨.hbm, 360, rfl⟩
abbrev main_v309 : Ref sig .tc := ⟨.hbm, 361, rfl⟩
abbrev main_v310 : Ref sig .tc := ⟨.hbm, 362, rfl⟩
abbrev main_v311 : Ref sig .tc := ⟨.hbm, 363, rfl⟩
abbrev main_v312 : Ref sig .tc := ⟨.hbm, 364, rfl⟩
abbrev main_v313 : Ref sig .tc := ⟨.hbm, 365, rfl⟩
abbrev main_v314 : Ref sig .tc := ⟨.hbm, 366, rfl⟩
abbrev main_v315 : Ref sig .tc := ⟨.hbm, 367, rfl⟩
abbrev main_v316 : Ref sig .tc := ⟨.hbm, 368, rfl⟩
abbrev main_v317 : Ref sig .tc := ⟨.hbm, 369, rfl⟩
abbrev main_v318 : Ref sig .tc := ⟨.hbm, 370, rfl⟩
abbrev main_v319 : Ref sig .tc := ⟨.hbm, 371, rfl⟩
abbrev main_v320 : Ref sig .tc := ⟨.hbm, 372, rfl⟩
abbrev main_v321 : Ref sig .tc := ⟨.hbm, 373, rfl⟩
abbrev main_v322 : Ref sig .tc := ⟨.hbm, 374, rfl⟩
abbrev main_v323 : Ref sig .tc := ⟨.hbm, 375, rfl⟩
abbrev main_cst_41 : Ref sig .tc := ⟨.hbm, 376, rfl⟩
abbrev main_v324 : Ref sig .tc := ⟨.hbm, 377, rfl⟩
abbrev main_v325 : Ref sig .tc := ⟨.hbm, 378, rfl⟩
abbrev main_cst_42 : Ref sig .tc := ⟨.hbm, 379, rfl⟩
abbrev main_v326 : Ref sig .tc := ⟨.hbm, 380, rfl⟩
abbrev main_v327 : Ref sig .tc := ⟨.hbm, 381, rfl⟩
abbrev main_v328 : Ref sig .tc := ⟨.hbm, 382, rfl⟩
abbrev main_v329 : Ref sig .tc := ⟨.hbm, 383, rfl⟩
abbrev main_cst_43 : Ref sig .tc := ⟨.hbm, 384, rfl⟩
abbrev main_v330 : Ref sig .tc := ⟨.hbm, 385, rfl⟩
abbrev main_v331 : Ref sig .tc := ⟨.hbm, 386, rfl⟩
abbrev main_cst_44 : Ref sig .tc := ⟨.hbm, 387, rfl⟩
abbrev main_v332 : Ref sig .tc := ⟨.hbm, 388, rfl⟩
abbrev main_v333 : Ref sig .tc := ⟨.hbm, 389, rfl⟩
abbrev main_v334 : Ref sig .tc := ⟨.hbm, 390, rfl⟩
abbrev main_v335 : Ref sig .tc := ⟨.hbm, 391, rfl⟩
abbrev main_v336 : Ref sig .tc := ⟨.hbm, 392, rfl⟩
abbrev main_v337 : Ref sig .tc := ⟨.hbm, 393, rfl⟩
abbrev main_v338 : Ref sig .tc := ⟨.hbm, 394, rfl⟩
abbrev main_v339 : Ref sig .tc := ⟨.hbm, 395, rfl⟩
abbrev main_v340 : Ref sig .tc := ⟨.hbm, 396, rfl⟩
abbrev main_cst_45 : Ref sig .tc := ⟨.hbm, 397, rfl⟩
abbrev main_v341 : Ref sig .tc := ⟨.hbm, 398, rfl⟩
abbrev main_v342 : Ref sig .tc := ⟨.hbm, 399, rfl⟩
abbrev main_cst_46 : Ref sig .tc := ⟨.hbm, 400, rfl⟩
abbrev main_v343 : Ref sig .tc := ⟨.hbm, 401, rfl⟩
abbrev main_v344 : Ref sig .tc := ⟨.hbm, 402, rfl⟩
abbrev main_v345 : Ref sig .tc := ⟨.hbm, 403, rfl⟩
abbrev main_v346 : Ref sig .tc := ⟨.hbm, 404, rfl⟩
abbrev main_v347 : Ref sig .tc := ⟨.hbm, 405, rfl⟩
abbrev main_v348 : Ref sig .tc := ⟨.hbm, 406, rfl⟩
abbrev main_v349 : Ref sig .tc := ⟨.hbm, 407, rfl⟩
abbrev main_v350 : Ref sig .tc := ⟨.hbm, 408, rfl⟩
abbrev main_v351 : Ref sig .tc := ⟨.hbm, 409, rfl⟩
abbrev main_v352 : Ref sig .tc := ⟨.hbm, 410, rfl⟩
abbrev main_v353 : Ref sig .tc := ⟨.hbm, 411, rfl⟩
abbrev main_v354 : Ref sig .tc := ⟨.hbm, 412, rfl⟩
abbrev main_v355 : Ref sig .tc := ⟨.hbm, 413, rfl⟩
abbrev main_v356 : Ref sig .tc := ⟨.hbm, 414, rfl⟩
abbrev main_v357 : Ref sig .tc := ⟨.hbm, 415, rfl⟩
abbrev main_v358 : Ref sig .tc := ⟨.hbm, 416, rfl⟩
abbrev main_v359 : Ref sig .tc := ⟨.hbm, 417, rfl⟩
abbrev main_v360 : Ref sig .tc := ⟨.hbm, 418, rfl⟩
abbrev main_v361 : Ref sig .tc := ⟨.hbm, 419, rfl⟩
abbrev main_v362 : Ref sig .tc := ⟨.hbm, 420, rfl⟩
abbrev main_v363 : Ref sig .tc := ⟨.hbm, 421, rfl⟩
abbrev main_v364 : Ref sig .tc := ⟨.hbm, 422, rfl⟩
abbrev main_v365 : Ref sig .tc := ⟨.hbm, 423, rfl⟩
abbrev main_v366 : Ref sig .tc := ⟨.hbm, 424, rfl⟩
abbrev main_v367 : Ref sig .tc := ⟨.hbm, 425, rfl⟩
abbrev main_cst_47 : Ref sig .tc := ⟨.hbm, 426, rfl⟩
abbrev main_v368 : Ref sig .tc := ⟨.hbm, 427, rfl⟩
abbrev main_v369 : Ref sig .tc := ⟨.hbm, 428, rfl⟩
abbrev main_cst_48 : Ref sig .tc := ⟨.hbm, 429, rfl⟩
abbrev main_v370 : Ref sig .tc := ⟨.hbm, 430, rfl⟩
abbrev main_v371 : Ref sig .tc := ⟨.hbm, 431, rfl⟩
abbrev main_v372 : Ref sig .tc := ⟨.hbm, 432, rfl⟩
abbrev main_v373 : Ref sig .tc := ⟨.hbm, 433, rfl⟩
abbrev main_cst_49 : Ref sig .tc := ⟨.hbm, 434, rfl⟩
abbrev main_v374 : Ref sig .tc := ⟨.hbm, 435, rfl⟩
abbrev main_v375 : Ref sig .tc := ⟨.hbm, 436, rfl⟩
abbrev main_cst_50 : Ref sig .tc := ⟨.hbm, 437, rfl⟩
abbrev main_v376 : Ref sig .tc := ⟨.hbm, 438, rfl⟩
abbrev main_v377 : Ref sig .tc := ⟨.hbm, 439, rfl⟩
abbrev main_v378 : Ref sig .tc := ⟨.hbm, 440, rfl⟩
abbrev main_v379 : Ref sig .tc := ⟨.hbm, 441, rfl⟩
abbrev main_v380 : Ref sig .tc := ⟨.hbm, 442, rfl⟩
abbrev main_v381 : Ref sig .tc := ⟨.hbm, 443, rfl⟩
abbrev main_v382 : Ref sig .tc := ⟨.hbm, 444, rfl⟩
abbrev main_v383 : Ref sig .tc := ⟨.hbm, 445, rfl⟩
abbrev main_v384 : Ref sig .tc := ⟨.hbm, 446, rfl⟩
abbrev main_cst_51 : Ref sig .tc := ⟨.hbm, 447, rfl⟩
abbrev main_v385 : Ref sig .tc := ⟨.hbm, 448, rfl⟩
abbrev main_v386 : Ref sig .tc := ⟨.hbm, 449, rfl⟩
abbrev main_cst_52 : Ref sig .tc := ⟨.hbm, 450, rfl⟩
abbrev main_v387 : Ref sig .tc := ⟨.hbm, 451, rfl⟩
abbrev main_v388 : Ref sig .tc := ⟨.hbm, 452, rfl⟩
abbrev main_v389 : Ref sig .tc := ⟨.hbm, 453, rfl⟩
abbrev main_v390 : Ref sig .tc := ⟨.hbm, 454, rfl⟩
abbrev main_v391 : Ref sig .tc := ⟨.hbm, 455, rfl⟩
abbrev main_v392 : Ref sig .tc := ⟨.hbm, 456, rfl⟩
abbrev main_v393 : Ref sig .tc := ⟨.hbm, 457, rfl⟩
abbrev main_v394 : Ref sig .tc := ⟨.hbm, 458, rfl⟩
abbrev main_v395 : Ref sig .tc := ⟨.hbm, 459, rfl⟩
abbrev main_v396 : Ref sig .tc := ⟨.hbm, 460, rfl⟩
abbrev main_v397 : Ref sig .tc := ⟨.hbm, 461, rfl⟩
abbrev main_v398 : Ref sig .tc := ⟨.hbm, 462, rfl⟩
abbrev main_v399 : Ref sig .tc := ⟨.hbm, 463, rfl⟩
abbrev main_v400 : Ref sig .tc := ⟨.hbm, 464, rfl⟩
abbrev main_v401 : Ref sig .tc := ⟨.hbm, 465, rfl⟩
abbrev main_v402 : Ref sig .tc := ⟨.hbm, 466, rfl⟩
abbrev main_v403 : Ref sig .tc := ⟨.hbm, 467, rfl⟩
abbrev main_v404 : Ref sig .tc := ⟨.hbm, 468, rfl⟩
abbrev main_v405 : Ref sig .tc := ⟨.hbm, 469, rfl⟩
abbrev main_v406 : Ref sig .tc := ⟨.hbm, 470, rfl⟩
abbrev main_v407 : Ref sig .tc := ⟨.hbm, 471, rfl⟩
abbrev main_v408 : Ref sig .tc := ⟨.hbm, 472, rfl⟩
abbrev main_v409 : Ref sig .tc := ⟨.hbm, 473, rfl⟩
abbrev main_v410 : Ref sig .tc := ⟨.hbm, 474, rfl⟩
abbrev main_v411 : Ref sig .tc := ⟨.hbm, 475, rfl⟩
abbrev main_cst_53 : Ref sig .tc := ⟨.hbm, 476, rfl⟩
abbrev main_v412 : Ref sig .tc := ⟨.hbm, 477, rfl⟩
abbrev main_v413 : Ref sig .tc := ⟨.hbm, 478, rfl⟩
abbrev main_cst_54 : Ref sig .tc := ⟨.hbm, 479, rfl⟩
abbrev main_v414 : Ref sig .tc := ⟨.hbm, 480, rfl⟩
abbrev main_v415 : Ref sig .tc := ⟨.hbm, 481, rfl⟩
abbrev main_v416 : Ref sig .tc := ⟨.hbm, 482, rfl⟩
abbrev main_v417 : Ref sig .tc := ⟨.hbm, 483, rfl⟩
abbrev main_cst_55 : Ref sig .tc := ⟨.hbm, 484, rfl⟩
abbrev main_v418 : Ref sig .tc := ⟨.hbm, 485, rfl⟩
abbrev main_v419 : Ref sig .tc := ⟨.hbm, 486, rfl⟩
abbrev main_cst_56 : Ref sig .tc := ⟨.hbm, 487, rfl⟩
abbrev main_v420 : Ref sig .tc := ⟨.hbm, 488, rfl⟩
abbrev main_v421 : Ref sig .tc := ⟨.hbm, 489, rfl⟩
abbrev main_v422 : Ref sig .tc := ⟨.hbm, 490, rfl⟩
abbrev main_v423 : Ref sig .tc := ⟨.hbm, 491, rfl⟩
abbrev main_v424 : Ref sig .tc := ⟨.hbm, 492, rfl⟩
abbrev main_v425 : Ref sig .tc := ⟨.hbm, 493, rfl⟩
abbrev main_v426 : Ref sig .tc := ⟨.hbm, 494, rfl⟩
abbrev main_v427 : Ref sig .tc := ⟨.hbm, 495, rfl⟩
abbrev main_v428 : Ref sig .tc := ⟨.hbm, 496, rfl⟩
abbrev main_cst_57 : Ref sig .tc := ⟨.hbm, 497, rfl⟩
abbrev main_v429 : Ref sig .tc := ⟨.hbm, 498, rfl⟩
abbrev main_v430 : Ref sig .tc := ⟨.hbm, 499, rfl⟩
abbrev main_cst_58 : Ref sig .tc := ⟨.hbm, 500, rfl⟩
abbrev main_v431 : Ref sig .tc := ⟨.hbm, 501, rfl⟩
abbrev main_v432 : Ref sig .tc := ⟨.hbm, 502, rfl⟩
abbrev main_v433 : Ref sig .tc := ⟨.hbm, 503, rfl⟩
abbrev main_v434 : Ref sig .tc := ⟨.hbm, 504, rfl⟩
abbrev main_v435 : Ref sig .tc := ⟨.hbm, 505, rfl⟩
abbrev main_v436 : Ref sig .tc := ⟨.hbm, 506, rfl⟩
abbrev main_v437 : Ref sig .tc := ⟨.hbm, 507, rfl⟩
abbrev main_v438 : Ref sig .tc := ⟨.hbm, 508, rfl⟩
abbrev main_v439 : Ref sig .tc := ⟨.hbm, 509, rfl⟩
abbrev main_v440 : Ref sig .tc := ⟨.hbm, 510, rfl⟩
abbrev main_v441 : Ref sig .tc := ⟨.hbm, 511, rfl⟩
abbrev main_v442 : Ref sig .tc := ⟨.hbm, 512, rfl⟩
abbrev main_v443 : Ref sig .tc := ⟨.hbm, 513, rfl⟩
abbrev main_v444 : Ref sig .tc := ⟨.hbm, 514, rfl⟩
abbrev main_v445 : Ref sig .tc := ⟨.hbm, 515, rfl⟩
abbrev main_v446 : Ref sig .tc := ⟨.hbm, 516, rfl⟩
abbrev main_v447 : Ref sig .tc := ⟨.hbm, 517, rfl⟩
abbrev main_v448 : Ref sig .tc := ⟨.hbm, 518, rfl⟩
abbrev main_v449 : Ref sig .tc := ⟨.hbm, 519, rfl⟩
abbrev main_v450 : Ref sig .tc := ⟨.hbm, 520, rfl⟩
abbrev main_v451 : Ref sig .tc := ⟨.hbm, 521, rfl⟩
abbrev main_v452 : Ref sig .tc := ⟨.hbm, 522, rfl⟩
abbrev main_v453 : Ref sig .tc := ⟨.hbm, 523, rfl⟩
abbrev main_v454 : Ref sig .tc := ⟨.hbm, 524, rfl⟩
abbrev main_v455 : Ref sig .tc := ⟨.hbm, 525, rfl⟩
abbrev main_cst_59 : Ref sig .tc := ⟨.hbm, 526, rfl⟩
abbrev main_v456 : Ref sig .tc := ⟨.hbm, 527, rfl⟩
abbrev main_v457 : Ref sig .tc := ⟨.hbm, 528, rfl⟩
abbrev main_cst_60 : Ref sig .tc := ⟨.hbm, 529, rfl⟩
abbrev main_v458 : Ref sig .tc := ⟨.hbm, 530, rfl⟩
abbrev main_v459 : Ref sig .tc := ⟨.hbm, 531, rfl⟩
abbrev main_v460 : Ref sig .tc := ⟨.hbm, 532, rfl⟩
abbrev main_v461 : Ref sig .tc := ⟨.hbm, 533, rfl⟩
abbrev main_cst_61 : Ref sig .tc := ⟨.hbm, 534, rfl⟩
abbrev main_v462 : Ref sig .tc := ⟨.hbm, 535, rfl⟩
abbrev main_v463 : Ref sig .tc := ⟨.hbm, 536, rfl⟩
abbrev main_cst_62 : Ref sig .tc := ⟨.hbm, 537, rfl⟩
abbrev main_v464 : Ref sig .tc := ⟨.hbm, 538, rfl⟩
abbrev main_v465 : Ref sig .tc := ⟨.hbm, 539, rfl⟩
abbrev main_v466 : Ref sig .tc := ⟨.hbm, 540, rfl⟩
abbrev main_v467 : Ref sig .tc := ⟨.hbm, 541, rfl⟩
abbrev main_v468 : Ref sig .tc := ⟨.hbm, 542, rfl⟩
abbrev main_v469 : Ref sig .tc := ⟨.hbm, 543, rfl⟩
abbrev main_v470 : Ref sig .tc := ⟨.hbm, 544, rfl⟩
abbrev main_v471 : Ref sig .tc := ⟨.hbm, 545, rfl⟩
abbrev main_v472 : Ref sig .tc := ⟨.hbm, 546, rfl⟩
abbrev main_cst_63 : Ref sig .tc := ⟨.hbm, 547, rfl⟩
abbrev main_v473 : Ref sig .tc := ⟨.hbm, 548, rfl⟩
abbrev main_v474 : Ref sig .tc := ⟨.hbm, 549, rfl⟩
abbrev main_cst_64 : Ref sig .tc := ⟨.hbm, 550, rfl⟩
abbrev main_v475 : Ref sig .tc := ⟨.hbm, 551, rfl⟩
abbrev main_v476 : Ref sig .tc := ⟨.hbm, 552, rfl⟩
abbrev main_v477 : Ref sig .tc := ⟨.hbm, 553, rfl⟩
abbrev main_v478 : Ref sig .tc := ⟨.hbm, 554, rfl⟩
abbrev main_v479 : Ref sig .tc := ⟨.hbm, 555, rfl⟩
abbrev main_v480 : Ref sig .tc := ⟨.hbm, 556, rfl⟩
abbrev main_v481 : Ref sig .tc := ⟨.hbm, 557, rfl⟩
abbrev main_v482 : Ref sig .tc := ⟨.hbm, 558, rfl⟩
abbrev main_v483 : Ref sig .tc := ⟨.hbm, 559, rfl⟩
abbrev main_v484 : Ref sig .tc := ⟨.hbm, 560, rfl⟩
abbrev main_v485 : Ref sig .tc := ⟨.hbm, 561, rfl⟩
abbrev main_v486 : Ref sig .tc := ⟨.hbm, 562, rfl⟩
abbrev main_v487 : Ref sig .tc := ⟨.hbm, 563, rfl⟩
abbrev main_v488 : Ref sig .tc := ⟨.hbm, 564, rfl⟩
abbrev main_v489 : Ref sig .tc := ⟨.hbm, 565, rfl⟩
abbrev main_v490 : Ref sig .tc := ⟨.hbm, 566, rfl⟩
abbrev main_v491 : Ref sig .tc := ⟨.hbm, 567, rfl⟩
abbrev main_v492 : Ref sig .tc := ⟨.hbm, 568, rfl⟩
abbrev main_v493 : Ref sig .tc := ⟨.hbm, 569, rfl⟩
abbrev main_v494 : Ref sig .tc := ⟨.hbm, 570, rfl⟩
abbrev main_v495 : Ref sig .tc := ⟨.hbm, 571, rfl⟩
abbrev main_v496 : Ref sig .tc := ⟨.hbm, 572, rfl⟩
abbrev main_v497 : Ref sig .tc := ⟨.hbm, 573, rfl⟩
abbrev main_v498 : Ref sig .tc := ⟨.hbm, 574, rfl⟩
abbrev main_v499 : Ref sig .tc := ⟨.hbm, 575, rfl⟩
abbrev main_cst_65 : Ref sig .tc := ⟨.hbm, 576, rfl⟩
abbrev main_v500 : Ref sig .tc := ⟨.hbm, 577, rfl⟩
abbrev main_v501 : Ref sig .tc := ⟨.hbm, 578, rfl⟩
abbrev main_cst_66 : Ref sig .tc := ⟨.hbm, 579, rfl⟩
abbrev main_v502 : Ref sig .tc := ⟨.hbm, 580, rfl⟩
abbrev main_v503 : Ref sig .tc := ⟨.hbm, 581, rfl⟩
abbrev main_v504 : Ref sig .tc := ⟨.hbm, 582, rfl⟩
abbrev main_v505 : Ref sig .tc := ⟨.hbm, 583, rfl⟩
abbrev main_cst_67 : Ref sig .tc := ⟨.hbm, 584, rfl⟩
abbrev main_v506 : Ref sig .tc := ⟨.hbm, 585, rfl⟩
abbrev main_v507 : Ref sig .tc := ⟨.hbm, 586, rfl⟩
abbrev main_cst_68 : Ref sig .tc := ⟨.hbm, 587, rfl⟩
abbrev main_v508 : Ref sig .tc := ⟨.hbm, 588, rfl⟩
abbrev main_v509 : Ref sig .tc := ⟨.hbm, 589, rfl⟩
abbrev main_v510 : Ref sig .tc := ⟨.hbm, 590, rfl⟩
abbrev main_v511 : Ref sig .tc := ⟨.hbm, 591, rfl⟩
abbrev main_v512 : Ref sig .tc := ⟨.hbm, 592, rfl⟩
abbrev main_v513 : Ref sig .tc := ⟨.hbm, 593, rfl⟩
abbrev main_v514 : Ref sig .tc := ⟨.hbm, 594, rfl⟩
abbrev main_v515 : Ref sig .tc := ⟨.hbm, 595, rfl⟩
abbrev main_v516 : Ref sig .tc := ⟨.hbm, 596, rfl⟩
abbrev main_cst_69 : Ref sig .tc := ⟨.hbm, 597, rfl⟩
abbrev main_v517 : Ref sig .tc := ⟨.hbm, 598, rfl⟩
abbrev main_v518 : Ref sig .tc := ⟨.hbm, 599, rfl⟩
abbrev main_cst_70 : Ref sig .tc := ⟨.hbm, 600, rfl⟩
abbrev main_v519 : Ref sig .tc := ⟨.hbm, 601, rfl⟩
abbrev main_v520 : Ref sig .tc := ⟨.hbm, 602, rfl⟩
abbrev main_v521 : Ref sig .tc := ⟨.hbm, 603, rfl⟩
abbrev main_v522 : Ref sig .tc := ⟨.hbm, 604, rfl⟩
abbrev main_v523 : Ref sig .tc := ⟨.hbm, 605, rfl⟩
abbrev main_v524 : Ref sig .tc := ⟨.hbm, 606, rfl⟩
abbrev main_v525 : Ref sig .tc := ⟨.hbm, 607, rfl⟩
abbrev main_v526 : Ref sig .tc := ⟨.hbm, 608, rfl⟩
abbrev main_v527 : Ref sig .tc := ⟨.hbm, 609, rfl⟩
abbrev main_v528 : Ref sig .tc := ⟨.hbm, 610, rfl⟩
abbrev main_v529 : Ref sig .tc := ⟨.hbm, 611, rfl⟩
abbrev main_v530 : Ref sig .tc := ⟨.hbm, 612, rfl⟩
abbrev main_v531 : Ref sig .tc := ⟨.hbm, 613, rfl⟩
abbrev main_v532 : Ref sig .tc := ⟨.hbm, 614, rfl⟩
abbrev main_v533 : Ref sig .tc := ⟨.hbm, 615, rfl⟩
abbrev main_v534 : Ref sig .tc := ⟨.hbm, 616, rfl⟩
abbrev main_v535 : Ref sig .tc := ⟨.hbm, 617, rfl⟩
abbrev main_v536 : Ref sig .tc := ⟨.hbm, 618, rfl⟩
abbrev main_v537 : Ref sig .tc := ⟨.hbm, 619, rfl⟩
abbrev main_v538 : Ref sig .tc := ⟨.hbm, 620, rfl⟩
abbrev main_v539 : Ref sig .tc := ⟨.hbm, 621, rfl⟩
abbrev main_v540 : Ref sig .tc := ⟨.hbm, 622, rfl⟩
abbrev main_v541 : Ref sig .tc := ⟨.hbm, 623, rfl⟩
abbrev main_v542 : Ref sig .tc := ⟨.hbm, 624, rfl⟩
abbrev main_v543 : Ref sig .tc := ⟨.hbm, 625, rfl⟩
abbrev main_cst_71 : Ref sig .tc := ⟨.hbm, 626, rfl⟩
abbrev main_v544 : Ref sig .tc := ⟨.hbm, 627, rfl⟩
abbrev main_v545 : Ref sig .tc := ⟨.hbm, 628, rfl⟩
abbrev main_cst_72 : Ref sig .tc := ⟨.hbm, 629, rfl⟩
abbrev main_v546 : Ref sig .tc := ⟨.hbm, 630, rfl⟩
abbrev main_v547 : Ref sig .tc := ⟨.hbm, 631, rfl⟩
abbrev main_v548 : Ref sig .tc := ⟨.hbm, 632, rfl⟩
abbrev main_v549 : Ref sig .tc := ⟨.hbm, 633, rfl⟩
abbrev main_cst_73 : Ref sig .tc := ⟨.hbm, 634, rfl⟩
abbrev main_v550 : Ref sig .tc := ⟨.hbm, 635, rfl⟩
abbrev main_v551 : Ref sig .tc := ⟨.hbm, 636, rfl⟩
abbrev main_cst_74 : Ref sig .tc := ⟨.hbm, 637, rfl⟩
abbrev main_v552 : Ref sig .tc := ⟨.hbm, 638, rfl⟩
abbrev main_v553 : Ref sig .tc := ⟨.hbm, 639, rfl⟩
abbrev main_v554 : Ref sig .tc := ⟨.hbm, 640, rfl⟩
abbrev main_v555 : Ref sig .tc := ⟨.hbm, 641, rfl⟩
abbrev main_v556 : Ref sig .tc := ⟨.hbm, 642, rfl⟩
abbrev main_v557 : Ref sig .tc := ⟨.hbm, 643, rfl⟩
abbrev main_v558 : Ref sig .tc := ⟨.hbm, 644, rfl⟩
abbrev main_v559 : Ref sig .tc := ⟨.hbm, 645, rfl⟩
abbrev main_v560 : Ref sig .tc := ⟨.hbm, 646, rfl⟩
abbrev main_cst_75 : Ref sig .tc := ⟨.hbm, 647, rfl⟩
abbrev main_v561 : Ref sig .tc := ⟨.hbm, 648, rfl⟩
abbrev main_v562 : Ref sig .tc := ⟨.hbm, 649, rfl⟩
abbrev main_cst_76 : Ref sig .tc := ⟨.hbm, 650, rfl⟩
abbrev main_v563 : Ref sig .tc := ⟨.hbm, 651, rfl⟩
abbrev main_v564 : Ref sig .tc := ⟨.hbm, 652, rfl⟩
abbrev main_v565 : Ref sig .tc := ⟨.hbm, 653, rfl⟩
abbrev main_v566 : Ref sig .tc := ⟨.hbm, 654, rfl⟩
abbrev main_v567 : Ref sig .tc := ⟨.hbm, 655, rfl⟩
abbrev main_v568 : Ref sig .tc := ⟨.hbm, 656, rfl⟩
abbrev main_v569 : Ref sig .tc := ⟨.hbm, 657, rfl⟩
abbrev main_v570 : Ref sig .tc := ⟨.hbm, 658, rfl⟩
abbrev main_v571 : Ref sig .tc := ⟨.hbm, 659, rfl⟩
abbrev main_v572 : Ref sig .tc := ⟨.hbm, 660, rfl⟩
abbrev main_v573 : Ref sig .tc := ⟨.hbm, 661, rfl⟩
abbrev main_v574 : Ref sig .tc := ⟨.hbm, 662, rfl⟩
abbrev main_v575 : Ref sig .tc := ⟨.hbm, 663, rfl⟩
abbrev main_v576 : Ref sig .tc := ⟨.hbm, 664, rfl⟩
abbrev main_v577 : Ref sig .tc := ⟨.hbm, 665, rfl⟩
abbrev main_v578 : Ref sig .tc := ⟨.hbm, 666, rfl⟩
abbrev main_v579 : Ref sig .tc := ⟨.hbm, 667, rfl⟩
abbrev main_v580 : Ref sig .tc := ⟨.hbm, 668, rfl⟩
abbrev main_v581 : Ref sig .tc := ⟨.hbm, 669, rfl⟩
abbrev main_v582 : Ref sig .tc := ⟨.hbm, 670, rfl⟩
abbrev main_v583 : Ref sig .tc := ⟨.hbm, 671, rfl⟩
abbrev main_v584 : Ref sig .tc := ⟨.hbm, 672, rfl⟩
abbrev main_v585 : Ref sig .tc := ⟨.hbm, 673, rfl⟩
abbrev main_v586 : Ref sig .tc := ⟨.hbm, 674, rfl⟩
abbrev main_v587 : Ref sig .tc := ⟨.hbm, 675, rfl⟩
abbrev main_cst_77 : Ref sig .tc := ⟨.hbm, 676, rfl⟩
abbrev main_v588 : Ref sig .tc := ⟨.hbm, 677, rfl⟩
abbrev main_v589 : Ref sig .tc := ⟨.hbm, 678, rfl⟩
abbrev main_cst_78 : Ref sig .tc := ⟨.hbm, 679, rfl⟩
abbrev main_v590 : Ref sig .tc := ⟨.hbm, 680, rfl⟩
abbrev main_v591 : Ref sig .tc := ⟨.hbm, 681, rfl⟩
abbrev main_v592 : Ref sig .tc := ⟨.hbm, 682, rfl⟩
abbrev main_v593 : Ref sig .tc := ⟨.hbm, 683, rfl⟩
abbrev main_cst_79 : Ref sig .tc := ⟨.hbm, 684, rfl⟩
abbrev main_v594 : Ref sig .tc := ⟨.hbm, 685, rfl⟩
abbrev main_v595 : Ref sig .tc := ⟨.hbm, 686, rfl⟩
abbrev main_cst_80 : Ref sig .tc := ⟨.hbm, 687, rfl⟩
abbrev main_v596 : Ref sig .tc := ⟨.hbm, 688, rfl⟩
abbrev main_v597 : Ref sig .tc := ⟨.hbm, 689, rfl⟩
abbrev main_v598 : Ref sig .tc := ⟨.hbm, 690, rfl⟩
abbrev main_v599 : Ref sig .tc := ⟨.hbm, 691, rfl⟩
abbrev main_v600 : Ref sig .tc := ⟨.hbm, 692, rfl⟩
abbrev main_v601 : Ref sig .tc := ⟨.hbm, 693, rfl⟩
abbrev main_v602 : Ref sig .tc := ⟨.hbm, 694, rfl⟩
abbrev main_v603 : Ref sig .tc := ⟨.hbm, 695, rfl⟩
abbrev main_v604 : Ref sig .tc := ⟨.hbm, 696, rfl⟩
abbrev main_cst_81 : Ref sig .tc := ⟨.hbm, 697, rfl⟩
abbrev main_v605 : Ref sig .tc := ⟨.hbm, 698, rfl⟩
abbrev main_v606 : Ref sig .tc := ⟨.hbm, 699, rfl⟩
abbrev main_cst_82 : Ref sig .tc := ⟨.hbm, 700, rfl⟩
abbrev main_v607 : Ref sig .tc := ⟨.hbm, 701, rfl⟩
abbrev main_v608 : Ref sig .tc := ⟨.hbm, 702, rfl⟩
abbrev main_v609 : Ref sig .tc := ⟨.hbm, 703, rfl⟩
abbrev main_v610 : Ref sig .tc := ⟨.hbm, 704, rfl⟩
abbrev main_v611 : Ref sig .tc := ⟨.hbm, 705, rfl⟩
abbrev main_v612 : Ref sig .tc := ⟨.hbm, 706, rfl⟩
abbrev main_v613 : Ref sig .tc := ⟨.hbm, 707, rfl⟩
abbrev main_v614 : Ref sig .tc := ⟨.hbm, 708, rfl⟩
abbrev main_v615 : Ref sig .tc := ⟨.hbm, 709, rfl⟩
abbrev main_v616 : Ref sig .tc := ⟨.hbm, 710, rfl⟩
abbrev main_v617 : Ref sig .tc := ⟨.hbm, 711, rfl⟩
abbrev main_v618 : Ref sig .tc := ⟨.hbm, 712, rfl⟩
abbrev main_v619 : Ref sig .tc := ⟨.hbm, 713, rfl⟩
abbrev main_v620 : Ref sig .tc := ⟨.hbm, 714, rfl⟩
abbrev main_v621 : Ref sig .tc := ⟨.hbm, 715, rfl⟩
abbrev main_v622 : Ref sig .tc := ⟨.hbm, 716, rfl⟩
abbrev main_v623 : Ref sig .tc := ⟨.hbm, 717, rfl⟩
abbrev main_v624 : Ref sig .tc := ⟨.hbm, 718, rfl⟩
abbrev main_v625 : Ref sig .tc := ⟨.hbm, 719, rfl⟩
abbrev main_v626 : Ref sig .tc := ⟨.hbm, 720, rfl⟩
abbrev main_v627 : Ref sig .tc := ⟨.hbm, 721, rfl⟩
abbrev main_v628 : Ref sig .tc := ⟨.hbm, 722, rfl⟩
abbrev main_v629 : Ref sig .tc := ⟨.hbm, 723, rfl⟩
abbrev main_v630 : Ref sig .tc := ⟨.hbm, 724, rfl⟩
abbrev main_cst_83 : Ref sig .tc := ⟨.hbm, 725, rfl⟩
abbrev main_v631 : Ref sig .tc := ⟨.hbm, 726, rfl⟩
abbrev main_v632 : Ref sig .tc := ⟨.hbm, 727, rfl⟩
abbrev main_cst_84 : Ref sig .tc := ⟨.hbm, 728, rfl⟩
abbrev main_v633 : Ref sig .tc := ⟨.hbm, 729, rfl⟩
abbrev main_v634 : Ref sig .tc := ⟨.hbm, 730, rfl⟩
abbrev main_v635 : Ref sig .tc := ⟨.hbm, 731, rfl⟩
abbrev main_v636 : Ref sig .tc := ⟨.hbm, 732, rfl⟩
abbrev main_cst_85 : Ref sig .tc := ⟨.hbm, 733, rfl⟩
abbrev main_v637 : Ref sig .tc := ⟨.hbm, 734, rfl⟩
abbrev main_v638 : Ref sig .tc := ⟨.hbm, 735, rfl⟩
abbrev main_cst_86 : Ref sig .tc := ⟨.hbm, 736, rfl⟩
abbrev main_v639 : Ref sig .tc := ⟨.hbm, 737, rfl⟩
abbrev main_v640 : Ref sig .tc := ⟨.hbm, 738, rfl⟩
abbrev main_v641 : Ref sig .tc := ⟨.hbm, 739, rfl⟩
abbrev main_v642 : Ref sig .tc := ⟨.hbm, 740, rfl⟩
abbrev main_v643 : Ref sig .tc := ⟨.hbm, 741, rfl⟩
abbrev main_v644 : Ref sig .tc := ⟨.hbm, 742, rfl⟩
abbrev main_v645 : Ref sig .tc := ⟨.hbm, 743, rfl⟩
abbrev main_v646 : Ref sig .tc := ⟨.hbm, 744, rfl⟩
abbrev main_cst_87 : Ref sig .tc := ⟨.hbm, 745, rfl⟩
abbrev main_v647 : Ref sig .tc := ⟨.hbm, 746, rfl⟩
abbrev main_v648 : Ref sig .tc := ⟨.hbm, 747, rfl⟩
abbrev main_cst_88 : Ref sig .tc := ⟨.hbm, 748, rfl⟩
abbrev main_v649 : Ref sig .tc := ⟨.hbm, 749, rfl⟩
abbrev main_v650 : Ref sig .tc := ⟨.hbm, 750, rfl⟩
abbrev main_v651 : Ref sig .tc := ⟨.hbm, 751, rfl⟩
abbrev main_v652 : Ref sig .tc := ⟨.hbm, 752, rfl⟩
abbrev main_v653 : Ref sig .tc := ⟨.hbm, 753, rfl⟩
abbrev main_v654 : Ref sig .tc := ⟨.hbm, 754, rfl⟩
abbrev main_v655 : Ref sig .tc := ⟨.hbm, 755, rfl⟩
abbrev main_v656 : Ref sig .tc := ⟨.hbm, 756, rfl⟩
abbrev main_v657 : Ref sig .tc := ⟨.hbm, 757, rfl⟩
abbrev main_v658 : Ref sig .tc := ⟨.hbm, 758, rfl⟩
abbrev main_v659 : Ref sig .tc := ⟨.hbm, 759, rfl⟩
abbrev main_v660 : Ref sig .tc := ⟨.hbm, 760, rfl⟩
abbrev main_v661 : Ref sig .tc := ⟨.hbm, 761, rfl⟩
abbrev main_v662 : Ref sig .tc := ⟨.hbm, 762, rfl⟩
abbrev main_v663 : Ref sig .tc := ⟨.hbm, 763, rfl⟩
abbrev main_v664 : Ref sig .tc := ⟨.hbm, 764, rfl⟩
abbrev main_v665 : Ref sig .tc := ⟨.hbm, 765, rfl⟩
abbrev main_v666 : Ref sig .tc := ⟨.hbm, 766, rfl⟩
abbrev main_v667 : Ref sig .tc := ⟨.hbm, 767, rfl⟩
abbrev main_v668 : Ref sig .tc := ⟨.hbm, 768, rfl⟩
abbrev main_v669 : Ref sig .tc := ⟨.hbm, 769, rfl⟩
abbrev main_v670 : Ref sig .tc := ⟨.hbm, 770, rfl⟩
abbrev main_v671 : Ref sig .tc := ⟨.hbm, 771, rfl⟩
abbrev main_v672 : Ref sig .tc := ⟨.hbm, 772, rfl⟩
abbrev main_v673 : Ref sig .tc := ⟨.hbm, 773, rfl⟩
abbrev main_v674 : Ref sig .tc := ⟨.hbm, 774, rfl⟩
abbrev main_v675 : Ref sig .tc := ⟨.hbm, 775, rfl⟩
abbrev main_cst_89 : Ref sig .tc := ⟨.hbm, 776, rfl⟩
abbrev main_v676 : Ref sig .tc := ⟨.hbm, 777, rfl⟩
abbrev main_v677 : Ref sig .tc := ⟨.hbm, 778, rfl⟩
abbrev main_cst_90 : Ref sig .tc := ⟨.hbm, 779, rfl⟩
abbrev main_v678 : Ref sig .tc := ⟨.hbm, 780, rfl⟩
abbrev main_v679 : Ref sig .tc := ⟨.hbm, 781, rfl⟩
abbrev main_v680 : Ref sig .tc := ⟨.hbm, 782, rfl⟩
abbrev main_v681 : Ref sig .tc := ⟨.hbm, 783, rfl⟩
abbrev main_cst_91 : Ref sig .tc := ⟨.hbm, 784, rfl⟩
abbrev main_v682 : Ref sig .tc := ⟨.hbm, 785, rfl⟩
abbrev main_v683 : Ref sig .tc := ⟨.hbm, 786, rfl⟩
abbrev main_cst_92 : Ref sig .tc := ⟨.hbm, 787, rfl⟩
abbrev main_v684 : Ref sig .tc := ⟨.hbm, 788, rfl⟩
abbrev main_v685 : Ref sig .tc := ⟨.hbm, 789, rfl⟩
abbrev main_v686 : Ref sig .tc := ⟨.hbm, 790, rfl⟩
abbrev main_v687 : Ref sig .tc := ⟨.hbm, 791, rfl⟩
abbrev main_v688 : Ref sig .tc := ⟨.hbm, 792, rfl⟩
abbrev main_v689 : Ref sig .tc := ⟨.hbm, 793, rfl⟩
abbrev main_v690 : Ref sig .tc := ⟨.hbm, 794, rfl⟩
abbrev main_v691 : Ref sig .tc := ⟨.hbm, 795, rfl⟩
abbrev main_v692 : Ref sig .tc := ⟨.hbm, 796, rfl⟩
abbrev main_cst_93 : Ref sig .tc := ⟨.hbm, 797, rfl⟩
abbrev main_v693 : Ref sig .tc := ⟨.hbm, 798, rfl⟩
abbrev main_v694 : Ref sig .tc := ⟨.hbm, 799, rfl⟩
abbrev main_cst_94 : Ref sig .tc := ⟨.hbm, 800, rfl⟩
abbrev main_v695 : Ref sig .tc := ⟨.hbm, 801, rfl⟩
abbrev main_v696 : Ref sig .tc := ⟨.hbm, 802, rfl⟩
abbrev main_v697 : Ref sig .tc := ⟨.hbm, 803, rfl⟩
abbrev main_v698 : Ref sig .tc := ⟨.hbm, 804, rfl⟩
abbrev main_v699 : Ref sig .tc := ⟨.hbm, 805, rfl⟩
abbrev main_v700 : Ref sig .tc := ⟨.hbm, 806, rfl⟩
abbrev main_v701 : Ref sig .tc := ⟨.hbm, 807, rfl⟩
abbrev main_v702 : Ref sig .tc := ⟨.hbm, 808, rfl⟩
abbrev main_v703 : Ref sig .tc := ⟨.hbm, 809, rfl⟩
abbrev main_v704 : Ref sig .tc := ⟨.hbm, 810, rfl⟩
abbrev main_v705 : Ref sig .tc := ⟨.hbm, 811, rfl⟩
abbrev main_v706 : Ref sig .tc := ⟨.hbm, 812, rfl⟩
abbrev main_v707 : Ref sig .tc := ⟨.hbm, 813, rfl⟩
abbrev main_v708 : Ref sig .tc := ⟨.hbm, 814, rfl⟩
abbrev main_v709 : Ref sig .tc := ⟨.hbm, 815, rfl⟩
abbrev main_v710 : Ref sig .tc := ⟨.hbm, 816, rfl⟩
abbrev main_v711 : Ref sig .tc := ⟨.hbm, 817, rfl⟩
abbrev main_v712 : Ref sig .tc := ⟨.hbm, 818, rfl⟩
abbrev main_v713 : Ref sig .tc := ⟨.hbm, 819, rfl⟩
abbrev main_v714 : Ref sig .tc := ⟨.hbm, 820, rfl⟩
abbrev main_v715 : Ref sig .tc := ⟨.hbm, 821, rfl⟩
abbrev main_v716 : Ref sig .tc := ⟨.hbm, 822, rfl⟩
abbrev main_v717 : Ref sig .tc := ⟨.hbm, 823, rfl⟩
abbrev main_v718 : Ref sig .tc := ⟨.hbm, 824, rfl⟩
abbrev main_v719 : Ref sig .tc := ⟨.hbm, 825, rfl⟩
abbrev main_cst_95 : Ref sig .tc := ⟨.hbm, 826, rfl⟩
abbrev main_v720 : Ref sig .tc := ⟨.hbm, 827, rfl⟩
abbrev main_v721 : Ref sig .tc := ⟨.hbm, 828, rfl⟩
abbrev main_cst_96 : Ref sig .tc := ⟨.hbm, 829, rfl⟩
abbrev main_v722 : Ref sig .tc := ⟨.hbm, 830, rfl⟩
abbrev main_v723 : Ref sig .tc := ⟨.hbm, 831, rfl⟩
abbrev main_v724 : Ref sig .tc := ⟨.hbm, 832, rfl⟩
abbrev main_v725 : Ref sig .tc := ⟨.hbm, 833, rfl⟩
abbrev main_cst_97 : Ref sig .tc := ⟨.hbm, 834, rfl⟩
abbrev main_v726 : Ref sig .tc := ⟨.hbm, 835, rfl⟩
abbrev main_v727 : Ref sig .tc := ⟨.hbm, 836, rfl⟩
abbrev main_cst_98 : Ref sig .tc := ⟨.hbm, 837, rfl⟩
abbrev main_v728 : Ref sig .tc := ⟨.hbm, 838, rfl⟩
abbrev main_v729 : Ref sig .tc := ⟨.hbm, 839, rfl⟩
abbrev main_v730 : Ref sig .tc := ⟨.hbm, 840, rfl⟩
abbrev main_v731 : Ref sig .tc := ⟨.hbm, 841, rfl⟩
abbrev main_v732 : Ref sig .tc := ⟨.hbm, 842, rfl⟩
abbrev main_v733 : Ref sig .tc := ⟨.hbm, 843, rfl⟩
abbrev main_v734 : Ref sig .tc := ⟨.hbm, 844, rfl⟩
abbrev main_v735 : Ref sig .tc := ⟨.hbm, 845, rfl⟩
abbrev main_v736 : Ref sig .tc := ⟨.hbm, 846, rfl⟩
abbrev main_cst_99 : Ref sig .tc := ⟨.hbm, 847, rfl⟩
abbrev main_v737 : Ref sig .tc := ⟨.hbm, 848, rfl⟩
abbrev main_v738 : Ref sig .tc := ⟨.hbm, 849, rfl⟩
abbrev main_cst_100 : Ref sig .tc := ⟨.hbm, 850, rfl⟩
abbrev main_v739 : Ref sig .tc := ⟨.hbm, 851, rfl⟩
abbrev main_v740 : Ref sig .tc := ⟨.hbm, 852, rfl⟩
abbrev main_v741 : Ref sig .tc := ⟨.hbm, 853, rfl⟩
abbrev main_v742 : Ref sig .tc := ⟨.hbm, 854, rfl⟩
abbrev main_v743 : Ref sig .tc := ⟨.hbm, 855, rfl⟩
abbrev main_v744 : Ref sig .tc := ⟨.hbm, 856, rfl⟩
abbrev main_v745 : Ref sig .tc := ⟨.hbm, 857, rfl⟩
abbrev main_v746 : Ref sig .tc := ⟨.hbm, 858, rfl⟩
abbrev main_v747 : Ref sig .tc := ⟨.hbm, 859, rfl⟩
abbrev main_v748 : Ref sig .tc := ⟨.hbm, 860, rfl⟩
abbrev main_v749 : Ref sig .tc := ⟨.hbm, 861, rfl⟩
abbrev main_v750 : Ref sig .tc := ⟨.hbm, 862, rfl⟩
abbrev main_v751 : Ref sig .tc := ⟨.hbm, 863, rfl⟩
abbrev main_v752 : Ref sig .tc := ⟨.hbm, 864, rfl⟩
abbrev main_v753 : Ref sig .tc := ⟨.hbm, 865, rfl⟩
abbrev main_v754 : Ref sig .tc := ⟨.hbm, 866, rfl⟩
abbrev main_v755 : Ref sig .tc := ⟨.hbm, 867, rfl⟩
abbrev main_v756 : Ref sig .tc := ⟨.hbm, 868, rfl⟩
abbrev main_v757 : Ref sig .tc := ⟨.hbm, 869, rfl⟩
abbrev main_v758 : Ref sig .tc := ⟨.hbm, 870, rfl⟩
abbrev main_v759 : Ref sig .tc := ⟨.hbm, 871, rfl⟩
abbrev main_v760 : Ref sig .tc := ⟨.hbm, 872, rfl⟩
abbrev main_v761 : Ref sig .tc := ⟨.hbm, 873, rfl⟩
abbrev main_v762 : Ref sig .tc := ⟨.hbm, 874, rfl⟩
abbrev main_v763 : Ref sig .tc := ⟨.hbm, 875, rfl⟩
abbrev main_cst_101 : Ref sig .tc := ⟨.hbm, 876, rfl⟩
abbrev main_v764 : Ref sig .tc := ⟨.hbm, 877, rfl⟩
abbrev main_v765 : Ref sig .tc := ⟨.hbm, 878, rfl⟩
abbrev main_cst_102 : Ref sig .tc := ⟨.hbm, 879, rfl⟩
abbrev main_v766 : Ref sig .tc := ⟨.hbm, 880, rfl⟩
abbrev main_v767 : Ref sig .tc := ⟨.hbm, 881, rfl⟩
abbrev main_v768 : Ref sig .tc := ⟨.hbm, 882, rfl⟩
abbrev main_v769 : Ref sig .tc := ⟨.hbm, 883, rfl⟩
abbrev main_cst_103 : Ref sig .tc := ⟨.hbm, 884, rfl⟩
abbrev main_v770 : Ref sig .tc := ⟨.hbm, 885, rfl⟩
abbrev main_v771 : Ref sig .tc := ⟨.hbm, 886, rfl⟩
abbrev main_cst_104 : Ref sig .tc := ⟨.hbm, 887, rfl⟩
abbrev main_v772 : Ref sig .tc := ⟨.hbm, 888, rfl⟩
abbrev main_v773 : Ref sig .tc := ⟨.hbm, 889, rfl⟩
abbrev main_v774 : Ref sig .tc := ⟨.hbm, 890, rfl⟩
abbrev main_v775 : Ref sig .tc := ⟨.hbm, 891, rfl⟩
abbrev main_v776 : Ref sig .tc := ⟨.hbm, 892, rfl⟩
abbrev main_v777 : Ref sig .tc := ⟨.hbm, 893, rfl⟩
abbrev main_v778 : Ref sig .tc := ⟨.hbm, 894, rfl⟩
abbrev main_v779 : Ref sig .tc := ⟨.hbm, 895, rfl⟩
abbrev main_v780 : Ref sig .tc := ⟨.hbm, 896, rfl⟩
abbrev main_cst_105 : Ref sig .tc := ⟨.hbm, 897, rfl⟩
abbrev main_v781 : Ref sig .tc := ⟨.hbm, 898, rfl⟩
abbrev main_v782 : Ref sig .tc := ⟨.hbm, 899, rfl⟩
abbrev main_cst_106 : Ref sig .tc := ⟨.hbm, 900, rfl⟩
abbrev main_v783 : Ref sig .tc := ⟨.hbm, 901, rfl⟩
abbrev main_v784 : Ref sig .tc := ⟨.hbm, 902, rfl⟩
abbrev main_v785 : Ref sig .tc := ⟨.hbm, 903, rfl⟩
abbrev main_v786 : Ref sig .tc := ⟨.hbm, 904, rfl⟩
abbrev main_v787 : Ref sig .tc := ⟨.hbm, 905, rfl⟩
abbrev main_v788 : Ref sig .tc := ⟨.hbm, 906, rfl⟩
abbrev main_v789 : Ref sig .tc := ⟨.hbm, 907, rfl⟩
abbrev main_v790 : Ref sig .tc := ⟨.hbm, 908, rfl⟩
abbrev main_v791 : Ref sig .tc := ⟨.hbm, 909, rfl⟩
abbrev main_v792 : Ref sig .tc := ⟨.hbm, 910, rfl⟩
abbrev main_v793 : Ref sig .tc := ⟨.hbm, 911, rfl⟩
abbrev main_v794 : Ref sig .tc := ⟨.hbm, 912, rfl⟩
abbrev main_v795 : Ref sig .tc := ⟨.hbm, 913, rfl⟩
abbrev main_v796 : Ref sig .tc := ⟨.hbm, 914, rfl⟩
abbrev main_v797 : Ref sig .tc := ⟨.hbm, 915, rfl⟩
abbrev main_v798 : Ref sig .tc := ⟨.hbm, 916, rfl⟩
abbrev main_v799 : Ref sig .tc := ⟨.hbm, 917, rfl⟩
abbrev main_v800 : Ref sig .tc := ⟨.hbm, 918, rfl⟩
abbrev main_v801 : Ref sig .tc := ⟨.hbm, 919, rfl⟩
abbrev main_v802 : Ref sig .tc := ⟨.hbm, 920, rfl⟩
abbrev main_v803 : Ref sig .tc := ⟨.hbm, 921, rfl⟩
abbrev main_v804 : Ref sig .tc := ⟨.hbm, 922, rfl⟩
abbrev main_v805 : Ref sig .tc := ⟨.hbm, 923, rfl⟩
abbrev main_v806 : Ref sig .tc := ⟨.hbm, 924, rfl⟩
abbrev main_v807 : Ref sig .tc := ⟨.hbm, 925, rfl⟩
abbrev main_cst_107 : Ref sig .tc := ⟨.hbm, 926, rfl⟩
abbrev main_v808 : Ref sig .tc := ⟨.hbm, 927, rfl⟩
abbrev main_v809 : Ref sig .tc := ⟨.hbm, 928, rfl⟩
abbrev main_cst_108 : Ref sig .tc := ⟨.hbm, 929, rfl⟩
abbrev main_v810 : Ref sig .tc := ⟨.hbm, 930, rfl⟩
abbrev main_v811 : Ref sig .tc := ⟨.hbm, 931, rfl⟩
abbrev main_v812 : Ref sig .tc := ⟨.hbm, 932, rfl⟩
abbrev main_v813 : Ref sig .tc := ⟨.hbm, 933, rfl⟩
abbrev main_cst_109 : Ref sig .tc := ⟨.hbm, 934, rfl⟩
abbrev main_v814 : Ref sig .tc := ⟨.hbm, 935, rfl⟩
abbrev main_v815 : Ref sig .tc := ⟨.hbm, 936, rfl⟩
abbrev main_cst_110 : Ref sig .tc := ⟨.hbm, 937, rfl⟩
abbrev main_v816 : Ref sig .tc := ⟨.hbm, 938, rfl⟩
abbrev main_v817 : Ref sig .tc := ⟨.hbm, 939, rfl⟩
abbrev main_v818 : Ref sig .tc := ⟨.hbm, 940, rfl⟩
abbrev main_v819 : Ref sig .tc := ⟨.hbm, 941, rfl⟩
abbrev main_v820 : Ref sig .tc := ⟨.hbm, 942, rfl⟩
abbrev main_v821 : Ref sig .tc := ⟨.hbm, 943, rfl⟩
abbrev main_v822 : Ref sig .tc := ⟨.hbm, 944, rfl⟩
abbrev main_v823 : Ref sig .tc := ⟨.hbm, 945, rfl⟩
abbrev main_v824 : Ref sig .tc := ⟨.hbm, 946, rfl⟩
abbrev main_cst_111 : Ref sig .tc := ⟨.hbm, 947, rfl⟩
abbrev main_v825 : Ref sig .tc := ⟨.hbm, 948, rfl⟩
abbrev main_v826 : Ref sig .tc := ⟨.hbm, 949, rfl⟩
abbrev main_cst_112 : Ref sig .tc := ⟨.hbm, 950, rfl⟩
abbrev main_v827 : Ref sig .tc := ⟨.hbm, 951, rfl⟩
abbrev main_v828 : Ref sig .tc := ⟨.hbm, 952, rfl⟩
abbrev main_v829 : Ref sig .tc := ⟨.hbm, 953, rfl⟩
abbrev main_v830 : Ref sig .tc := ⟨.hbm, 954, rfl⟩
abbrev main_v831 : Ref sig .tc := ⟨.hbm, 955, rfl⟩
abbrev main_v832 : Ref sig .tc := ⟨.hbm, 956, rfl⟩
abbrev main_v833 : Ref sig .tc := ⟨.hbm, 957, rfl⟩
abbrev main_v834 : Ref sig .tc := ⟨.hbm, 958, rfl⟩
abbrev main_v835 : Ref sig .tc := ⟨.hbm, 959, rfl⟩
abbrev main_v836 : Ref sig .tc := ⟨.hbm, 960, rfl⟩
abbrev main_v837 : Ref sig .tc := ⟨.hbm, 961, rfl⟩
abbrev main_v838 : Ref sig .tc := ⟨.hbm, 962, rfl⟩
abbrev main_v839 : Ref sig .tc := ⟨.hbm, 963, rfl⟩
abbrev main_v840 : Ref sig .tc := ⟨.hbm, 964, rfl⟩
abbrev main_v841 : Ref sig .tc := ⟨.hbm, 965, rfl⟩
abbrev main_v842 : Ref sig .tc := ⟨.hbm, 966, rfl⟩
abbrev main_v843 : Ref sig .tc := ⟨.hbm, 967, rfl⟩
abbrev main_v844 : Ref sig .tc := ⟨.hbm, 968, rfl⟩
abbrev main_v845 : Ref sig .tc := ⟨.hbm, 969, rfl⟩
abbrev main_v846 : Ref sig .tc := ⟨.hbm, 970, rfl⟩
abbrev main_v847 : Ref sig .tc := ⟨.hbm, 971, rfl⟩
abbrev main_v848 : Ref sig .tc := ⟨.hbm, 972, rfl⟩
abbrev main_v849 : Ref sig .tc := ⟨.hbm, 973, rfl⟩
abbrev main_v850 : Ref sig .tc := ⟨.hbm, 974, rfl⟩
abbrev main_v851 : Ref sig .tc := ⟨.hbm, 975, rfl⟩
abbrev main_cst_113 : Ref sig .tc := ⟨.hbm, 976, rfl⟩
abbrev main_v852 : Ref sig .tc := ⟨.hbm, 977, rfl⟩
abbrev main_v853 : Ref sig .tc := ⟨.hbm, 978, rfl⟩
abbrev main_cst_114 : Ref sig .tc := ⟨.hbm, 979, rfl⟩
abbrev main_v854 : Ref sig .tc := ⟨.hbm, 980, rfl⟩
abbrev main_v855 : Ref sig .tc := ⟨.hbm, 981, rfl⟩
abbrev main_v856 : Ref sig .tc := ⟨.hbm, 982, rfl⟩
abbrev main_v857 : Ref sig .tc := ⟨.hbm, 983, rfl⟩
abbrev main_cst_115 : Ref sig .tc := ⟨.hbm, 984, rfl⟩
abbrev main_v858 : Ref sig .tc := ⟨.hbm, 985, rfl⟩
abbrev main_v859 : Ref sig .tc := ⟨.hbm, 986, rfl⟩
abbrev main_cst_116 : Ref sig .tc := ⟨.hbm, 987, rfl⟩
abbrev main_v860 : Ref sig .tc := ⟨.hbm, 988, rfl⟩
abbrev main_v861 : Ref sig .tc := ⟨.hbm, 989, rfl⟩
abbrev main_v862 : Ref sig .tc := ⟨.hbm, 990, rfl⟩
abbrev main_v863 : Ref sig .tc := ⟨.hbm, 991, rfl⟩
abbrev main_v864 : Ref sig .tc := ⟨.hbm, 992, rfl⟩
abbrev main_v865 : Ref sig .tc := ⟨.hbm, 993, rfl⟩
abbrev main_v866 : Ref sig .tc := ⟨.hbm, 994, rfl⟩
abbrev main_v867 : Ref sig .tc := ⟨.hbm, 995, rfl⟩
abbrev main_v868 : Ref sig .tc := ⟨.hbm, 996, rfl⟩
abbrev main_cst_117 : Ref sig .tc := ⟨.hbm, 997, rfl⟩
abbrev main_v869 : Ref sig .tc := ⟨.hbm, 998, rfl⟩
abbrev main_v870 : Ref sig .tc := ⟨.hbm, 999, rfl⟩
abbrev main_cst_118 : Ref sig .tc := ⟨.hbm, 1000, rfl⟩
abbrev main_v871 : Ref sig .tc := ⟨.hbm, 1001, rfl⟩
abbrev main_v872 : Ref sig .tc := ⟨.hbm, 1002, rfl⟩
abbrev main_v873 : Ref sig .tc := ⟨.hbm, 1003, rfl⟩
abbrev main_v874 : Ref sig .tc := ⟨.hbm, 1004, rfl⟩
abbrev main_v875 : Ref sig .tc := ⟨.hbm, 1005, rfl⟩
abbrev main_v876 : Ref sig .tc := ⟨.hbm, 1006, rfl⟩
abbrev main_v877 : Ref sig .tc := ⟨.hbm, 1007, rfl⟩
abbrev main_v878 : Ref sig .tc := ⟨.hbm, 1008, rfl⟩
abbrev main_v879 : Ref sig .tc := ⟨.hbm, 1009, rfl⟩
abbrev main_v880 : Ref sig .tc := ⟨.hbm, 1010, rfl⟩
abbrev main_v881 : Ref sig .tc := ⟨.hbm, 1011, rfl⟩
abbrev main_v882 : Ref sig .tc := ⟨.hbm, 1012, rfl⟩
abbrev main_v883 : Ref sig .tc := ⟨.hbm, 1013, rfl⟩
abbrev main_v884 : Ref sig .tc := ⟨.hbm, 1014, rfl⟩
abbrev main_v885 : Ref sig .tc := ⟨.hbm, 1015, rfl⟩
abbrev main_v886 : Ref sig .tc := ⟨.hbm, 1016, rfl⟩
abbrev main_v887 : Ref sig .tc := ⟨.hbm, 1017, rfl⟩
abbrev main_v888 : Ref sig .tc := ⟨.hbm, 1018, rfl⟩
abbrev main_v889 : Ref sig .tc := ⟨.hbm, 1019, rfl⟩
abbrev main_v890 : Ref sig .tc := ⟨.hbm, 1020, rfl⟩
abbrev main_v891 : Ref sig .tc := ⟨.hbm, 1021, rfl⟩
abbrev main_v892 : Ref sig .tc := ⟨.hbm, 1022, rfl⟩
abbrev main_v893 : Ref sig .tc := ⟨.hbm, 1023, rfl⟩
abbrev main_v894 : Ref sig .tc := ⟨.hbm, 1024, rfl⟩
abbrev main_v895 : Ref sig .tc := ⟨.hbm, 1025, rfl⟩
abbrev main_cst_119 : Ref sig .tc := ⟨.hbm, 1026, rfl⟩
abbrev main_v896 : Ref sig .tc := ⟨.hbm, 1027, rfl⟩
abbrev main_v897 : Ref sig .tc := ⟨.hbm, 1028, rfl⟩
abbrev main_cst_120 : Ref sig .tc := ⟨.hbm, 1029, rfl⟩
abbrev main_v898 : Ref sig .tc := ⟨.hbm, 1030, rfl⟩
abbrev main_v899 : Ref sig .tc := ⟨.hbm, 1031, rfl⟩
abbrev main_v900 : Ref sig .tc := ⟨.hbm, 1032, rfl⟩
abbrev main_v901 : Ref sig .tc := ⟨.hbm, 1033, rfl⟩
abbrev main_cst_121 : Ref sig .tc := ⟨.hbm, 1034, rfl⟩
abbrev main_v902 : Ref sig .tc := ⟨.hbm, 1035, rfl⟩
abbrev main_v903 : Ref sig .tc := ⟨.hbm, 1036, rfl⟩
abbrev main_cst_122 : Ref sig .tc := ⟨.hbm, 1037, rfl⟩
abbrev main_v904 : Ref sig .tc := ⟨.hbm, 1038, rfl⟩
abbrev main_v905 : Ref sig .tc := ⟨.hbm, 1039, rfl⟩
abbrev main_v906 : Ref sig .tc := ⟨.hbm, 1040, rfl⟩
abbrev main_v907 : Ref sig .tc := ⟨.hbm, 1041, rfl⟩
abbrev main_v908 : Ref sig .tc := ⟨.hbm, 1042, rfl⟩
abbrev main_v909 : Ref sig .tc := ⟨.hbm, 1043, rfl⟩
abbrev main_v910 : Ref sig .tc := ⟨.hbm, 1044, rfl⟩
abbrev main_v911 : Ref sig .tc := ⟨.hbm, 1045, rfl⟩
abbrev main_v912 : Ref sig .tc := ⟨.hbm, 1046, rfl⟩
abbrev main_cst_123 : Ref sig .tc := ⟨.hbm, 1047, rfl⟩
abbrev main_v913 : Ref sig .tc := ⟨.hbm, 1048, rfl⟩
abbrev main_v914 : Ref sig .tc := ⟨.hbm, 1049, rfl⟩
abbrev main_cst_124 : Ref sig .tc := ⟨.hbm, 1050, rfl⟩
abbrev main_v915 : Ref sig .tc := ⟨.hbm, 1051, rfl⟩
abbrev main_v916 : Ref sig .tc := ⟨.hbm, 1052, rfl⟩
abbrev main_v917 : Ref sig .tc := ⟨.hbm, 1053, rfl⟩
abbrev main_v918 : Ref sig .tc := ⟨.hbm, 1054, rfl⟩
abbrev main_v919 : Ref sig .tc := ⟨.hbm, 1055, rfl⟩
abbrev main_v920 : Ref sig .tc := ⟨.hbm, 1056, rfl⟩
abbrev main_v921 : Ref sig .tc := ⟨.hbm, 1057, rfl⟩
abbrev main_v922 : Ref sig .tc := ⟨.hbm, 1058, rfl⟩
abbrev main_v923 : Ref sig .tc := ⟨.hbm, 1059, rfl⟩
abbrev main_v924 : Ref sig .tc := ⟨.hbm, 1060, rfl⟩
abbrev main_v925 : Ref sig .tc := ⟨.hbm, 1061, rfl⟩
abbrev main_v926 : Ref sig .tc := ⟨.hbm, 1062, rfl⟩
abbrev main_v927 : Ref sig .tc := ⟨.hbm, 1063, rfl⟩
abbrev main_v928 : Ref sig .tc := ⟨.hbm, 1064, rfl⟩
abbrev main_v929 : Ref sig .tc := ⟨.hbm, 1065, rfl⟩
abbrev main_v930 : Ref sig .tc := ⟨.hbm, 1066, rfl⟩
abbrev main_v931 : Ref sig .tc := ⟨.hbm, 1067, rfl⟩
abbrev main_v932 : Ref sig .tc := ⟨.hbm, 1068, rfl⟩
abbrev main_v933 : Ref sig .tc := ⟨.hbm, 1069, rfl⟩
abbrev main_v934 : Ref sig .tc := ⟨.hbm, 1070, rfl⟩
abbrev main_v935 : Ref sig .tc := ⟨.hbm, 1071, rfl⟩
abbrev main_v936 : Ref sig .tc := ⟨.hbm, 1072, rfl⟩
abbrev main_v937 : Ref sig .tc := ⟨.hbm, 1073, rfl⟩
abbrev main_v938 : Ref sig .tc := ⟨.hbm, 1074, rfl⟩
abbrev main_v939 : Ref sig .tc := ⟨.hbm, 1075, rfl⟩
abbrev main_cst_125 : Ref sig .tc := ⟨.hbm, 1076, rfl⟩
abbrev main_v940 : Ref sig .tc := ⟨.hbm, 1077, rfl⟩
abbrev main_v941 : Ref sig .tc := ⟨.hbm, 1078, rfl⟩
abbrev main_cst_126 : Ref sig .tc := ⟨.hbm, 1079, rfl⟩
abbrev main_v942 : Ref sig .tc := ⟨.hbm, 1080, rfl⟩
abbrev main_v943 : Ref sig .tc := ⟨.hbm, 1081, rfl⟩
abbrev main_v944 : Ref sig .tc := ⟨.hbm, 1082, rfl⟩
abbrev main_v945 : Ref sig .tc := ⟨.hbm, 1083, rfl⟩
abbrev main_cst_127 : Ref sig .tc := ⟨.hbm, 1084, rfl⟩
abbrev main_v946 : Ref sig .tc := ⟨.hbm, 1085, rfl⟩
abbrev main_v947 : Ref sig .tc := ⟨.hbm, 1086, rfl⟩
abbrev main_cst_128 : Ref sig .tc := ⟨.hbm, 1087, rfl⟩
abbrev main_v948 : Ref sig .tc := ⟨.hbm, 1088, rfl⟩
abbrev main_v949 : Ref sig .tc := ⟨.hbm, 1089, rfl⟩
abbrev main_v950 : Ref sig .tc := ⟨.hbm, 1090, rfl⟩
abbrev main_v951 : Ref sig .tc := ⟨.hbm, 1091, rfl⟩
abbrev main_v952 : Ref sig .tc := ⟨.hbm, 1092, rfl⟩
abbrev main_v953 : Ref sig .tc := ⟨.hbm, 1093, rfl⟩
abbrev main_v954 : Ref sig .tc := ⟨.hbm, 1094, rfl⟩
abbrev main_v955 : Ref sig .tc := ⟨.hbm, 1095, rfl⟩
abbrev main_v956 : Ref sig .tc := ⟨.hbm, 1096, rfl⟩
abbrev main_cst_129 : Ref sig .tc := ⟨.hbm, 1097, rfl⟩
abbrev main_v957 : Ref sig .tc := ⟨.hbm, 1098, rfl⟩
abbrev main_v958 : Ref sig .tc := ⟨.hbm, 1099, rfl⟩
abbrev main_cst_130 : Ref sig .tc := ⟨.hbm, 1100, rfl⟩
abbrev main_v959 : Ref sig .tc := ⟨.hbm, 1101, rfl⟩
abbrev main_v960 : Ref sig .tc := ⟨.hbm, 1102, rfl⟩
abbrev main_v961 : Ref sig .tc := ⟨.hbm, 1103, rfl⟩
abbrev main_v962 : Ref sig .tc := ⟨.hbm, 1104, rfl⟩
abbrev main_v963 : Ref sig .tc := ⟨.hbm, 1105, rfl⟩
abbrev main_v964 : Ref sig .tc := ⟨.hbm, 1106, rfl⟩
abbrev main_v965 : Ref sig .tc := ⟨.hbm, 1107, rfl⟩
abbrev main_v966 : Ref sig .tc := ⟨.hbm, 1108, rfl⟩
abbrev main_v967 : Ref sig .tc := ⟨.hbm, 1109, rfl⟩
abbrev main_v968 : Ref sig .tc := ⟨.hbm, 1110, rfl⟩
abbrev main_v969 : Ref sig .tc := ⟨.hbm, 1111, rfl⟩
abbrev main_v970 : Ref sig .tc := ⟨.hbm, 1112, rfl⟩
abbrev main_v971 : Ref sig .tc := ⟨.hbm, 1113, rfl⟩
abbrev main_v972 : Ref sig .tc := ⟨.hbm, 1114, rfl⟩
abbrev main_v973 : Ref sig .tc := ⟨.hbm, 1115, rfl⟩
abbrev main_v974 : Ref sig .tc := ⟨.hbm, 1116, rfl⟩
abbrev main_v975 : Ref sig .tc := ⟨.hbm, 1117, rfl⟩
abbrev main_v976 : Ref sig .tc := ⟨.hbm, 1118, rfl⟩
abbrev main_v977 : Ref sig .tc := ⟨.hbm, 1119, rfl⟩
abbrev main_v978 : Ref sig .tc := ⟨.hbm, 1120, rfl⟩
abbrev main_v979 : Ref sig .tc := ⟨.hbm, 1121, rfl⟩
abbrev main_v980 : Ref sig .tc := ⟨.hbm, 1122, rfl⟩
abbrev main_v981 : Ref sig .tc := ⟨.hbm, 1123, rfl⟩
abbrev main_v982 : Ref sig .tc := ⟨.hbm, 1124, rfl⟩
abbrev main_v983 : Ref sig .tc := ⟨.hbm, 1125, rfl⟩
abbrev main_cst_131 : Ref sig .tc := ⟨.hbm, 1126, rfl⟩
abbrev main_v984 : Ref sig .tc := ⟨.hbm, 1127, rfl⟩
abbrev main_v985 : Ref sig .tc := ⟨.hbm, 1128, rfl⟩
abbrev main_cst_132 : Ref sig .tc := ⟨.hbm, 1129, rfl⟩
abbrev main_v986 : Ref sig .tc := ⟨.hbm, 1130, rfl⟩
abbrev main_v987 : Ref sig .tc := ⟨.hbm, 1131, rfl⟩
abbrev main_v988 : Ref sig .tc := ⟨.hbm, 1132, rfl⟩
abbrev main_v989 : Ref sig .tc := ⟨.hbm, 1133, rfl⟩
abbrev main_cst_133 : Ref sig .tc := ⟨.hbm, 1134, rfl⟩
abbrev main_v990 : Ref sig .tc := ⟨.hbm, 1135, rfl⟩
abbrev main_v991 : Ref sig .tc := ⟨.hbm, 1136, rfl⟩
abbrev main_cst_134 : Ref sig .tc := ⟨.hbm, 1137, rfl⟩
abbrev main_v992 : Ref sig .tc := ⟨.hbm, 1138, rfl⟩
abbrev main_v993 : Ref sig .tc := ⟨.hbm, 1139, rfl⟩
abbrev main_v994 : Ref sig .tc := ⟨.hbm, 1140, rfl⟩
abbrev main_v995 : Ref sig .tc := ⟨.hbm, 1141, rfl⟩
abbrev main_v996 : Ref sig .tc := ⟨.hbm, 1142, rfl⟩
abbrev main_v997 : Ref sig .tc := ⟨.hbm, 1143, rfl⟩
abbrev main_v998 : Ref sig .tc := ⟨.hbm, 1144, rfl⟩
abbrev main_v999 : Ref sig .tc := ⟨.hbm, 1145, rfl⟩
abbrev main_v1000 : Ref sig .tc := ⟨.hbm, 1146, rfl⟩
abbrev main_cst_135 : Ref sig .tc := ⟨.hbm, 1147, rfl⟩
abbrev main_v1001 : Ref sig .tc := ⟨.hbm, 1148, rfl⟩
abbrev main_v1002 : Ref sig .tc := ⟨.hbm, 1149, rfl⟩
abbrev main_cst_136 : Ref sig .tc := ⟨.hbm, 1150, rfl⟩
abbrev main_v1003 : Ref sig .tc := ⟨.hbm, 1151, rfl⟩
abbrev main_v1004 : Ref sig .tc := ⟨.hbm, 1152, rfl⟩
abbrev main_v1005 : Ref sig .tc := ⟨.hbm, 1153, rfl⟩
abbrev main_v1006 : Ref sig .tc := ⟨.hbm, 1154, rfl⟩
abbrev main_v1007 : Ref sig .tc := ⟨.hbm, 1155, rfl⟩
abbrev main_v1008 : Ref sig .tc := ⟨.hbm, 1156, rfl⟩
abbrev main_v1009 : Ref sig .tc := ⟨.hbm, 1157, rfl⟩
abbrev main_v1010 : Ref sig .tc := ⟨.hbm, 1158, rfl⟩
abbrev main_v1011 : Ref sig .tc := ⟨.hbm, 1159, rfl⟩
abbrev main_v1012 : Ref sig .tc := ⟨.hbm, 1160, rfl⟩
abbrev main_v1013 : Ref sig .tc := ⟨.hbm, 1161, rfl⟩
abbrev main_v1014 : Ref sig .tc := ⟨.hbm, 1162, rfl⟩
abbrev main_v1015 : Ref sig .tc := ⟨.hbm, 1163, rfl⟩
abbrev main_v1016 : Ref sig .tc := ⟨.hbm, 1164, rfl⟩
abbrev main_v1017 : Ref sig .tc := ⟨.hbm, 1165, rfl⟩
abbrev main_v1018 : Ref sig .tc := ⟨.hbm, 1166, rfl⟩
abbrev main_v1019 : Ref sig .tc := ⟨.hbm, 1167, rfl⟩
abbrev main_v1020 : Ref sig .tc := ⟨.hbm, 1168, rfl⟩
abbrev main_v1021 : Ref sig .tc := ⟨.hbm, 1169, rfl⟩
abbrev main_v1022 : Ref sig .tc := ⟨.hbm, 1170, rfl⟩
abbrev main_v1023 : Ref sig .tc := ⟨.hbm, 1171, rfl⟩
abbrev main_v1024 : Ref sig .tc := ⟨.hbm, 1172, rfl⟩
abbrev main_v1025 : Ref sig .tc := ⟨.hbm, 1173, rfl⟩
abbrev main_v1026 : Ref sig .tc := ⟨.hbm, 1174, rfl⟩
abbrev main_v1027 : Ref sig .tc := ⟨.hbm, 1175, rfl⟩
abbrev main_cst_137 : Ref sig .tc := ⟨.hbm, 1176, rfl⟩
abbrev main_v1028 : Ref sig .tc := ⟨.hbm, 1177, rfl⟩
abbrev main_v1029 : Ref sig .tc := ⟨.hbm, 1178, rfl⟩
abbrev main_cst_138 : Ref sig .tc := ⟨.hbm, 1179, rfl⟩
abbrev main_v1030 : Ref sig .tc := ⟨.hbm, 1180, rfl⟩
abbrev main_v1031 : Ref sig .tc := ⟨.hbm, 1181, rfl⟩
abbrev main_v1032 : Ref sig .tc := ⟨.hbm, 1182, rfl⟩
abbrev main_v1033 : Ref sig .tc := ⟨.hbm, 1183, rfl⟩
abbrev main_cst_139 : Ref sig .tc := ⟨.hbm, 1184, rfl⟩
abbrev main_v1034 : Ref sig .tc := ⟨.hbm, 1185, rfl⟩
abbrev main_v1035 : Ref sig .tc := ⟨.hbm, 1186, rfl⟩
abbrev main_cst_140 : Ref sig .tc := ⟨.hbm, 1187, rfl⟩
abbrev main_v1036 : Ref sig .tc := ⟨.hbm, 1188, rfl⟩
abbrev main_v1037 : Ref sig .tc := ⟨.hbm, 1189, rfl⟩
abbrev main_v1038 : Ref sig .tc := ⟨.hbm, 1190, rfl⟩
abbrev main_v1039 : Ref sig .tc := ⟨.hbm, 1191, rfl⟩
abbrev main_v1040 : Ref sig .tc := ⟨.hbm, 1192, rfl⟩
abbrev main_v1041 : Ref sig .tc := ⟨.hbm, 1193, rfl⟩
abbrev main_v1042 : Ref sig .tc := ⟨.hbm, 1194, rfl⟩
abbrev main_v1043 : Ref sig .tc := ⟨.hbm, 1195, rfl⟩
abbrev main_v1044 : Ref sig .tc := ⟨.hbm, 1196, rfl⟩
abbrev main_cst_141 : Ref sig .tc := ⟨.hbm, 1197, rfl⟩
abbrev main_v1045 : Ref sig .tc := ⟨.hbm, 1198, rfl⟩
abbrev main_v1046 : Ref sig .tc := ⟨.hbm, 1199, rfl⟩
abbrev main_cst_142 : Ref sig .tc := ⟨.hbm, 1200, rfl⟩
abbrev main_v1047 : Ref sig .tc := ⟨.hbm, 1201, rfl⟩
abbrev main_v1048 : Ref sig .tc := ⟨.hbm, 1202, rfl⟩
abbrev main_v1049 : Ref sig .tc := ⟨.hbm, 1203, rfl⟩
abbrev main_v1050 : Ref sig .tc := ⟨.hbm, 1204, rfl⟩
abbrev main_v1051 : Ref sig .tc := ⟨.hbm, 1205, rfl⟩
abbrev main_v1052 : Ref sig .tc := ⟨.hbm, 1206, rfl⟩
abbrev main_v1053 : Ref sig .tc := ⟨.hbm, 1207, rfl⟩
abbrev main_v1054 : Ref sig .tc := ⟨.hbm, 1208, rfl⟩
abbrev main_v1055 : Ref sig .tc := ⟨.hbm, 1209, rfl⟩
abbrev main_v1056 : Ref sig .tc := ⟨.hbm, 1210, rfl⟩
abbrev main_v1057 : Ref sig .tc := ⟨.hbm, 1211, rfl⟩
abbrev main_v1058 : Ref sig .tc := ⟨.hbm, 1212, rfl⟩
abbrev main_v1059 : Ref sig .tc := ⟨.hbm, 1213, rfl⟩
abbrev main_v1060 : Ref sig .tc := ⟨.hbm, 1214, rfl⟩
abbrev main_v1061 : Ref sig .tc := ⟨.hbm, 1215, rfl⟩
abbrev main_v1062 : Ref sig .tc := ⟨.hbm, 1216, rfl⟩
abbrev main_v1063 : Ref sig .tc := ⟨.hbm, 1217, rfl⟩
abbrev main_v1064 : Ref sig .tc := ⟨.hbm, 1218, rfl⟩
abbrev main_v1065 : Ref sig .tc := ⟨.hbm, 1219, rfl⟩
abbrev main_v1066 : Ref sig .tc := ⟨.hbm, 1220, rfl⟩
abbrev main_v1067 : Ref sig .tc := ⟨.hbm, 1221, rfl⟩
abbrev main_v1068 : Ref sig .tc := ⟨.hbm, 1222, rfl⟩
abbrev main_v1069 : Ref sig .tc := ⟨.hbm, 1223, rfl⟩
abbrev main_v1070 : Ref sig .tc := ⟨.hbm, 1224, rfl⟩
abbrev main_v1071 : Ref sig .tc := ⟨.hbm, 1225, rfl⟩
abbrev main_cst_143 : Ref sig .tc := ⟨.hbm, 1226, rfl⟩
abbrev main_v1072 : Ref sig .tc := ⟨.hbm, 1227, rfl⟩
abbrev main_v1073 : Ref sig .tc := ⟨.hbm, 1228, rfl⟩
abbrev main_cst_144 : Ref sig .tc := ⟨.hbm, 1229, rfl⟩
abbrev main_v1074 : Ref sig .tc := ⟨.hbm, 1230, rfl⟩
abbrev main_v1075 : Ref sig .tc := ⟨.hbm, 1231, rfl⟩
abbrev main_v1076 : Ref sig .tc := ⟨.hbm, 1232, rfl⟩
abbrev main_v1077 : Ref sig .tc := ⟨.hbm, 1233, rfl⟩
abbrev main_cst_145 : Ref sig .tc := ⟨.hbm, 1234, rfl⟩
abbrev main_v1078 : Ref sig .tc := ⟨.hbm, 1235, rfl⟩
abbrev main_v1079 : Ref sig .tc := ⟨.hbm, 1236, rfl⟩
abbrev main_cst_146 : Ref sig .tc := ⟨.hbm, 1237, rfl⟩
abbrev main_v1080 : Ref sig .tc := ⟨.hbm, 1238, rfl⟩
abbrev main_v1081 : Ref sig .tc := ⟨.hbm, 1239, rfl⟩
abbrev main_v1082 : Ref sig .tc := ⟨.hbm, 1240, rfl⟩
abbrev main_v1083 : Ref sig .tc := ⟨.hbm, 1241, rfl⟩
abbrev main_v1084 : Ref sig .tc := ⟨.hbm, 1242, rfl⟩
abbrev main_v1085 : Ref sig .tc := ⟨.hbm, 1243, rfl⟩
abbrev main_v1086 : Ref sig .tc := ⟨.hbm, 1244, rfl⟩
abbrev main_v1087 : Ref sig .tc := ⟨.hbm, 1245, rfl⟩
abbrev main_v1088 : Ref sig .tc := ⟨.hbm, 1246, rfl⟩
abbrev main_cst_147 : Ref sig .tc := ⟨.hbm, 1247, rfl⟩
abbrev main_v1089 : Ref sig .tc := ⟨.hbm, 1248, rfl⟩
abbrev main_v1090 : Ref sig .tc := ⟨.hbm, 1249, rfl⟩
abbrev main_cst_148 : Ref sig .tc := ⟨.hbm, 1250, rfl⟩
abbrev main_v1091 : Ref sig .tc := ⟨.hbm, 1251, rfl⟩
abbrev main_v1092 : Ref sig .tc := ⟨.hbm, 1252, rfl⟩
abbrev main_v1093 : Ref sig .tc := ⟨.hbm, 1253, rfl⟩
abbrev main_v1094 : Ref sig .tc := ⟨.hbm, 1254, rfl⟩
abbrev main_v1095 : Ref sig .tc := ⟨.hbm, 1255, rfl⟩
abbrev main_v1096 : Ref sig .tc := ⟨.hbm, 1256, rfl⟩
abbrev main_v1097 : Ref sig .tc := ⟨.hbm, 1257, rfl⟩
abbrev main_v1098 : Ref sig .tc := ⟨.hbm, 1258, rfl⟩
abbrev main_v1099 : Ref sig .tc := ⟨.hbm, 1259, rfl⟩
abbrev main_v1100 : Ref sig .tc := ⟨.hbm, 1260, rfl⟩
abbrev main_v1101 : Ref sig .tc := ⟨.hbm, 1261, rfl⟩
abbrev main_v1102 : Ref sig .tc := ⟨.hbm, 1262, rfl⟩
abbrev main_v1103 : Ref sig .tc := ⟨.hbm, 1263, rfl⟩
abbrev main_v1104 : Ref sig .tc := ⟨.hbm, 1264, rfl⟩
abbrev main_v1105 : Ref sig .tc := ⟨.hbm, 1265, rfl⟩
abbrev main_v1106 : Ref sig .tc := ⟨.hbm, 1266, rfl⟩
abbrev main_v1107 : Ref sig .tc := ⟨.hbm, 1267, rfl⟩
abbrev main_v1108 : Ref sig .tc := ⟨.hbm, 1268, rfl⟩
abbrev main_v1109 : Ref sig .tc := ⟨.hbm, 1269, rfl⟩
abbrev main_v1110 : Ref sig .tc := ⟨.hbm, 1270, rfl⟩
abbrev main_v1111 : Ref sig .tc := ⟨.hbm, 1271, rfl⟩
abbrev main_v1112 : Ref sig .tc := ⟨.hbm, 1272, rfl⟩
abbrev main_v1113 : Ref sig .tc := ⟨.hbm, 1273, rfl⟩
abbrev main_v1114 : Ref sig .tc := ⟨.hbm, 1274, rfl⟩
abbrev main_v1115 : Ref sig .tc := ⟨.hbm, 1275, rfl⟩
abbrev main_cst_149 : Ref sig .tc := ⟨.hbm, 1276, rfl⟩
abbrev main_v1116 : Ref sig .tc := ⟨.hbm, 1277, rfl⟩
abbrev main_v1117 : Ref sig .tc := ⟨.hbm, 1278, rfl⟩
abbrev main_cst_150 : Ref sig .tc := ⟨.hbm, 1279, rfl⟩
abbrev main_v1118 : Ref sig .tc := ⟨.hbm, 1280, rfl⟩
abbrev main_v1119 : Ref sig .tc := ⟨.hbm, 1281, rfl⟩
abbrev main_v1120 : Ref sig .tc := ⟨.hbm, 1282, rfl⟩
abbrev main_v1121 : Ref sig .tc := ⟨.hbm, 1283, rfl⟩
abbrev main_cst_151 : Ref sig .tc := ⟨.hbm, 1284, rfl⟩
abbrev main_v1122 : Ref sig .tc := ⟨.hbm, 1285, rfl⟩
abbrev main_v1123 : Ref sig .tc := ⟨.hbm, 1286, rfl⟩
abbrev main_cst_152 : Ref sig .tc := ⟨.hbm, 1287, rfl⟩
abbrev main_v1124 : Ref sig .tc := ⟨.hbm, 1288, rfl⟩
abbrev main_v1125 : Ref sig .tc := ⟨.hbm, 1289, rfl⟩
abbrev main_v1126 : Ref sig .tc := ⟨.hbm, 1290, rfl⟩
abbrev main_v1127 : Ref sig .tc := ⟨.hbm, 1291, rfl⟩
abbrev main_v1128 : Ref sig .tc := ⟨.hbm, 1292, rfl⟩
abbrev main_v1129 : Ref sig .tc := ⟨.hbm, 1293, rfl⟩
abbrev main_v1130 : Ref sig .tc := ⟨.hbm, 1294, rfl⟩
abbrev main_v1131 : Ref sig .tc := ⟨.hbm, 1295, rfl⟩
abbrev main_v1132 : Ref sig .tc := ⟨.hbm, 1296, rfl⟩
abbrev main_cst_153 : Ref sig .tc := ⟨.hbm, 1297, rfl⟩
abbrev main_v1133 : Ref sig .tc := ⟨.hbm, 1298, rfl⟩
abbrev main_v1134 : Ref sig .tc := ⟨.hbm, 1299, rfl⟩
abbrev main_cst_154 : Ref sig .tc := ⟨.hbm, 1300, rfl⟩
abbrev main_v1135 : Ref sig .tc := ⟨.hbm, 1301, rfl⟩
abbrev main_v1136 : Ref sig .tc := ⟨.hbm, 1302, rfl⟩
abbrev main_v1137 : Ref sig .tc := ⟨.hbm, 1303, rfl⟩
abbrev main_v1138 : Ref sig .tc := ⟨.hbm, 1304, rfl⟩
abbrev main_v1139 : Ref sig .tc := ⟨.hbm, 1305, rfl⟩
abbrev main_v1140 : Ref sig .tc := ⟨.hbm, 1306, rfl⟩
abbrev main_v1141 : Ref sig .tc := ⟨.hbm, 1307, rfl⟩
abbrev main_v1142 : Ref sig .tc := ⟨.hbm, 1308, rfl⟩
abbrev main_v1143 : Ref sig .tc := ⟨.hbm, 1309, rfl⟩
abbrev main_v1144 : Ref sig .tc := ⟨.hbm, 1310, rfl⟩
abbrev main_v1145 : Ref sig .tc := ⟨.hbm, 1311, rfl⟩
abbrev main_v1146 : Ref sig .tc := ⟨.hbm, 1312, rfl⟩
abbrev main_v1147 : Ref sig .tc := ⟨.hbm, 1313, rfl⟩
abbrev main_v1148 : Ref sig .tc := ⟨.hbm, 1314, rfl⟩
abbrev main_v1149 : Ref sig .tc := ⟨.hbm, 1315, rfl⟩
abbrev main_v1150 : Ref sig .tc := ⟨.hbm, 1316, rfl⟩
abbrev main_v1151 : Ref sig .tc := ⟨.hbm, 1317, rfl⟩
abbrev main_v1152 : Ref sig .tc := ⟨.hbm, 1318, rfl⟩
abbrev main_v1153 : Ref sig .tc := ⟨.hbm, 1319, rfl⟩
abbrev main_v1154 : Ref sig .tc := ⟨.hbm, 1320, rfl⟩
abbrev main_v1155 : Ref sig .tc := ⟨.hbm, 1321, rfl⟩
abbrev main_v1156 : Ref sig .tc := ⟨.hbm, 1322, rfl⟩
abbrev main_v1157 : Ref sig .tc := ⟨.hbm, 1323, rfl⟩
abbrev main_v1158 : Ref sig .tc := ⟨.hbm, 1324, rfl⟩
abbrev main_v1159 : Ref sig .tc := ⟨.hbm, 1325, rfl⟩
abbrev main_cst_155 : Ref sig .tc := ⟨.hbm, 1326, rfl⟩
abbrev main_v1160 : Ref sig .tc := ⟨.hbm, 1327, rfl⟩
abbrev main_v1161 : Ref sig .tc := ⟨.hbm, 1328, rfl⟩
abbrev main_cst_156 : Ref sig .tc := ⟨.hbm, 1329, rfl⟩
abbrev main_v1162 : Ref sig .tc := ⟨.hbm, 1330, rfl⟩
abbrev main_v1163 : Ref sig .tc := ⟨.hbm, 1331, rfl⟩
abbrev main_v1164 : Ref sig .tc := ⟨.hbm, 1332, rfl⟩
abbrev main_v1165 : Ref sig .tc := ⟨.hbm, 1333, rfl⟩
abbrev main_cst_157 : Ref sig .tc := ⟨.hbm, 1334, rfl⟩
abbrev main_v1166 : Ref sig .tc := ⟨.hbm, 1335, rfl⟩
abbrev main_v1167 : Ref sig .tc := ⟨.hbm, 1336, rfl⟩
abbrev main_cst_158 : Ref sig .tc := ⟨.hbm, 1337, rfl⟩
abbrev main_v1168 : Ref sig .tc := ⟨.hbm, 1338, rfl⟩
abbrev main_v1169 : Ref sig .tc := ⟨.hbm, 1339, rfl⟩
abbrev main_v1170 : Ref sig .tc := ⟨.hbm, 1340, rfl⟩
abbrev main_v1171 : Ref sig .tc := ⟨.hbm, 1341, rfl⟩
abbrev main_v1172 : Ref sig .tc := ⟨.hbm, 1342, rfl⟩
abbrev main_v1173 : Ref sig .tc := ⟨.hbm, 1343, rfl⟩
abbrev main_v1174 : Ref sig .tc := ⟨.hbm, 1344, rfl⟩
abbrev main_v1175 : Ref sig .tc := ⟨.hbm, 1345, rfl⟩
abbrev main_v1176 : Ref sig .tc := ⟨.hbm, 1346, rfl⟩
abbrev main_cst_159 : Ref sig .tc := ⟨.hbm, 1347, rfl⟩
abbrev main_v1177 : Ref sig .tc := ⟨.hbm, 1348, rfl⟩
abbrev main_v1178 : Ref sig .tc := ⟨.hbm, 1349, rfl⟩
abbrev main_cst_160 : Ref sig .tc := ⟨.hbm, 1350, rfl⟩
abbrev main_v1179 : Ref sig .tc := ⟨.hbm, 1351, rfl⟩
abbrev main_v1180 : Ref sig .tc := ⟨.hbm, 1352, rfl⟩
abbrev main_v1181 : Ref sig .tc := ⟨.hbm, 1353, rfl⟩
abbrev main_v1182 : Ref sig .tc := ⟨.hbm, 1354, rfl⟩
abbrev main_v1183 : Ref sig .tc := ⟨.hbm, 1355, rfl⟩
abbrev main_v1184 : Ref sig .tc := ⟨.hbm, 1356, rfl⟩
abbrev main_v1185 : Ref sig .tc := ⟨.hbm, 1357, rfl⟩
abbrev main_v1186 : Ref sig .tc := ⟨.hbm, 1358, rfl⟩
abbrev main_v1187 : Ref sig .tc := ⟨.hbm, 1359, rfl⟩
abbrev main_v1188 : Ref sig .tc := ⟨.hbm, 1360, rfl⟩
abbrev main_v1189 : Ref sig .tc := ⟨.hbm, 1361, rfl⟩
abbrev main_v1190 : Ref sig .tc := ⟨.hbm, 1362, rfl⟩
abbrev main_v1191 : Ref sig .tc := ⟨.hbm, 1363, rfl⟩
abbrev main_v1192 : Ref sig .tc := ⟨.hbm, 1364, rfl⟩
abbrev main_v1193 : Ref sig .tc := ⟨.hbm, 1365, rfl⟩
abbrev main_v1194 : Ref sig .tc := ⟨.hbm, 1366, rfl⟩
abbrev main_v1195 : Ref sig .tc := ⟨.hbm, 1367, rfl⟩
abbrev main_v1196 : Ref sig .tc := ⟨.hbm, 1368, rfl⟩
abbrev main_v1197 : Ref sig .tc := ⟨.hbm, 1369, rfl⟩
abbrev main_v1198 : Ref sig .tc := ⟨.hbm, 1370, rfl⟩
abbrev main_v1199 : Ref sig .tc := ⟨.hbm, 1371, rfl⟩
abbrev main_v1200 : Ref sig .tc := ⟨.hbm, 1372, rfl⟩
abbrev main_v1201 : Ref sig .tc := ⟨.hbm, 1373, rfl⟩
abbrev main_v1202 : Ref sig .tc := ⟨.hbm, 1374, rfl⟩
abbrev main_v1203 : Ref sig .tc := ⟨.hbm, 1375, rfl⟩
abbrev main_cst_161 : Ref sig .tc := ⟨.hbm, 1376, rfl⟩
abbrev main_v1204 : Ref sig .tc := ⟨.hbm, 1377, rfl⟩
abbrev main_v1205 : Ref sig .tc := ⟨.hbm, 1378, rfl⟩
abbrev main_cst_162 : Ref sig .tc := ⟨.hbm, 1379, rfl⟩
abbrev main_v1206 : Ref sig .tc := ⟨.hbm, 1380, rfl⟩
abbrev main_v1207 : Ref sig .tc := ⟨.hbm, 1381, rfl⟩
abbrev main_v1208 : Ref sig .tc := ⟨.hbm, 1382, rfl⟩
abbrev main_v1209 : Ref sig .tc := ⟨.hbm, 1383, rfl⟩
abbrev main_cst_163 : Ref sig .tc := ⟨.hbm, 1384, rfl⟩
abbrev main_v1210 : Ref sig .tc := ⟨.hbm, 1385, rfl⟩
abbrev main_v1211 : Ref sig .tc := ⟨.hbm, 1386, rfl⟩
abbrev main_cst_164 : Ref sig .tc := ⟨.hbm, 1387, rfl⟩
abbrev main_v1212 : Ref sig .tc := ⟨.hbm, 1388, rfl⟩
abbrev main_v1213 : Ref sig .tc := ⟨.hbm, 1389, rfl⟩
abbrev main_v1214 : Ref sig .tc := ⟨.hbm, 1390, rfl⟩
abbrev main_v1215 : Ref sig .tc := ⟨.hbm, 1391, rfl⟩
abbrev main_v1216 : Ref sig .tc := ⟨.hbm, 1392, rfl⟩
abbrev main_v1217 : Ref sig .tc := ⟨.hbm, 1393, rfl⟩
abbrev main_v1218 : Ref sig .tc := ⟨.hbm, 1394, rfl⟩
abbrev main_v1219 : Ref sig .tc := ⟨.hbm, 1395, rfl⟩
abbrev main_v1220 : Ref sig .tc := ⟨.hbm, 1396, rfl⟩
abbrev main_cst_165 : Ref sig .tc := ⟨.hbm, 1397, rfl⟩
abbrev main_v1221 : Ref sig .tc := ⟨.hbm, 1398, rfl⟩
abbrev main_v1222 : Ref sig .tc := ⟨.hbm, 1399, rfl⟩
abbrev main_cst_166 : Ref sig .tc := ⟨.hbm, 1400, rfl⟩
abbrev main_v1223 : Ref sig .tc := ⟨.hbm, 1401, rfl⟩
abbrev main_v1224 : Ref sig .tc := ⟨.hbm, 1402, rfl⟩
abbrev main_v1225 : Ref sig .tc := ⟨.hbm, 1403, rfl⟩
abbrev main_v1226 : Ref sig .tc := ⟨.hbm, 1404, rfl⟩
abbrev main_v1227 : Ref sig .tc := ⟨.hbm, 1405, rfl⟩
abbrev main_v1228 : Ref sig .tc := ⟨.hbm, 1406, rfl⟩
abbrev main_v1229 : Ref sig .tc := ⟨.hbm, 1407, rfl⟩
abbrev main_v1230 : Ref sig .tc := ⟨.hbm, 1408, rfl⟩
abbrev main_v1231 : Ref sig .tc := ⟨.hbm, 1409, rfl⟩
abbrev main_v1232 : Ref sig .tc := ⟨.hbm, 1410, rfl⟩
abbrev main_v1233 : Ref sig .tc := ⟨.hbm, 1411, rfl⟩
abbrev main_v1234 : Ref sig .tc := ⟨.hbm, 1412, rfl⟩
abbrev main_v1235 : Ref sig .tc := ⟨.hbm, 1413, rfl⟩
abbrev main_v1236 : Ref sig .tc := ⟨.hbm, 1414, rfl⟩
abbrev main_v1237 : Ref sig .tc := ⟨.hbm, 1415, rfl⟩
abbrev main_v1238 : Ref sig .tc := ⟨.hbm, 1416, rfl⟩
abbrev main_v1239 : Ref sig .tc := ⟨.hbm, 1417, rfl⟩
abbrev main_v1240 : Ref sig .tc := ⟨.hbm, 1418, rfl⟩
abbrev main_v1241 : Ref sig .tc := ⟨.hbm, 1419, rfl⟩
abbrev main_v1242 : Ref sig .tc := ⟨.hbm, 1420, rfl⟩
abbrev main_v1243 : Ref sig .tc := ⟨.hbm, 1421, rfl⟩
abbrev main_v1244 : Ref sig .tc := ⟨.hbm, 1422, rfl⟩
abbrev main_v1245 : Ref sig .tc := ⟨.hbm, 1423, rfl⟩
abbrev main_v1246 : Ref sig .tc := ⟨.hbm, 1424, rfl⟩
abbrev main_cst_167 : Ref sig .tc := ⟨.hbm, 1425, rfl⟩
abbrev main_v1247 : Ref sig .tc := ⟨.hbm, 1426, rfl⟩
abbrev main_v1248 : Ref sig .tc := ⟨.hbm, 1427, rfl⟩
abbrev main_cst_168 : Ref sig .tc := ⟨.hbm, 1428, rfl⟩
abbrev main_v1249 : Ref sig .tc := ⟨.hbm, 1429, rfl⟩
abbrev main_v1250 : Ref sig .tc := ⟨.hbm, 1430, rfl⟩
abbrev main_v1251 : Ref sig .tc := ⟨.hbm, 1431, rfl⟩
abbrev main_v1252 : Ref sig .tc := ⟨.hbm, 1432, rfl⟩
abbrev main_cst_169 : Ref sig .tc := ⟨.hbm, 1433, rfl⟩
abbrev main_v1253 : Ref sig .tc := ⟨.hbm, 1434, rfl⟩
abbrev main_v1254 : Ref sig .tc := ⟨.hbm, 1435, rfl⟩
abbrev main_cst_170 : Ref sig .tc := ⟨.hbm, 1436, rfl⟩
abbrev main_v1255 : Ref sig .tc := ⟨.hbm, 1437, rfl⟩
abbrev main_v1256 : Ref sig .tc := ⟨.hbm, 1438, rfl⟩
abbrev main_v1257 : Ref sig .tc := ⟨.hbm, 1439, rfl⟩
abbrev main_v1258 : Ref sig .tc := ⟨.hbm, 1440, rfl⟩
abbrev main_v1259 : Ref sig .tc := ⟨.hbm, 1441, rfl⟩
abbrev main_v1260 : Ref sig .tc := ⟨.hbm, 1442, rfl⟩
abbrev main_v1261 : Ref sig .tc := ⟨.hbm, 1443, rfl⟩
abbrev main_v1262 : Ref sig .tc := ⟨.hbm, 1444, rfl⟩
abbrev main_cst_171 : Ref sig .tc := ⟨.hbm, 1445, rfl⟩
abbrev main_v1263 : Ref sig .tc := ⟨.hbm, 1446, rfl⟩
abbrev main_v1264 : Ref sig .tc := ⟨.hbm, 1447, rfl⟩
abbrev main_cst_172 : Ref sig .tc := ⟨.hbm, 1448, rfl⟩
abbrev main_v1265 : Ref sig .tc := ⟨.hbm, 1449, rfl⟩
abbrev main_v1266 : Ref sig .tc := ⟨.hbm, 1450, rfl⟩
abbrev main_v1267 : Ref sig .tc := ⟨.hbm, 1451, rfl⟩
abbrev main_v1268 : Ref sig .tc := ⟨.hbm, 1452, rfl⟩
abbrev main_v1269 : Ref sig .tc := ⟨.hbm, 1453, rfl⟩
abbrev main_v1270 : Ref sig .tc := ⟨.hbm, 1454, rfl⟩
abbrev main_v1271 : Ref sig .tc := ⟨.hbm, 1455, rfl⟩
abbrev main_v1272 : Ref sig .tc := ⟨.hbm, 1456, rfl⟩
abbrev main_v1273 : Ref sig .tc := ⟨.hbm, 1457, rfl⟩
abbrev main_v1274 : Ref sig .tc := ⟨.hbm, 1458, rfl⟩
abbrev main_v1275 : Ref sig .tc := ⟨.hbm, 1459, rfl⟩
abbrev main_v1276 : Ref sig .tc := ⟨.hbm, 1460, rfl⟩
abbrev main_v1277 : Ref sig .tc := ⟨.hbm, 1461, rfl⟩
abbrev main_v1278 : Ref sig .tc := ⟨.hbm, 1462, rfl⟩
abbrev main_v1279 : Ref sig .tc := ⟨.hbm, 1463, rfl⟩
abbrev main_v1280 : Ref sig .tc := ⟨.hbm, 1464, rfl⟩
abbrev main_v1281 : Ref sig .tc := ⟨.hbm, 1465, rfl⟩
abbrev main_v1282 : Ref sig .tc := ⟨.hbm, 1466, rfl⟩
abbrev main_v1283 : Ref sig .tc := ⟨.hbm, 1467, rfl⟩
abbrev main_v1284 : Ref sig .tc := ⟨.hbm, 1468, rfl⟩
abbrev main_cst_173 : Ref sig .tc := ⟨.hbm, 1469, rfl⟩
abbrev main_v1285 : Ref sig .tc := ⟨.hbm, 1470, rfl⟩
abbrev main_v1286 : Ref sig .tc := ⟨.hbm, 1471, rfl⟩
abbrev main_cst_174 : Ref sig .tc := ⟨.hbm, 1472, rfl⟩
abbrev main_v1287 : Ref sig .tc := ⟨.hbm, 1473, rfl⟩
abbrev main_v1288 : Ref sig .tc := ⟨.hbm, 1474, rfl⟩
abbrev main_v1289 : Ref sig .tc := ⟨.hbm, 1475, rfl⟩
abbrev main_v1290 : Ref sig .tc := ⟨.hbm, 1476, rfl⟩
abbrev main_cst_175 : Ref sig .tc := ⟨.hbm, 1477, rfl⟩
abbrev main_v1291 : Ref sig .tc := ⟨.hbm, 1478, rfl⟩
abbrev main_v1292 : Ref sig .tc := ⟨.hbm, 1479, rfl⟩
abbrev main_cst_176 : Ref sig .tc := ⟨.hbm, 1480, rfl⟩
abbrev main_v1293 : Ref sig .tc := ⟨.hbm, 1481, rfl⟩
abbrev main_v1294 : Ref sig .tc := ⟨.hbm, 1482, rfl⟩
abbrev main_v1295 : Ref sig .tc := ⟨.hbm, 1483, rfl⟩
abbrev main_v1296 : Ref sig .tc := ⟨.hbm, 1484, rfl⟩
abbrev main_v1297 : Ref sig .tc := ⟨.hbm, 1485, rfl⟩
abbrev main_v1298 : Ref sig .tc := ⟨.hbm, 1486, rfl⟩
abbrev main_v1299 : Ref sig .tc := ⟨.hbm, 1487, rfl⟩
abbrev main_v1300 : Ref sig .tc := ⟨.hbm, 1488, rfl⟩
abbrev main_cst_177 : Ref sig .tc := ⟨.hbm, 1489, rfl⟩
abbrev main_v1301 : Ref sig .tc := ⟨.hbm, 1490, rfl⟩
abbrev main_v1302 : Ref sig .tc := ⟨.hbm, 1491, rfl⟩
abbrev main_cst_178 : Ref sig .tc := ⟨.hbm, 1492, rfl⟩
abbrev main_v1303 : Ref sig .tc := ⟨.hbm, 1493, rfl⟩
abbrev main_v1304 : Ref sig .tc := ⟨.hbm, 1494, rfl⟩
abbrev main_v1305 : Ref sig .tc := ⟨.hbm, 1495, rfl⟩
abbrev main_v1306 : Ref sig .tc := ⟨.hbm, 1496, rfl⟩
abbrev main_v1307 : Ref sig .tc := ⟨.hbm, 1497, rfl⟩
abbrev main_v1308 : Ref sig .tc := ⟨.hbm, 1498, rfl⟩
abbrev main_v1309 : Ref sig .tc := ⟨.hbm, 1499, rfl⟩
abbrev main_v1310 : Ref sig .tc := ⟨.hbm, 1500, rfl⟩
abbrev main_v1311 : Ref sig .tc := ⟨.hbm, 1501, rfl⟩
abbrev main_v1312 : Ref sig .tc := ⟨.hbm, 1502, rfl⟩
abbrev main_v1313 : Ref sig .tc := ⟨.hbm, 1503, rfl⟩
abbrev main_v1314 : Ref sig .tc := ⟨.hbm, 1504, rfl⟩

abbrev nD : Nat := 1
abbrev τ : Topo := Topo.v7x

variable {F : FTy → Type} [FloatOps F]
-- ==== Proof.Cell.lean ====
/- The arithmetic of one tree cell on `n` rows at once, as the kernel computes it, at any float
   instance. The kernel keeps twice the hidden state, so a row here holds `2h` and `c`. -/
module

public import proofs.«01_k».proof.Proof.Gen.KernelIdeal.Frame

@[expose] public section

noncomputable section

namespace Cert.KernelIdeal.Hand

open Cert.KernelIdeal Cert.KernelIdeal.Gen
open Idealize.ShloMosaic

variable {F : FTy → Type} [FloatOps F]

/-- The shape of a matrix of `n` rows and `m` columns. -/
abbrev Sh (n m : ℕ) : Shape := ⟨2, ![n, m]⟩

/-- The shape facts the cell on `n` rows uses. -/
structure CellFacts (n : ℕ) : Prop where
  dot : DotDims.WF (Sh n 256) (Sh 256 640) (Sh n 640) [1] [0] [0] [1] [] []
  iou : (Sh n 640).Slices ![0, 0] (Sh n 384)
  fgt : (Sh n 640).Slices ![0, 384] (Sh n 256)
  i0 : (Sh n 384).Slices ![0, 0] (Sh n 128)
  o0 : (Sh n 384).Slices ![0, 128] (Sh n 128)
  u0 : (Sh n 384).Slices ![0, 256] (Sh n 128)
  fl : (Sh n 256).Slices ![0, 0] (Sh n 128)
  fr : (Sh n 256).Slices ![0, 128] (Sh n 128)

/-- The product's dimension numbers: rows by columns. -/
def cellDot {n : ℕ} (hf : CellFacts n) : DotDims (Sh n 256) (Sh 256 640) (Sh n 640) where
  lhsContracting := [1]
  rhsContracting := [0]
  lhsNonContracting := [0]
  rhsNonContracting := [1]
  lhsBatch := []
  rhsBatch := []
  wf := hf.dot

section
variable {n : ℕ} (hf : CellFacts n) (W : FVec F (Sh 256 640) .bf16) (b : FVec F (Sh n 256) .f32)
  (X : FVec F (Sh n 256) .bf16) (C : FVec F (Sh n 256) .f32)

/-- The five gates before their activation, without the forget bias. -/
def cellZ : FVec F (Sh n 640) .f32 :=
  matmul (cellDot hf) none X W (constant (Sh n 640) .f32 0x00000000#32)

/-- The hyperbolic tangents of the input, output and update gates. -/
def cellT : FVec F (Sh n 384) .f32 := tanh (extractStridedSlice (Sh n 384) ![0, 0] (cellZ hf W X) hf.iou)

/-- The hyperbolic tangents of the two forget gates, times the children's cell states. -/
def cellG : FVec F (Sh n 256) .f32 :=
  mulf (tanh (addf (extractStridedSlice (Sh n 256) ![0, 384] (cellZ hf W X) hf.fgt) b)) C

/-- The new cell states. -/
def cellC : FVec F (Sh n 128) .f32 :=
  mulf (broadcast (Sh n 128) (Scalar.ofBits .f32 0x3F000000#32))
    (addf (addf (addf (addf
      (addf (extractStridedSlice (Sh n 128) ![0, 256] (cellT hf W X) hf.u0)
        (mulf (extractStridedSlice (Sh n 128) ![0, 0] (cellT hf W X) hf.i0)
          (extractStridedSlice (Sh n 128) ![0, 256] (cellT hf W X) hf.u0)))
      (extractStridedSlice (Sh n 128) ![0, 0] (cellG hf W b X C) hf.fl))
      (extractStridedSlice (Sh n 128) ![0, 0] C hf.fl))
      (extractStridedSlice (Sh n 128) ![0, 128] (cellG hf W b X C) hf.fr))
      (extractStridedSlice (Sh n 128) ![0, 128] C hf.fr))

/-- Twice the new hidden states. -/
def cellH : FVec F (Sh n 128) .f32 :=
  addf (mulf (extractStridedSlice (Sh n 128) ![0, 128] (cellT hf W X) hf.o0) (tanh (cellC hf W b X C)))
    (tanh (cellC hf W b X C))
end

end Cert.KernelIdeal.Hand

end
-- ==== Proof.Steps.lean ====
/- The kernel's body, written as a regular program: a level of the tree is a loop over chunks of
   rows, a chunk loads the children, runs the cell and stores the parents. -/
module

public import proofs.«01_k».proof.Proof.Cell
public import proofs.«01_k».proof.Proof.Gen.KernelIdeal.Skeleton

@[expose] public section

noncomputable section

namespace Cert.KernelIdeal.Hand

open Cert.KernelIdeal Cert.KernelIdeal.Gen
open Idealize.ShloMosaic Idealize.SL.Sem

variable {F : FTy → Type} [FloatOps F]

/-- A program of the kernel, ending in a value of type `α`. -/
abbrev KProg (F : FTy → Type) [FloatOps F] (α : Type) : Type _ := Prog (TpuEff nD τ sig (Elt F) Λ₀ .tc) α

/-- A chunk of `n` rows from `off` fits in `A` rows of `m` lanes. -/
abbrev Fits (A n m : ℕ) (off : Fin 2 → ℕ) : Prop := ∀ a, off a + (Sh n m).size a ≤ (Sh A m).size a

/-- The rows a chunk takes. -/
abbrev rows {A n m : ℕ} {off : Fin 2 → ℕ} (h : Fits A n m off) : Rect (Sh A m) :=
  Rect.unit (s := Sh A m) off (Sh n m).size h

/-- The rows from `o` on fit when they end by `A`. -/
theorem fits {A n m : ℕ} (o : ℕ) (h : o + n ≤ A) : Fits A n m ![o, 0] := by
  intro a
  match a with
  | 0 => exact h
  | 1 => exact (Nat.zero_add m).le

/-- Rows from an even offset, an even number of them, are whole words of a `bf16` buffer. -/
theorem packed {A n m : ℕ} (o : ℕ) (h : Fits A n m ![o, 0]) (ho : 2 ∣ o) (hn : 2 ∣ n) :
    (rows h).PackedRows (EltTy.packing .bf16) :=
  .inr ⟨le_rfl, rfl, .inl ⟨ho, hn⟩⟩

/-- Store a chunk of hidden and cell states over the rows `h` (each store reads its rows first). -/
def put {B n : ℕ} {off : Fin 2 → ℕ} (Dh : Memref sig .tc .vmem (Sh B 128) .bf16) (Dc : Memref sig .tc .vmem (Sh B 128) .f32)
    (hDh : Dh.IsWhole) (h : Fits B n 128 off) (hp : (rows h).PackedRows (EltTy.packing .bf16)) (hn : 0 < (Sh n 128).numel)
    (vh : FVec F (Sh n 128) .bf16) (vc : FVec F (Sh n 128) .f32) : KProg F PUnit := do
  let _ : Vec F (Sh n 128) .bf16 ← Prog.lift (.load Dh (rows h).toLoadRect (View.loadsAt_vmem hn))
  Prog.lift (.store Dh (rows h) vh Finset.univ (View.stores_vmem hn (hDh.storeExact_slice rfl _ hp) (fun _ => rfl)) (.inl rfl))
  let _ : Vec F (Sh n 128) .f32 ← Prog.lift (.load Dc (rows h).toLoadRect (View.loadsAt_vmem hn))
  Prog.lift (.store Dc (rows h) vc Finset.univ (View.stores_vmem_bits_univ hn rfl) (.inl rfl))

section
variable {n : ℕ} (hf : CellFacts n) (W : FVec F (Sh 256 640) .bf16) (b : FVec F (Sh 1 256) .f32)
  (hb : (Sh 1 256).Broadcasts (Sh n 256)) (hs : (Sh n 128).ShapeCasts (Sh n 128))

/-- What a chunk stores as hidden states: the cell's, rounded. -/
def outH (X : FVec F (Sh n 256) .bf16) (C : FVec F (Sh n 256) .f32) : FVec F (Sh n 128) .bf16 :=
  shapeCast (Sh n 128) (truncf .bf16 (cellH hf W (broadcastTo (Sh n 256) b hb) X C) (by decide)) hs

/-- What a chunk stores as cell states. -/
def outC (X : FVec F (Sh n 256) .bf16) (C : FVec F (Sh n 256) .f32) : FVec F (Sh n 128) .f32 :=
  shapeCast (Sh n 128) (cellC hf W (broadcastTo (Sh n 256) b hb) X C) hs

/-- A chunk of the first level: leaves from the staged input, parents into the scratch. -/
def leafChunk {A B : ℕ} (Ih Ic : Memref sig .tc .vmem (Sh A 256) .f32)
    (Dh : Memref sig .tc .vmem (Sh B 128) .bf16) (Dc : Memref sig .tc .vmem (Sh B 128) .f32) (hDh : Dh.IsWhole)
    (hi : (Sh n 256).ShapeCasts (Sh n 256)) (hn' : 0 < (Sh n 256).numel) (hn : 0 < (Sh n 128).numel)
    {so off : Fin 2 → ℕ} (h : Fits A n 256 so) (h' : Fits B n 128 off) (hp : (rows h').PackedRows (EltTy.packing .bf16)) :
    KProg F PUnit := do
  let vh : Vec F (Sh n 256) .f32 ← Prog.lift (.load Ih (rows h).toLoadRect (View.loadsAt_vmem hn'))
  let vc : Vec F (Sh n 256) .f32 ← Prog.lift (.load Ic (rows h).toLoadRect (View.loadsAt_vmem hn'))
  put Dh Dc hDh h' hp hn (outH hf W b hb hs (truncf .bf16 (shapeCast (Sh n 256) vh hi) (by decide)) (shapeCast (Sh n 256) vc hi))
    (outC hf W b hb hs (truncf .bf16 (shapeCast (Sh n 256) vh hi) (by decide)) (shapeCast (Sh n 256) vc hi))

/-- A chunk of a deeper level: `2n` children from one scratch, `n` parents into another. -/
def chunk {A B : ℕ} (Mh : Memref sig .tc .vmem (Sh A 128) .bf16) (Mc : Memref sig .tc .vmem (Sh A 128) .f32)
    (Dh : Memref sig .tc .vmem (Sh B 128) .bf16) (Dc : Memref sig .tc .vmem (Sh B 128) .f32) (hDh : Dh.IsWhole)
    (hi : (Sh (2 * n) 128).ShapeCasts (Sh n 256)) (hn' : 0 < (Sh (2 * n) 128).numel) (hn : 0 < (Sh n 128).numel)
    {so off : Fin 2 → ℕ} (h : Fits A (2 * n) 128 so) (h' : Fits B n 128 off) (hp : (rows h').PackedRows (EltTy.packing .bf16)) :
    KProg F PUnit := do
  let vh : Vec F (Sh (2 * n) 128) .bf16 ← Prog.lift (.load Mh (rows h).toLoadRect (View.loadsAt_vmem hn'))
  let vc : Vec F (Sh (2 * n) 128) .f32 ← Prog.lift (.load Mc (rows h).toLoadRect (View.loadsAt_vmem hn'))
  put Dh Dc hDh h' hp hn (outH hf W b hb hs (shapeCast (Sh n 256) vh hi) (shapeCast (Sh n 256) vc hi))
    (outC hf W b hb hs (shapeCast (Sh n 256) vh hi) (shapeCast (Sh n 256) vc hi))
end

/-- The facts of the cell, at every number of rows the kernel runs it on. -/
theorem facts256 : CellFacts 256 := by constructor <;> decide
theorem facts128 : CellFacts 128 := by constructor <;> decide
theorem facts192 : CellFacts 192 := by constructor <;> decide
theorem facts96 : CellFacts 96 := by constructor <;> decide
theorem facts48 : CellFacts 48 := by constructor <;> decide
theorem facts24 : CellFacts 24 := by constructor <;> decide
theorem facts12 : CellFacts 12 := by constructor <;> decide
theorem facts6 : CellFacts 6 := by constructor <;> decide
theorem facts3 : CellFacts 3 := by constructor <;> decide
theorem facts1 : CellFacts 1 := by constructor <;> decide

section
variable (W : FVec F (Sh 256 640) .bf16) (b : FVec F (Sh 1 256) .f32)

/-- The first level: `k` chunks of 256 pairs of leaves, from chunk `j` on. -/
def leaves {A B : ℕ} (Ih Ic : Memref sig .tc .vmem (Sh A 256) .f32)
    (Dh : Memref sig .tc .vmem (Sh B 128) .bf16) (Dc : Memref sig .tc .vmem (Sh B 128) .f32) (hDh : Dh.IsWhole) :
    ∀ (k j : ℕ), 256 * (j + k) ≤ A → 256 * (j + k) ≤ B → KProg F PUnit
  | 0, _, _, _ => pure ⟨⟩
  | k + 1, j, hA, hB => do
    leafChunk facts256 W b (by decide) (by decide) Ih Ic Dh Dc hDh (by decide) (by decide) (by decide)
      (fits (n := 256) (256 * j) (by omega)) (fits (n := 256) (256 * j) (by omega)) (packed (256 * j) _ (by omega) (by decide))
    leaves Ih Ic Dh Dc hDh k (j + 1) (by omega) (by omega)

/-- A deeper level: `k` chunks from chunk `j` on, children from row `o` and parents from row `p`. -/
def level {A B : ℕ} (Mh : Memref sig .tc .vmem (Sh A 128) .bf16) (Mc : Memref sig .tc .vmem (Sh A 128) .f32)
    (Dh : Memref sig .tc .vmem (Sh B 128) .bf16) (Dc : Memref sig .tc .vmem (Sh B 128) .f32) (hDh : Dh.IsWhole)
    (o p : ℕ) (hp : 2 ∣ p) :
    ∀ (k j : ℕ), o + 512 * (j + k) ≤ A → p + 256 * (j + k) ≤ B → KProg F PUnit
  | 0, _, _, _ => pure ⟨⟩
  | k + 1, j, hA, hB => do
    chunk facts256 W b (by decide) (by decide) Mh Mc Dh Dc hDh (by decide) (by decide) (by decide)
      (fits (n := 2 * 256) (o + 512 * j) (by omega)) (fits (n := 256) (p + 256 * j) (by omega))
      (packed (p + 256 * j) _ (by omega) (by decide))
    level Mh Mc Dh Dc hDh o p hp k (j + 1) (by omega) (by omega)
end

section
variable {n : ℕ} (hf : CellFacts n) (W : FVec F (Sh 256 640) .bf16) (b : FVec F (Sh 1 256) .f32)
  (hb : (Sh 1 256).Broadcasts (Sh n 256)) (hi : (Sh (2 * n) 128).ShapeCasts (Sh n 256))
  (h : FVec F (Sh (2 * n) 128) .bf16) (c : FVec F (Sh (2 * n) 128) .f32)

/-- A level kept in registers: the hidden states. -/
def regH : FVec F (Sh n 128) .bf16 :=
  truncf .bf16 (cellH hf W (broadcastTo (Sh n 256) b hb) (shapeCast (Sh n 256) h hi) (shapeCast (Sh n 256) c hi)) (by decide)

/-- A level kept in registers: the cell states. -/
def regC : FVec F (Sh n 128) .f32 :=
  cellC hf W (broadcastTo (Sh n 256) b hb) (shapeCast (Sh n 256) h hi) (shapeCast (Sh n 256) c hi)
end

/-- Two rows side by side. -/
def side {e : FTy} (x y : FVec F (Sh 1 128) e) : FVec F (Sh 1 256) e :=
  concatenate (Sh 1 256) 1 [⟨Sh 1 128, x⟩, ⟨Sh 1 128, y⟩] concatenates_S1x128_S1x128_S1x256_d1

/-- One of three rows. -/
def rowOf {e : FTy} (i : ℕ) (hi : (Sh 3 128).Slices ![i, 0] (Sh 1 128)) (x : FVec F (Sh 3 128) e) : FVec F (Sh 1 128) e :=
  extractStridedSlice (Sh 1 128) ![i, 0] x hi

section
variable (W : FVec F (Sh 256 640) .bf16) (b : FVec F (Sh 1 256) .f32)
  (Ws : FVec F (Sh 256 640) .bf16) (bs : FVec F (Sh 1 256) .f32)
  (h : FVec F (Sh 3 128) .bf16) (c : FVec F (Sh 3 128) .f32)

/-- The last merge: the first two of the three rows left. -/
def mergeH : FVec F (Sh 1 128) .bf16 :=
  truncf .bf16 (cellH facts1 W b (side (rowOf 0 (by decide) h) (rowOf 1 (by decide) h))
    (side (rowOf 0 (by decide) c) (rowOf 1 (by decide) c))) (by decide)

/-- The cell state of the last merge. -/
def mergeC : FVec F (Sh 1 128) .f32 :=
  cellC facts1 W b (side (rowOf 0 (by decide) h) (rowOf 1 (by decide) h))
    (side (rowOf 0 (by decide) c) (rowOf 1 (by decide) c))

/-- The result: the final cell on the third row and the merged one, its hidden state and cell state
    side by side. -/
def final : FVec F (Sh 1 256) .f32 :=
  side
    (mulf (broadcast (Sh 1 128) (Scalar.ofBits .f32 0x3F000000#32))
      (cellH facts1 Ws bs (side (rowOf 2 (by decide) h) (mergeH W b h c)) (side (rowOf 2 (by decide) c) (mergeC W b h c))))
    (cellC facts1 Ws bs (side (rowOf 2 (by decide) h) (mergeH W b h c)) (side (rowOf 2 (by decide) c) (mergeC W b h c)))
end

section
variable (W : FVec F (Sh 256 640) .bf16) (b : FVec F (Sh 1 256) .f32)
  (h : FVec F (Sh 384 128) .bf16) (c : FVec F (Sh 384 128) .f32)

/-- The levels kept in registers, from 384 rows to three. -/
def reg192H : FVec F (Sh 192 128) .bf16 := regH facts192 W b (by decide) (by decide) h c
def reg192C : FVec F (Sh 192 128) .f32 := regC facts192 W b (by decide) (by decide) h c
def reg96H : FVec F (Sh 96 128) .bf16 := regH facts96 W b (by decide) (by decide) (reg192H W b h c) (reg192C W b h c)
def reg96C : FVec F (Sh 96 128) .f32 := regC facts96 W b (by decide) (by decide) (reg192H W b h c) (reg192C W b h c)
def reg48H : FVec F (Sh 48 128) .bf16 := regH facts48 W b (by decide) (by decide) (reg96H W b h c) (reg96C W b h c)
def reg48C : FVec F (Sh 48 128) .f32 := regC facts48 W b (by decide) (by decide) (reg96H W b h c) (reg96C W b h c)
def reg24H : FVec F (Sh 24 128) .bf16 := regH facts24 W b (by decide) (by decide) (reg48H W b h c) (reg48C W b h c)
def reg24C : FVec F (Sh 24 128) .f32 := regC facts24 W b (by decide) (by decide) (reg48H W b h c) (reg48C W b h c)
def reg12H : FVec F (Sh 12 128) .bf16 := regH facts12 W b (by decide) (by decide) (reg24H W b h c) (reg24C W b h c)
def reg12C : FVec F (Sh 12 128) .f32 := regC facts12 W b (by decide) (by decide) (reg24H W b h c) (reg24C W b h c)
def reg6H : FVec F (Sh 6 128) .bf16 := regH facts6 W b (by decide) (by decide) (reg12H W b h c) (reg12C W b h c)
def reg6C : FVec F (Sh 6 128) .f32 := regC facts6 W b (by decide) (by decide) (reg12H W b h c) (reg12C W b h c)
def reg3H : FVec F (Sh 3 128) .bf16 := regH facts3 W b (by decide) (by decide) (reg6H W b h c) (reg6C W b h c)
def reg3C : FVec F (Sh 3 128) .f32 := regC facts3 W b (by decide) (by decide) (reg6H W b h c) (reg6C W b h c)
end

section
variable (arg1 arg2 : Memref sig .tc .vmem (Sh 4096 256) .f32) (arg3 arg4 arg5 : Memref sig .tc .vmem (Sh 256 640) .bf16)
  (arg6 arg7 arg8 : Memref sig .tc .vmem (Sh 1 256) .f32)
  (arg9 : Memref sig .tc .vmem (Sh 7168 128) .bf16) (harg9 : arg9.IsWhole) (arg10 : Memref sig .tc .vmem (Sh 7168 128) .f32)
  (arg11 : Memref sig .tc .vmem (Sh 3072 128) .bf16) (harg11 : arg11.IsWhole) (arg12 : Memref sig .tc .vmem (Sh 3072 128) .f32)

/-- Load a whole buffer of one row. -/
def getRow (m : Memref sig .tc .vmem (Sh 1 256) .f32) : KProg F (FVec F (Sh 1 256) .f32) := do
  let v : Vec F (Sh 1 256) .f32 ← Prog.lift (.load m (rows (fits (n := 1) 0 (by decide))).toLoadRect (View.loadsAt_vmem (by decide)))
  pure (shapeCast (Sh 1 256) v (by decide))

/-- Load a whole weight matrix. -/
def getMat (m : Memref sig .tc .vmem (Sh 256 640) .bf16) : KProg F (FVec F (Sh 256 640) .bf16) := do
  let v : Vec F (Sh 256 640) .bf16 ← Prog.lift (.load m (rows (fits (n := 256) 0 (by decide))).toLoadRect (View.loadsAt_vmem (by decide)))
  pure (shapeCast (Sh 256 640) v (by decide))

/-- The block of leaves at one grid point, reduced by four levels into the carried rows. -/
def block (i : grid0.Coords) (W Wd : FVec F (Sh 256 640) .bf16) (b : FVec F (Sh 1 256) .f32) : KProg F PUnit := do
  leaves W b arg1 arg2 arg9 arg10 harg9 16 0 (by decide) (by decide)
  level Wd b arg9 arg10 arg9 arg10 harg9 0 4096 (by decide) 8 0 (by decide) (by decide)
  level Wd b arg9 arg10 arg9 arg10 harg9 4096 6144 (by decide) 4 0 (by decide) (by decide)
  chunk facts256 Wd b (by decide) (by decide) arg9 arg10 arg11 arg12 harg11 (by decide) (by decide) (by decide)
    (fits (n := 2 * 256) 6144 (by decide)) (Gen.k0_off1_inb i 0) (Gen.k0_off1_packedbf16 i 0)
  chunk facts256 Wd b (by decide) (by decide) arg9 arg10 arg11 arg12 harg11 (by decide) (by decide) (by decide)
    (fits (n := 2 * 256) 6656 (by decide)) (Gen.k0_off1_inb i 1) (Gen.k0_off1_packedbf16 i 1)

/-- What the last grid point does with the carried rows. -/
def finish (Wd : FVec F (Sh 256 640) .bf16) (b : FVec F (Sh 1 256) .f32) : KProg F PUnit := do
  level Wd b arg11 arg12 arg9 arg10 harg9 0 0 (by decide) 6 0 (by decide) (by decide)
  level Wd b arg9 arg10 arg9 arg10 harg9 0 1536 (by decide) 3 0 (by decide) (by decide)
  level Wd b arg9 arg10 arg9 arg10 harg9 1536 2304 (by decide) 1 0 (by decide) (by decide)
  chunk facts128 Wd b (by decide) (by decide) arg9 arg10 arg9 arg10 harg9 (by decide) (by decide) (by decide)
    (fits (n := 2 * 128) 2048 (by decide)) (fits (n := 128) 2560 (by decide)) (packed 2560 _ (by decide) (by decide))
  let th : Vec F (Sh 384 128) .bf16 ← Prog.lift (.load arg9 (rows (fits (n := 384) 2304 (by decide))).toLoadRect (View.loadsAt_vmem (by decide)))
  let tc : Vec F (Sh 384 128) .f32 ← Prog.lift (.load arg10 (rows (fits (n := 384) 2304 (by decide))).toLoadRect (View.loadsAt_vmem (by decide)))
  let Ws ← getMat arg5
  let bs ← getRow arg7
  let _ : Vec F (Sh 1 256) .f32 ← Prog.lift (.load arg8 (rows (fits (n := 1) 0 (by decide))).toLoadRect (View.loadsAt_vmem (by decide)))
  Prog.lift (.store arg8 (rows (fits (n := 1) 0 (by decide)))
    (final Wd b Ws bs (reg3H Wd b th tc) (reg3C Wd b th tc)) Finset.univ (View.stores_vmem_bits_univ (by decide) rfl) (.inl rfl))

/-- The kernel's body. -/
def body (i : grid0.Coords) : KProg F PUnit := do
  let W ← getMat arg3
  let Wd ← getMat arg4
  let b ← getRow arg6
  block arg1 arg2 arg9 harg9 arg10 arg11 harg11 arg12 i W Wd b
  if k0_cond1 i = 1#1 then finish arg5 arg7 arg8 arg9 harg9 arg10 arg11 arg12 Wd b else pure ⟨⟩
end

end Cert.KernelIdeal.Hand

end
-- ==== Proof.BodyEq.lean ====
/- The printed body is the regular program. -/
module

public import proofs.«01_k».proof.Proof.Steps

@[expose] public section

noncomputable section

namespace Cert.KernelIdeal.Hand

open Cert.KernelIdeal Cert.KernelIdeal.Gen
open Idealize.ShloMosaic Idealize.SL.Sem

variable {F : FTy → Type} [FloatOps F]

set_option maxRecDepth 65536 in
/-- The printed body runs exactly the regular program's memory operations, on the same values. -/
theorem body_eq (i : grid0.Coords) (arg1 : Memref sig .tc .vmem S4096x256 .f32) (harg1 : arg1.IsWhole) (arg2 : Memref sig .tc .vmem S4096x256 .f32) (harg2 : arg2.IsWhole) (arg3 : Memref sig .tc .vmem S256x640 .bf16) (harg3 : arg3.IsWhole) (arg4 : Memref sig .tc .vmem S256x640 .bf16) (harg4 : arg4.IsWhole) (arg5 : Memref sig .tc .vmem S256x640 .bf16) (harg5 : arg5.IsWhole) (arg6 : Memref sig .tc .vmem S1x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S7168x128 .bf16) (harg9 : arg9.IsWhole) (arg10 : Memref sig .tc .vmem S7168x128 .f32) (harg10 : arg10.IsWhole) (arg11 : Memref sig .tc .vmem S3072x128 .bf16) (harg11 : arg11.IsWhole) (arg12 : Memref sig .tc .vmem S3072x128 .f32) (harg12 : arg12.IsWhole) :
    cc0__body (F := F) i arg1 harg1 arg2 harg2 arg3 harg3 arg4 harg4 arg5 harg5 arg6 harg6 arg7 harg7 arg8 harg8 arg9 harg9 arg10 harg10 arg11 harg11 arg12 harg12 =
      body arg1 arg2 arg3 arg4 arg5 arg6 arg7 arg8 arg9 harg9 arg10 arg11 harg11 arg12 i := rfl

end Cert.KernelIdeal.Hand

end
-- ==== Proof.Mem.lean ====
/- Loads and stores of memrefs owned whole at known contents, and how a stored chunk of rows changes
   what is known of the rows of a buffer. -/
module

public import proofs.«01_k».proof.Proof.BodyEq
public import Idealize.ShloMosaic.Lib.Pipeline.Frame
public import Idealize.ShloMosaic.Lib.Tactic

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

open Idealize.ShloMosaic.Rounds

variable {F : FTy → Type} [FloatOps F]

local notation "𝕄" => MT nD τ sig Unit (Elt F) ℕ (UR sig nD τ) ℕ

/-- The weakest precondition of a program of the kernel on core `c`. -/
abbrev WP (c : Dev nD) {α : Type} (p : KProg F α) (Q : α → sProp 𝕄) : sProp 𝕄 :=
  wp frame (wpE (defs₀ (F := F)) Variants.none (c : Thread nD τ) none) Set.univ p Q

/-- A load from a memref held at `X` continues at the elements of `X` it reads. -/
theorem load_owns (c : Dev nD) {s : Shape} {e : EltTy} {α : Type} {m : Memref sig .tc .vmem s e} {r : Rect s}
    {hl : m.view.LoadsAt r.toLoadRect} {q : PosShare TreeShare} (X : s.Idx → Elt F e)
    {k : (r.shape.Idx → Elt F e) → KProg F α} {Q : α → sProp 𝕄} :
    (owns (c : Thread nD τ) m q X : sProp 𝕄)
      ⊢ iprop((owns (c : Thread nD τ) m q X -∗ WP c (k fun x => X (r.emb x)) Q)
        -∗ WP c (.op (.load m r.toLoadRect hl) k) Q) := by
  unfold owns
  iintro ⟨%f, %hf, H⟩ Hk
  subst hf
  iapply (wp_load (S := m.view.set) (f := f) (r := r.toLoadRect) (m := m) Variants.none (c : Thread nD τ) none Set.univ (m.view.setOn_subset_set _)) $$ H
  iintro H
  iapply Hk
  iexists f
  isplitr
  · ipureintro; rfl
  iexact H

/-- A store over a memref held at `X` leaves what it stores on the rows it writes and `X` elsewhere. -/
theorem store_owns (c : Dev nD) {s : Shape} {e : EltTy} {α : Type} {m : Memref sig .tc .vmem s e} {r : Rect s}
    {w : r.shape.Idx → Elt F e} {hx : (m.access r).Stores Finset.univ}
    {hm : (Finset.univ : Finset r.shape.Idx) = Finset.univ ∨ ∀ a, r.stride a = 1} (X : s.Idx → Elt F e)
    {k : PUnit → KProg F α} {Q : α → sProp 𝕄} :
    (owns (c : Thread nD τ) m fullShare X : sProp 𝕄)
      ⊢ iprop((∀ X', ⌜(∀ x, X' (r.emb x) = w x) ∧ ∀ y, y ∉ r.set → X' y = X y⌝ -∗ owns (c : Thread nD τ) m fullShare X' -∗ WP c (k ⟨⟩) Q)
        -∗ WP c (.op (.store m r w Finset.univ hx hm) k) Q) := by
  unfold owns
  iintro ⟨%f, %hf, H⟩ Hk
  subst hf
  iapply (wp_store (S := m.view.set) (f := f) (r := r) (m := m) (w := w)
    (Mk := Finset.univ) Variants.none (c : Thread nD τ) none Set.univ (m.view.set_slice_subset r)) $$ H
  iintro H
  iapply Hk $$ %(m.view.read (Elt F) ((m.access r).write (Elt F) f w Finset.univ))
  · ipureintro
    refine ⟨fun x => View.read_slice_write_emb (Val := Elt F) r f w (Finset.mem_univ x), fun y hy => ?_⟩
    exact View.read_slice_write_of_not_mem (Val := Elt F) r f w _ (by rwa [Rect.map_emb_univ])
  iexists _
  isplitr
  · ipureintro; rfl
  iexact H

end Cert.KernelIdeal.Hand

end
-- ==== Proof.Chunks.lean ====
/- What the kernel's chunks and levels do to the contents of the buffers they work on. -/
module

public import proofs.«01_k».proof.Proof.Mem

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The position at row `r` and lane `d`. -/
def ix {n m : ℕ} (r : Fin n) (d : Fin m) : (Sh n m).Idx
  | 0 => r
  | 1 => d

/-- Every position is its row and its lane. -/
theorem ix_eta {n m : ℕ} (y : (Sh n m).Idx) : ix (n := n) (m := m) (y 0) (y 1) = y := by
  funext a
  match a with
  | 0 => rfl
  | 1 => rfl

/-- The contents `X` with the `n` rows from `o` replaced by `v`. -/
def setRows {B m : ℕ} {α : Type} (X : (Sh B m).Idx → α) (o n : ℕ) (v : (Sh n m).Idx → α) : (Sh B m).Idx → α := fun y =>
  if h : o ≤ (y 0).val ∧ (y 0).val < o + n then v (ix ⟨(y 0).val - o, by omega⟩ (y 1)) else X y

/-- Where a chunk's row and lane lie in the buffer. -/
theorem rows_emb {A n m : ℕ} {off : Fin 2 → ℕ} (h : Fits A n m off) (x : (Sh n m).Idx) (a : Fin 2) :
    ((rows h).emb x a).val = off a + (x a).val := by
  show off a + 1 * (x a).val = _
  omega

/-- Contents that hold `v` on a chunk's rows and `X` elsewhere are `setRows`. -/
theorem eq_setRows {B n m : ℕ} {α : Type} {off : Fin 2 → ℕ} (h : Fits B n m off) (h1 : off 1 = 0) (X X' : (Sh B m).Idx → α)
    (v : (Sh n m).Idx → α) (hv : ∀ x, X' ((rows h).emb x) = v x) (hX : ∀ y, y ∉ (rows h).set → X' y = X y) :
    X' = setRows X (off 0) n v := by
  funext y
  unfold setRows
  split
  · rename_i hy
    rw [← hv]
    congr 1
    funext a
    apply Fin.ext
    rw [rows_emb]
    match a with
    | 0 => show (y 0).val = off 0 + ((y 0).val - off 0); omega
    | 1 => show (y 1).val = off 1 + (y 1).val; omega
  · rename_i hy
    refine hX y fun hm => hy ?_
    exact (Rect.mem_set_unit.mp hm) 0

/-- A buffer's hidden and cell states. -/
structure Pair (F : FTy → Type) (B m : ℕ) where
  h : (Sh B m).Idx → Elt F .bf16
  c : (Sh B m).Idx → Elt F .f32

/-- The pair with `n` rows from `o` replaced. -/
def Pair.put {B n : ℕ} (s : Pair F B 128) (o : ℕ) (v : Pair F n 128) : Pair F B 128 :=
  ⟨setRows s.h o n v.h, setRows s.c o n v.c⟩

/-- The `n` rows from `off` of a pair. -/
def Pair.take {A n m : ℕ} {off : Fin 2 → ℕ} (h : Fits A n m off) (s : Pair F A m) : Pair F n m :=
  ⟨fun x => s.h ((rows h).emb x), fun x => s.c ((rows h).emb x)⟩

/-- The two buffers of a pair, owned whole at `s`. -/
def ownP (c : Dev nD) {B : ℕ} (Dh : Memref sig .tc .vmem (Sh B 128) .bf16) (Dc : Memref sig .tc .vmem (Sh B 128) .f32)
    (s : Pair F B 128) : sProp 𝕄 :=
  iprop(owns (c : Thread nD τ) Dh fullShare s.h ∗ owns (c : Thread nD τ) Dc fullShare s.c)

/-- A finished program. -/
theorem ret_wp (c : Dev nD) {α : Type} (a : α) (Q : α → sProp 𝕄) : Q a ⊢ WP c (.ret a : KProg F α) Q := by
  show Q a ⊢ wp _ _ _ _ _
  rw [wp_ret]
  exact fupd_intro

/-- A load from the first buffer of an owned pair. -/
theorem loadH (c : Dev nD) {A n : ℕ} {off : Fin 2 → ℕ} {α : Type} (Mh : Memref sig .tc .vmem (Sh A 128) .bf16)
    (Mc : Memref sig .tc .vmem (Sh A 128) .f32) (h : Fits A n 128 off) {hl : Mh.view.LoadsAt (rows h).toLoadRect} (s : Pair F A 128)
    {k : ((Sh n 128).Idx → Elt F .bf16) → KProg F α} {Q : α → sProp 𝕄} :
    (ownP c Mh Mc s : sProp 𝕄)
      ⊢ iprop((ownP c Mh Mc s -∗ WP c (k (s.take h).h) Q) -∗ WP c (.op (.load Mh (rows h).toLoadRect hl) k) Q) := by
  unfold ownP
  iintro ⟨Hh, Hc⟩ Hk
  iapply (load_owns c s.h) $$ Hh
  iintro Hh
  iapply Hk
  isplitl [Hh]
  · iexact Hh
  iexact Hc

/-- A load from the second buffer of an owned pair. -/
theorem loadC (c : Dev nD) {A n : ℕ} {off : Fin 2 → ℕ} {α : Type} (Mh : Memref sig .tc .vmem (Sh A 128) .bf16)
    (Mc : Memref sig .tc .vmem (Sh A 128) .f32) (h : Fits A n 128 off) {hl : Mc.view.LoadsAt (rows h).toLoadRect} (s : Pair F A 128)
    {k : ((Sh n 128).Idx → Elt F .f32) → KProg F α} {Q : α → sProp 𝕄} :
    (ownP c Mh Mc s : sProp 𝕄)
      ⊢ iprop((ownP c Mh Mc s -∗ WP c (k (s.take h).c) Q) -∗ WP c (.op (.load Mc (rows h).toLoadRect hl) k) Q) := by
  unfold ownP
  iintro ⟨Hh, Hc⟩ Hk
  iapply (load_owns c s.c) $$ Hc
  iintro Hc
  iapply Hk
  isplitl [Hh]
  · iexact Hh
  iexact Hc

/-- Storing a chunk replaces its rows. -/
theorem put_wp (c : Dev nD) {B n : ℕ} {off : Fin 2 → ℕ} (Dh : Memref sig .tc .vmem (Sh B 128) .bf16)
    (Dc : Memref sig .tc .vmem (Sh B 128) .f32) (hDh : Dh.IsWhole) (h : Fits B n 128 off) (h1 : off 1 = 0)
    (hp : (rows h).PackedRows (EltTy.packing .bf16)) (hn : 0 < (Sh n 128).numel) (v : Pair F n 128) (s : Pair F B 128)
    (Q : PUnit → sProp 𝕄) :
    (ownP c Dh Dc s : sProp 𝕄) ⊢ iprop((ownP c Dh Dc (s.put (off 0) v) -∗ Q ⟨⟩) -∗ WP c (put Dh Dc hDh h hp hn v.h v.c) Q) := by
  unfold ownP put
  iintro ⟨Hh, Hc⟩ Hk
  iapply (load_owns c s.h) $$ Hh
  iintro Hh
  iapply (store_owns c s.h) $$ Hh
  iintro %X %hX Hh
  iapply (load_owns c s.c) $$ Hc
  iintro Hc
  iapply (store_owns c s.c) $$ Hc
  iintro %Y %hY Hc
  obtain rfl := eq_setRows h h1 _ _ _ hX.1 hX.2
  obtain rfl := eq_setRows h h1 _ _ _ hY.1 hY.2
  iapply (ret_wp c ⟨⟩ Q)
  iapply Hk
  isplitl [Hh]
  · iexact Hh
  iexact Hc

section
variable {n : ℕ} (hf : CellFacts n) (W : FVec F (Sh 256 640) .bf16) (b : FVec F (Sh 1 256) .f32)
  (hb : (Sh 1 256).Broadcasts (Sh n 256)) (hs : (Sh n 128).ShapeCasts (Sh n 128))

/-- What a chunk of the first level stores, from the leaves it loads. -/
def leafOut (hi : (Sh n 256).ShapeCasts (Sh n 256)) (vh vc : (Sh n 256).Idx → Elt F .f32) : Pair F n 128 :=
  ⟨outH hf W b hb hs (truncf .bf16 (shapeCast (Sh n 256) vh hi) (by decide)) (shapeCast (Sh n 256) vc hi),
    outC hf W b hb hs (truncf .bf16 (shapeCast (Sh n 256) vh hi) (by decide)) (shapeCast (Sh n 256) vc hi)⟩

/-- What a chunk of a deeper level stores, from the children it loads. -/
def chunkOut (hi : (Sh (2 * n) 128).ShapeCasts (Sh n 256)) (s : Pair F (2 * n) 128) : Pair F n 128 :=
  ⟨outH hf W b hb hs (shapeCast (Sh n 256) s.h hi) (shapeCast (Sh n 256) s.c hi),
    outC hf W b hb hs (shapeCast (Sh n 256) s.h hi) (shapeCast (Sh n 256) s.c hi)⟩

/-- A chunk of the first level replaces its rows by what it computes of its leaves. -/
theorem leafChunk_wp (c : Dev nD) {A B : ℕ} (Ih Ic : Memref sig .tc .vmem (Sh A 256) .f32)
    (Dh : Memref sig .tc .vmem (Sh B 128) .bf16) (Dc : Memref sig .tc .vmem (Sh B 128) .f32) (hDh : Dh.IsWhole)
    (hi : (Sh n 256).ShapeCasts (Sh n 256)) (hn' : 0 < (Sh n 256).numel) (hn : 0 < (Sh n 128).numel)
    {so off : Fin 2 → ℕ} (h : Fits A n 256 so) (h' : Fits B n 128 off) (h1 : off 1 = 0)
    (hp : (rows h').PackedRows (EltTy.packing .bf16)) (q q' : PosShare TreeShare) (X Y : (Sh A 256).Idx → Elt F .f32)
    (s : Pair F B 128) (Q : PUnit → sProp 𝕄) :
    iprop(owns (c : Thread nD τ) Ih q X ∗ owns (c : Thread nD τ) Ic q' Y ∗ ownP c Dh Dc s)
      ⊢ iprop((owns (c : Thread nD τ) Ih q X -∗ owns (c : Thread nD τ) Ic q' Y
          -∗ ownP c Dh Dc (s.put (off 0) (leafOut hf W b hb hs hi (fun x => X ((rows h).emb x)) (fun x => Y ((rows h).emb x)))) -∗ Q ⟨⟩)
        -∗ WP c (leafChunk hf W b hb hs Ih Ic Dh Dc hDh hi hn' hn h h' hp) Q) := by
  unfold leafChunk
  iintro ⟨Hi, Hj, Hd⟩ Hk
  iapply (load_owns c X) $$ Hi
  iintro Hi
  iapply (load_owns c Y) $$ Hj
  iintro Hj
  iapply (put_wp c Dh Dc hDh h' h1 hp hn (leafOut hf W b hb hs hi (fun x => X ((rows h).emb x)) (fun x => Y ((rows h).emb x))) s Q) $$ Hd
  iintro Hd
  iapply Hk $$ Hi Hj Hd

/-- A chunk whose children and parents lie in different buffers. -/
theorem chunk_wp (c : Dev nD) {A B : ℕ} (Mh : Memref sig .tc .vmem (Sh A 128) .bf16) (Mc : Memref sig .tc .vmem (Sh A 128) .f32)
    (Dh : Memref sig .tc .vmem (Sh B 128) .bf16) (Dc : Memref sig .tc .vmem (Sh B 128) .f32) (hDh : Dh.IsWhole)
    (hi : (Sh (2 * n) 128).ShapeCasts (Sh n 256)) (hn' : 0 < (Sh (2 * n) 128).numel) (hn : 0 < (Sh n 128).numel)
    {so off : Fin 2 → ℕ} (h : Fits A (2 * n) 128 so) (h' : Fits B n 128 off) (h1 : off 1 = 0)
    (hp : (rows h').PackedRows (EltTy.packing .bf16)) (r : Pair F A 128) (s : Pair F B 128) (Q : PUnit → sProp 𝕄) :
    iprop(ownP c Mh Mc r ∗ ownP c Dh Dc s)
      ⊢ iprop((ownP c Mh Mc r -∗ ownP c Dh Dc (s.put (off 0) (chunkOut hf W b hb hs hi (r.take h))) -∗ Q ⟨⟩)
        -∗ WP c (chunk hf W b hb hs Mh Mc Dh Dc hDh hi hn' hn h h' hp) Q) := by
  unfold chunk
  iintro ⟨Hm, Hd⟩ Hk
  iapply (loadH c Mh Mc h r) $$ Hm
  iintro Hm
  iapply (loadC c Mh Mc h r) $$ Hm
  iintro Hm
  iapply (put_wp c Dh Dc hDh h' h1 hp hn (chunkOut hf W b hb hs hi (r.take h)) s Q) $$ Hd
  iintro Hd
  iapply Hk $$ Hm Hd

/-- A chunk whose children and parents lie in the same buffers. -/
theorem chunk_wp_same (c : Dev nD) {B : ℕ}
    (Dh : Memref sig .tc .vmem (Sh B 128) .bf16) (Dc : Memref sig .tc .vmem (Sh B 128) .f32) (hDh : Dh.IsWhole)
    (hi : (Sh (2 * n) 128).ShapeCasts (Sh n 256)) (hn' : 0 < (Sh (2 * n) 128).numel) (hn : 0 < (Sh n 128).numel)
    {so off : Fin 2 → ℕ} (h : Fits B (2 * n) 128 so) (h' : Fits B n 128 off) (h1 : off 1 = 0)
    (hp : (rows h').PackedRows (EltTy.packing .bf16)) (s : Pair F B 128) (Q : PUnit → sProp 𝕄) :
    (ownP c Dh Dc s : sProp 𝕄)
      ⊢ iprop((ownP c Dh Dc (s.put (off 0) (chunkOut hf W b hb hs hi (s.take h))) -∗ Q ⟨⟩)
        -∗ WP c (chunk hf W b hb hs Dh Dc Dh Dc hDh hi hn' hn h h' hp) Q) := by
  unfold chunk
  iintro Hm Hk
  iapply (loadH c Dh Dc h s) $$ Hm
  iintro Hm
  iapply (loadC c Dh Dc h s) $$ Hm
  iintro Hm
  iapply (put_wp c Dh Dc hDh h' h1 hp hn (chunkOut hf W b hb hs hi (s.take h)) s Q) $$ Hm
  iexact Hk
end

/-- The contents after `k` chunks, from chunk `j` on: chunk `j` stores `g j s` over the 256 rows from
    `p + 256 j` when it runs at contents `s`. -/
def run {B : ℕ} (g : ℕ → Pair F B 128 → Pair F 256 128) (p : ℕ) : ℕ → ℕ → Pair F B 128 → Pair F B 128
  | 0, _, s => s
  | k + 1, j, s => run g p k (j + 1) (s.put (p + 256 * j) (g j s))

section
variable (W : FVec F (Sh 256 640) .bf16) (b : FVec F (Sh 1 256) .f32)

/-- What chunk `j` of the first level stores, from the staged leaves. -/
def leafStep {A B : ℕ} (X Y : (Sh A 256).Idx → Elt F .f32) (j : ℕ) (_ : Pair F B 128) : Pair F 256 128 :=
  if h : 256 * j + 256 ≤ A then
    leafOut facts256 W b (by decide) (by decide) (by decide) (fun x => X ((rows (fits (n := 256) (256 * j) h)).emb x))
      (fun x => Y ((rows (fits (n := 256) (256 * j) h)).emb x))
  else ⟨fun _ => (Scalar.ofBits .bf16 0#16 : F .bf16), fun _ => (Scalar.ofBits .f32 0#32 : F .f32)⟩

/-- What chunk `j` of a level stores, its children from row `o` of `r`. -/
def chunkStep {A : ℕ} (o j : ℕ) (r : Pair F A 128) : Pair F 256 128 :=
  if h : o + 512 * j + 2 * 256 ≤ A then
    chunkOut facts256 W b (by decide) (by decide) (by decide) (r.take (fits (n := 2 * 256) (o + 512 * j) h))
  else ⟨fun _ => (Scalar.ofBits .bf16 0#16 : F .bf16), fun _ => (Scalar.ofBits .f32 0#32 : F .f32)⟩

/-- The first level. -/
theorem leaves_wp (c : Dev nD) {A B : ℕ} (Ih Ic : Memref sig .tc .vmem (Sh A 256) .f32)
    (Dh : Memref sig .tc .vmem (Sh B 128) .bf16) (Dc : Memref sig .tc .vmem (Sh B 128) .f32) (hDh : Dh.IsWhole)
    (q q' : PosShare TreeShare) (X Y : (Sh A 256).Idx → Elt F .f32) (Q : PUnit → sProp 𝕄) :
    ∀ (k j : ℕ) (hA : 256 * (j + k) ≤ A) (hB : 256 * (j + k) ≤ B) (s : Pair F B 128),
    iprop(owns (c : Thread nD τ) Ih q X ∗ owns (c : Thread nD τ) Ic q' Y ∗ ownP c Dh Dc s)
      ⊢ iprop((owns (c : Thread nD τ) Ih q X -∗ owns (c : Thread nD τ) Ic q' Y
          -∗ ownP c Dh Dc (run (leafStep W b X Y) 0 k j s) -∗ Q ⟨⟩)
        -∗ WP c (leaves W b Ih Ic Dh Dc hDh k j hA hB) Q)
  | 0, _, _, _, s => by
    unfold leaves run
    iintro ⟨Hi, Hj, Hd⟩ Hk
    iapply (ret_wp c ⟨⟩ Q)
    iapply Hk $$ Hi Hj Hd
  | k + 1, j, hA, hB, s => by
    unfold leaves run WP
    rw [wp_bind]
    iintro ⟨Hi, Hj, Hd⟩ Hk
    iapply (leafChunk_wp facts256 W b _ _ c Ih Ic Dh Dc hDh _ _ _ (fits (n := 256) (256 * j) (by omega))
      (fits (n := 256) (256 * j) (by omega)) rfl _ q q' X Y s _) $$ [Hi Hj Hd]
    · isplitl [Hi]
      · iexact Hi
      isplitl [Hj]
      · iexact Hj
      iexact Hd
    iintro Hi Hj Hd
    iapply (leaves_wp c Ih Ic Dh Dc hDh q q' X Y Q k (j + 1) _ _ _) $$ [Hi Hj Hd]
    · isplitl [Hi]
      · iexact Hi
      isplitl [Hj]
      · iexact Hj
      iexact Hd
    rw [leafStep, dif_pos (show 256 * j + 256 ≤ A by omega), Nat.zero_add]
    iexact Hk

/-- A level whose children and parents lie in different buffers. -/
theorem level_wp (c : Dev nD) {A B : ℕ} (Mh : Memref sig .tc .vmem (Sh A 128) .bf16) (Mc : Memref sig .tc .vmem (Sh A 128) .f32)
    (Dh : Memref sig .tc .vmem (Sh B 128) .bf16) (Dc : Memref sig .tc .vmem (Sh B 128) .f32) (hDh : Dh.IsWhole)
    (o p : ℕ) (hp : 2 ∣ p) (r : Pair F A 128) (Q : PUnit → sProp 𝕄) :
    ∀ (k j : ℕ) (hA : o + 512 * (j + k) ≤ A) (hB : p + 256 * (j + k) ≤ B) (s : Pair F B 128),
    iprop(ownP c Mh Mc r ∗ ownP c Dh Dc s)
      ⊢ iprop((ownP c Mh Mc r -∗ ownP c Dh Dc (run (fun j _ => chunkStep W b o j r) p k j s) -∗ Q ⟨⟩)
        -∗ WP c (level W b Mh Mc Dh Dc hDh o p hp k j hA hB) Q)
  | 0, _, _, _, s => by
    unfold level run
    iintro ⟨Hm, Hd⟩ Hk
    iapply (ret_wp c ⟨⟩ Q)
    iapply Hk $$ Hm Hd
  | k + 1, j, hA, hB, s => by
    unfold level run WP
    rw [wp_bind]
    iintro ⟨Hm, Hd⟩ Hk
    iapply (chunk_wp facts256 W b _ _ c Mh Mc Dh Dc hDh _ _ _ (fits (n := 2 * 256) (o + 512 * j) (by omega))
      (fits (n := 256) (p + 256 * j) (by omega)) rfl _ r s _) $$ [Hm Hd]
    · isplitl [Hm]
      · iexact Hm
      iexact Hd
    iintro Hm Hd
    iapply (level_wp c Mh Mc Dh Dc hDh o p hp r Q k (j + 1) _ _ _) $$ [Hm Hd]
    · isplitl [Hm]
      · iexact Hm
      iexact Hd
    rw [chunkStep, dif_pos (show o + 512 * j + 2 * 256 ≤ A by omega)]
    iexact Hk

/-- A level whose children and parents lie in the same buffers. -/
theorem level_wp_same (c : Dev nD) {B : ℕ}
    (Dh : Memref sig .tc .vmem (Sh B 128) .bf16) (Dc : Memref sig .tc .vmem (Sh B 128) .f32) (hDh : Dh.IsWhole)
    (o p : ℕ) (hp : 2 ∣ p) (Q : PUnit → sProp 𝕄) :
    ∀ (k j : ℕ) (hA : o + 512 * (j + k) ≤ B) (hB : p + 256 * (j + k) ≤ B) (s : Pair F B 128),
    (ownP c Dh Dc s : sProp 𝕄)
      ⊢ iprop((ownP c Dh Dc (run (chunkStep W b o) p k j s) -∗ Q ⟨⟩)
        -∗ WP c (level W b Dh Dc Dh Dc hDh o p hp k j hA hB) Q)
  | 0, _, _, _, s => by
    unfold level run
    iintro Hd Hk
    iapply (ret_wp c ⟨⟩ Q)
    iapply Hk $$ Hd
  | k + 1, j, hA, hB, s => by
    unfold level run WP
    rw [wp_bind]
    iintro Hd Hk
    iapply (chunk_wp_same facts256 W b _ _ c Dh Dc hDh _ _ _ (fits (n := 2 * 256) (o + 512 * j) (by omega))
      (fits (n := 256) (p + 256 * j) (by omega)) rfl _ s _) $$ Hd
    iintro Hd
    iapply (level_wp_same c Dh Dc hDh o p hp Q k (j + 1) _ _ _) $$ Hd
    rw [chunkStep, dif_pos (show o + 512 * j + 2 * 256 ≤ B by omega)]
    iexact Hk
end

end Cert.KernelIdeal.Hand

end
-- ==== Proof.Rows.lean ====
/- What is known of the rows of a buffer after each level, whatever the other rows hold. -/
module

public import proofs.«01_k».proof.Proof.Chunks

@[expose] public section

noncomputable section

namespace Cert.KernelIdeal.Hand

open Cert.KernelIdeal Cert.KernelIdeal.Gen
open Idealize.ShloMosaic

variable {F : FTy → Type} [FloatOps F]

/-- Hidden and cell states by row and lane. -/
structure Rows (F : FTy → Type) where
  h : ℕ → Fin 128 → F .bf16
  c : ℕ → Fin 128 → F .f32

/-- Rows `o` to `o + n` of a buffer hold the rows `R` from the first on. -/
def Pair.Has {B : ℕ} (s : Pair F B 128) (o n : ℕ) (R : Rows F) : Prop :=
  ∀ y : (Sh B 128).Idx, o ≤ (y 0).val → (y 0).val < o + n →
    s.h y = R.h ((y 0).val - o) (y 1) ∧ s.c y = R.c ((y 0).val - o) (y 1)

/-- `n` of the rows from row `o`. -/
def Rows.take (R : Rows F) (n o : ℕ) : Pair F n 128 :=
  ⟨fun x => R.h (o + (x 0).val) (x 1), fun x => R.c (o + (x 0).val) (x 1)⟩

/-- Two pairs agree at a position. -/
def Pair.Agree {B m : ℕ} (s s' : Pair F B m) (y : (Sh B m).Idx) : Prop := s.h y = s'.h y ∧ s.c y = s'.c y

/-- A chunk loaded from known rows. -/
theorem Pair.Has.take {A n o N : ℕ} {off : Fin 2 → ℕ} {s : Pair F A 128} {R : Rows F} (hs : s.Has o N R) (h : Fits A n 128 off)
    (h1 : off 1 = 0) (hlo : o ≤ off 0) (hhi : off 0 + n ≤ o + N) : s.take h = R.take n (off 0 - o) := by
  have key (x : (Sh n 128).Idx) : (((rows h).emb x 0).val = off 0 + (x 0).val) ∧ (rows h).emb x 1 = x 1 :=
    ⟨rows_emb h x 0, Fin.ext ((rows_emb h x 1).trans (by rw [h1, Nat.zero_add]))⟩
  have hx (x : (Sh n 128).Idx) : (x 0).val < n := (x 0).isLt
  have both (x : (Sh n 128).Idx) := hs ((rows h).emb x) (by rw [(key x).1]; omega) (by rw [(key x).1]; have := hx x; omega)
  have hr (x : (Sh n 128).Idx) : ((rows h).emb x 0).val - o = off 0 - o + (x 0).val := by rw [(key x).1]; omega
  unfold Pair.take Rows.take
  congr 1
  · funext x
    rw [(both x).1, hr, (key x).2]
  · funext x
    rw [(both x).2, hr, (key x).2]

/-- Replaced rows hold what replaces them. -/
theorem put_in {B n o : ℕ} (s : Pair F B 128) (v : Pair F n 128) (y : (Sh B 128).Idx) (h : o ≤ (y 0).val ∧ (y 0).val < o + n) :
    (s.put o v).h y = v.h (ix ⟨(y 0).val - o, by omega⟩ (y 1)) ∧ (s.put o v).c y = v.c (ix ⟨(y 0).val - o, by omega⟩ (y 1)) := by
  unfold Pair.put setRows
  exact ⟨dif_pos h, dif_pos h⟩

/-- The other rows are unchanged. -/
theorem put_out {B n o : ℕ} (s : Pair F B 128) (v : Pair F n 128) (y : (Sh B 128).Idx) (h : ¬(o ≤ (y 0).val ∧ (y 0).val < o + n)) :
    (s.put o v).Agree s y := by
  unfold Pair.Agree Pair.put setRows
  exact ⟨dif_neg h, dif_neg h⟩

/-- After `k` chunks that store `v j`, whatever the earlier chunks left in the rows they write, the
    rows written hold `v j` chunk by chunk and the others are unchanged. -/
theorem run_spec {B : ℕ} (g : ℕ → Pair F B 128 → Pair F 256 128) (p : ℕ) (v : ℕ → Pair F 256 128) :
    ∀ (k j : ℕ) (s : Pair F B 128),
      (∀ i s', i < k → (∀ y : (Sh B 128).Idx, ¬(p + 256 * j ≤ (y 0).val ∧ (y 0).val < p + 256 * (j + k)) → s'.Agree s y) →
        g (j + i) s' = v (j + i)) →
      (∀ y : (Sh B 128).Idx, ¬(p + 256 * j ≤ (y 0).val ∧ (y 0).val < p + 256 * (j + k)) → (run g p k j s).Agree s y) ∧
      ∀ y : (Sh B 128).Idx, p + 256 * j ≤ (y 0).val → (y 0).val < p + 256 * (j + k) →
        (run g p k j s).h y = (v (((y 0).val - p) / 256)).h (ix ⟨((y 0).val - p) % 256, Nat.mod_lt _ (by decide)⟩ (y 1)) ∧
        (run g p k j s).c y = (v (((y 0).val - p) / 256)).c (ix ⟨((y 0).val - p) % 256, Nat.mod_lt _ (by decide)⟩ (y 1))
  | 0, j, s, _ => ⟨fun _ _ => ⟨rfl, rfl⟩, fun y h h' => by omega⟩
  | k + 1, j, s, hg => by
    have h0 : g j s = v j := hg 0 s (by omega) fun _ _ => ⟨rfl, rfl⟩
    have ih := run_spec g p v k (j + 1) (s.put (p + 256 * j) (g j s)) fun i s' hi hs' => by
      have := hg (i + 1) s' (by omega) fun y hy => by
        have h1 := hs' y (by omega)
        have h2 := put_out s (g j s) (o := p + 256 * j) y (by omega)
        exact ⟨h1.1.trans h2.1, h1.2.trans h2.2⟩
      rwa [show j + (i + 1) = j + 1 + i by omega] at this
    refine ⟨fun y hy => ?_, fun y hlo hhi => ?_⟩
    · have h1 := ih.1 y (by omega)
      have h2 := put_out s (g j s) (o := p + 256 * j) y (by omega)
      exact ⟨h1.1.trans h2.1, h1.2.trans h2.2⟩
    · by_cases hy : p + 256 * (j + 1) ≤ (y 0).val
      · exact ih.2 y hy (by omega)
      · have h1 := ih.1 y (by omega)
        have h2 := put_in s (g j s) (o := p + 256 * j) y (by omega)
        have e1 : ((y 0).val - p) / 256 = j := by omega
        have e2 : (⟨((y 0).val - p) % 256, Nat.mod_lt _ (by decide)⟩ : Fin 256) = ⟨(y 0).val - (p + 256 * j), by omega⟩ :=
          Fin.ext (by show ((y 0).val - p) % 256 = (y 0).val - (p + 256 * j); omega)
        have h1' : (run g p (k + 1) j s).Agree (s.put (p + 256 * j) (g j s)) y := h1
        rw [e1, e2, h1'.1, h1'.2, h2.1, h2.2, h0]
        exact ⟨rfl, rfl⟩

section
variable (W : FVec F (Sh 256 640) .bf16) (b : FVec F (Sh 1 256) .f32)

/-- The parents of the rows `R`, computed `n` at a time. -/
def next {n : ℕ} (hf : CellFacts n) (hb : (Sh 1 256).Broadcasts (Sh n 256)) (hs : (Sh n 128).ShapeCasts (Sh n 128))
    (hi : (Sh (2 * n) 128).ShapeCasts (Sh n 256)) (hn : 0 < n) (R : Rows F) : Rows F :=
  ⟨fun r d => (chunkOut hf W b hb hs hi (R.take (2 * n) (2 * n * (r / n)))).h (ix ⟨r % n, Nat.mod_lt _ hn⟩ d),
    fun r d => (chunkOut hf W b hb hs hi (R.take (2 * n) (2 * n * (r / n)))).c (ix ⟨r % n, Nat.mod_lt _ hn⟩ d)⟩

/-- Row `n q + m` of the parents is row `m` of chunk `q`. -/
theorem next_eq {n : ℕ} (hf : CellFacts n) (hb : (Sh 1 256).Broadcasts (Sh n 256)) (hs : (Sh n 128).ShapeCasts (Sh n 128))
    (hi : (Sh (2 * n) 128).ShapeCasts (Sh n 256)) (hn : 0 < n) (R : Rows F) (r q m : ℕ) (hm : m < n) (hr : r = n * q + m) (d : Fin 128) :
    (next W b hf hb hs hi hn R).h r d = (chunkOut hf W b hb hs hi (R.take (2 * n) (2 * n * q))).h (ix ⟨m, hm⟩ d) ∧
      (next W b hf hb hs hi hn R).c r d = (chunkOut hf W b hb hs hi (R.take (2 * n) (2 * n * q))).c (ix ⟨m, hm⟩ d) := by
  have e1 : r / n = q := by rw [hr, Nat.mul_add_div hn, Nat.div_eq_of_lt hm, Nat.add_zero]
  have e2 : (⟨r % n, Nat.mod_lt _ hn⟩ : Fin n) = ⟨m, hm⟩ := Fin.ext (by show r % n = m; rw [hr, Nat.mul_add_mod, Nat.mod_eq_of_lt hm])
  unfold next
  dsimp only
  rw [e1, e2]
  exact ⟨rfl, rfl⟩

/-- The parents, computed 256 at a time. -/
abbrev next256 (R : Rows F) : Rows F := next W b facts256 (by decide) (by decide) (by decide) (by decide) R

/-- The parents, computed 128 at a time. -/
abbrev next128 (R : Rows F) : Rows F := next W b facts128 (by decide) (by decide) (by decide) (by decide) R

/-- The first level's rows, from the staged leaves. -/
def firstRows (X Y : (Sh 4096 256).Idx → Elt F .f32) : Rows F :=
  ⟨fun r d => (leafStep (B := 7168) W b X Y (r / 256) ⟨fun _ => (Scalar.ofBits .bf16 0#16 : F .bf16), fun _ => (Scalar.ofBits .f32 0#32 : F .f32)⟩).h
      (ix ⟨r % 256, Nat.mod_lt _ (by decide)⟩ d),
    fun r d => (leafStep (B := 7168) W b X Y (r / 256) ⟨fun _ => (Scalar.ofBits .bf16 0#16 : F .bf16), fun _ => (Scalar.ofBits .f32 0#32 : F .f32)⟩).c
      (ix ⟨r % 256, Nat.mod_lt _ (by decide)⟩ d)⟩

/-- A level whose chunks store the parents of `R` leaves them in its rows, and the rest alone. -/
theorem run_next {B : ℕ} (g : ℕ → Pair F B 128 → Pair F 256 128) (p k : ℕ) (s : Pair F B 128) (R : Rows F)
    (hg : ∀ j s', j < k → (∀ y : (Sh B 128).Idx, ¬(p ≤ (y 0).val ∧ (y 0).val < p + 256 * k) → s'.Agree s y) →
      g j s' = chunkOut facts256 W b (by decide) (by decide) (by decide) (R.take (2 * 256) (512 * j))) :
    (run g p k 0 s).Has p (256 * k) (next256 W b R) ∧
      ∀ y : (Sh B 128).Idx, ¬(p ≤ (y 0).val ∧ (y 0).val < p + 256 * k) → (run g p k 0 s).Agree s y := by
  have h := run_spec g p (fun j => chunkOut facts256 W b (by decide) (by decide) (by decide) (R.take (2 * 256) (512 * j))) k 0 s
    fun i s' hi hs' => by
      rw [Nat.zero_add]
      exact hg i s' hi fun y hy => hs' y (by omega)
  refine ⟨fun y hlo hhi => h.2 y (by omega) (by omega), fun y hy => h.1 y (by omega)⟩

/-- A level within one buffer: its children lie before its parents. -/
theorem level_has {B : ℕ} (o p k : ℕ) (s : Pair F B 128) (R : Rows F) (hs : s.Has o (512 * k) R) (hop : o + 512 * k ≤ p)
    (hB : p + 256 * k ≤ B) :
    (run (chunkStep W b o) p k 0 s).Has p (256 * k) (next256 W b R) ∧
      ∀ y : (Sh B 128).Idx, ¬(p ≤ (y 0).val ∧ (y 0).val < p + 256 * k) → (run (chunkStep W b o) p k 0 s).Agree s y :=
  run_next W b _ p k s R fun j s' hj hs' => by
    have hs'' : s'.Has o (512 * k) R := fun y hlo hhi => by
      have h1 := hs' y (by omega)
      have h2 := hs y hlo hhi
      exact ⟨h1.1.trans h2.1, h1.2.trans h2.2⟩
    rw [chunkStep, dif_pos (by omega), hs''.take _ rfl (show o ≤ o + 512 * j by omega) (show o + 512 * j + 2 * 256 ≤ _ by omega)]
    show chunkOut _ W b _ _ _ (R.take (2 * 256) (o + 512 * j - o)) = _
    rw [Nat.add_sub_cancel_left]

/-- A level from another buffer. -/
theorem level_has_from {A B : ℕ} (o p k : ℕ) (r : Pair F A 128) (s : Pair F B 128) (R : Rows F) (hr : r.Has o (512 * k) R)
    (hA : o + 512 * k ≤ A) :
    (run (fun j (_ : Pair F B 128) => chunkStep W b o j r) p k 0 s).Has p (256 * k) (next256 W b R) :=
  (run_next W b _ p k s R fun j s' hj _ => by
    rw [chunkStep, dif_pos (by omega), hr.take _ rfl (show o ≤ o + 512 * j by omega) (show o + 512 * j + 2 * 256 ≤ _ by omega)]
    show chunkOut _ W b _ _ _ (R.take (2 * 256) (o + 512 * j - o)) = _
    rw [Nat.add_sub_cancel_left]).1

/-- The first level's rows. -/
theorem leaves_has (X Y : (Sh 4096 256).Idx → Elt F .f32) (s : Pair F 7168 128) :
    (run (leafStep W b X Y) 0 16 0 s).Has 0 4096 (firstRows W b X Y) := by
  have h := run_spec (leafStep W b X Y) 0
    (fun j => leafStep (B := 7168) W b X Y j ⟨fun _ => (Scalar.ofBits .bf16 0#16 : F .bf16), fun _ => (Scalar.ofBits .f32 0#32 : F .f32)⟩)
    16 0 s fun i s' hi hs' => rfl
  exact fun y hlo hhi => h.2 y (by omega) (by omega)

/-- The rows a block of leaves leaves in the scratch after three levels. -/
def blockRows (Wd : FVec F (Sh 256 640) .bf16) (X Y : (Sh 4096 256).Idx → Elt F .f32) : Rows F :=
  next256 Wd b (next256 Wd b (firstRows W b X Y))

/-- The scratch after the three levels of a block. -/
def blockL (Wd : FVec F (Sh 256 640) .bf16) (X Y : (Sh 4096 256).Idx → Elt F .f32) (s : Pair F 7168 128) : Pair F 7168 128 :=
  run (chunkStep Wd b 4096) 6144 4 0 (run (chunkStep Wd b 0) 4096 8 0 (run (leafStep W b X Y) 0 16 0 s))

theorem blockL_has (Wd : FVec F (Sh 256 640) .bf16) (X Y : (Sh 4096 256).Idx → Elt F .f32) (s : Pair F 7168 128) :
    (blockL W b Wd X Y s).Has 6144 1024 (blockRows W b Wd X Y) :=
  (level_has Wd b 4096 6144 4 _ _
    (level_has Wd b 0 4096 8 _ _ (leaves_has W b X Y s) (by decide) (by decide)).1 (by decide) (by decide)).1

/-- The carried rows after a block: two chunks of its fourth level, from row `o`. -/
def blockS (Wd : FVec F (Sh 256 640) .bf16) (o : ℕ) (l : Pair F 7168 128) (s : Pair F 3072 128) : Pair F 3072 128 :=
  (s.put o (chunkOut facts256 Wd b (by decide) (by decide) (by decide) (l.take (fits (n := 2 * 256) 6144 (by decide))))).put (o + 256)
    (chunkOut facts256 Wd b (by decide) (by decide) (by decide) (l.take (fits (n := 2 * 256) 6656 (by decide))))

/-- The block's 512 carried rows, and the rest alone. -/
theorem blockS_has (Wd : FVec F (Sh 256 640) .bf16) (o : ℕ) (l : Pair F 7168 128) (s : Pair F 3072 128) (R : Rows F)
    (hl : l.Has 6144 1024 R) :
    (blockS b Wd o l s).Has o 512 (next256 Wd b R) ∧
      ∀ y : (Sh 3072 128).Idx, ¬(o ≤ (y 0).val ∧ (y 0).val < o + 512) → (blockS b Wd o l s).Agree s y := by
  have t0 := hl.take (fits (n := 2 * 256) 6144 (by decide)) rfl (by decide) (by decide)
  have t1 := hl.take (fits (n := 2 * 256) 6656 (by decide)) rfl (by decide) (by decide)
  unfold blockS
  rw [t0, t1]
  refine ⟨fun y hlo hhi => ?_, fun y hy => ?_⟩
  · by_cases hy : o + 256 ≤ (y 0).val
    · have h := put_in (o := o + 256) (s.put o (chunkOut facts256 Wd b (by decide) (by decide) (by decide) (R.take (2 * 256) 0)))
        (chunkOut facts256 Wd b (by decide) (by decide) (by decide) (R.take (2 * 256) 512)) y (by omega)
      have e := next_eq Wd b facts256 (by decide) (by decide) (by decide) (by decide) R ((y 0).val - o) 1 ((y 0).val - (o + 256))
        (by omega) (by omega) (y 1)
      exact ⟨h.1.trans e.1.symm, h.2.trans e.2.symm⟩
    · have h' := put_out (o := o + 256) (s.put o (chunkOut facts256 Wd b (by decide) (by decide) (by decide) (R.take (2 * 256) 0)))
        (chunkOut facts256 Wd b (by decide) (by decide) (by decide) (R.take (2 * 256) 512)) y (by omega)
      have h := put_in (o := o) s (chunkOut facts256 Wd b (by decide) (by decide) (by decide) (R.take (2 * 256) 0)) y (by omega)
      have e := next_eq Wd b facts256 (by decide) (by decide) (by decide) (by decide) R ((y 0).val - o) 0 ((y 0).val - o)
        (by omega) (by omega) (y 1)
      exact ⟨(h'.1.trans h.1).trans e.1.symm, (h'.2.trans h.2).trans e.2.symm⟩
  · have h' := put_out (o := o + 256) (s.put o (chunkOut facts256 Wd b (by decide) (by decide) (by decide) (R.take (2 * 256) 0)))
      (chunkOut facts256 Wd b (by decide) (by decide) (by decide) (R.take (2 * 256) 512)) y (by omega)
    have h := put_out (o := o) s (chunkOut facts256 Wd b (by decide) (by decide) (by decide) (R.take (2 * 256) 0)) y (by omega)
    exact ⟨h'.1.trans h.1, h'.2.trans h.2⟩

/-- The scratch after the last point's levels. -/
def finishL (Wd : FVec F (Sh 256 640) .bf16) (r : Pair F 3072 128) (s : Pair F 7168 128) : Pair F 7168 128 :=
  let l := run (chunkStep Wd b 1536) 2304 1 0 (run (chunkStep Wd b 0) 1536 3 0
    (run (fun j (_ : Pair F 7168 128) => chunkStep Wd b 0 j r) 0 6 0 s))
  l.put 2560 (chunkOut facts128 Wd b (by decide) (by decide) (by decide) (l.take (fits (n := 2 * 128) 2048 (by decide))))

/-- The 384 rows loaded for the levels in registers, from the 3072 carried rows. -/
def topRows (Wd : FVec F (Sh 256 640) .bf16) (R : Rows F) : Rows F :=
  let R' := next256 Wd b (next256 Wd b R)
  ⟨fun r d => if r < 256 then (next256 Wd b R').h r d else (next128 Wd b R').h r d,
    fun r d => if r < 256 then (next256 Wd b R').c r d else (next128 Wd b R').c r d⟩

theorem finishL_has (Wd : FVec F (Sh 256 640) .bf16) (r : Pair F 3072 128) (s : Pair F 7168 128) (R : Rows F) (hr : r.Has 0 3072 R) :
    (finishL b Wd r s).Has 2304 384 (topRows b Wd R) := by
  have h1 := level_has_from (B := 7168) Wd b 0 0 6 r s R hr (by decide)
  have h2 := (level_has Wd b 0 1536 3 _ _ h1 (by decide) (by decide)).1
  have h2' : Pair.Has _ 1536 (512 * 1) _ := fun y hlo hhi => h2 y hlo (by omega)
  have h3 := level_has Wd b 1536 2304 1 _ _ h2' (by decide) (by decide)
  have h4 : Pair.Has _ 1536 768 _ := fun y hlo hhi => by
    have e := h3.2 y (by omega)
    have e' := h2 y hlo hhi
    exact ⟨e.1.trans e'.1, e.2.trans e'.2⟩
  have t := h4.take (fits (n := 2 * 128) 2048 (by decide)) rfl (by decide) (by decide)
  intro y hlo hhi
  unfold finishL
  dsimp only
  rw [t]
  unfold topRows
  dsimp only
  by_cases hy : 2560 ≤ (y 0).val
  · have h := put_in (o := 2560) (run (chunkStep Wd b 1536) 2304 1 0 (run (chunkStep Wd b 0) 1536 3 0
      (run (fun j (_ : Pair F 7168 128) => chunkStep Wd b 0 j r) 0 6 0 s)))
      (chunkOut facts128 Wd b (by decide) (by decide) (by decide) ((next256 Wd b (next256 Wd b R)).take (2 * 128) 512)) y (by omega)
    have e := next_eq Wd b facts128 (by decide) (by decide) (by decide) (by decide) (next256 Wd b (next256 Wd b R)) ((y 0).val - 2304) 2
      ((y 0).val - 2560) (by omega) (by omega) (y 1)
    rw [if_neg (by omega), if_neg (by omega)]
    exact ⟨h.1.trans e.1.symm, h.2.trans e.2.symm⟩
  · have h := put_out (o := 2560) (run (chunkStep Wd b 1536) 2304 1 0 (run (chunkStep Wd b 0) 1536 3 0
      (run (fun j (_ : Pair F 7168 128) => chunkStep Wd b 0 j r) 0 6 0 s)))
      (chunkOut facts128 Wd b (by decide) (by decide) (by decide) ((next256 Wd b (next256 Wd b R)).take (2 * 128) 512)) y (by omega)
    have h' := h3.1 y (by omega) (by omega)
    rw [if_pos (by omega), if_pos (by omega)]
    exact ⟨h.1.trans h'.1, h.2.trans h'.2⟩
end

end Cert.KernelIdeal.Hand

end
-- ==== Proof.BodyWp.lean ====
/- What the kernel's body does at one grid point. -/
module

public import proofs.«01_k».proof.Proof.Rows
public import Idealize.ShloMosaic.Lib.Pipeline.Value

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- A memref on core `c` held whole at `X`. -/
abbrev has (c : Dev nD) {s : Shape} {e : EltTy} (m : Memref sig .tc .vmem s e) (X : s.Idx → Elt F e) : sProp 𝕄 :=
  owns (c : Thread nD τ) m fullShare X

/-- A chunk that is the whole buffer places every position at itself. -/
theorem rows_emb_whole {n m : ℕ} (h : Fits n n m ![0, 0]) (x : (Sh n m).Idx) : (rows h).emb x = x := by
  funext a
  apply Fin.ext
  rw [rows_emb]
  match a with
  | 0 => exact Nat.zero_add _
  | 1 => exact Nat.zero_add _

/-- A row loaded whole. -/
theorem getRow_wp (c : Dev nD) (m : Memref sig .tc .vmem (Sh 1 256) .f32) (X : (Sh 1 256).Idx → Elt F .f32)
    (Q : FVec F (Sh 1 256) .f32 → sProp 𝕄) :
    (has c m X : sProp 𝕄) ⊢ iprop((has c m X -∗ Q X) -∗ WP c (getRow m) Q) := by
  unfold getRow
  iintro H Hk
  iapply (load_owns c X) $$ H
  iintro H
  iapply (ret_wp c _ Q)
  simp only [rows_emb_whole]
  rw [shapeCast_self]
  iapply Hk $$ H

/-- A matrix loaded whole. -/
theorem getMat_wp (c : Dev nD) (m : Memref sig .tc .vmem (Sh 256 640) .bf16) (X : (Sh 256 640).Idx → Elt F .bf16)
    (Q : FVec F (Sh 256 640) .bf16 → sProp 𝕄) :
    (has c m X : sProp 𝕄) ⊢ iprop((has c m X -∗ Q X) -∗ WP c (getMat m) Q) := by
  unfold getMat
  iintro H Hk
  iapply (load_owns c X) $$ H
  iintro H
  iapply (ret_wp c _ Q)
  simp only [rows_emb_whole]
  rw [shapeCast_self]
  iapply Hk $$ H

section
variable (c : Dev nD) (arg1 arg2 : Memref sig .tc .vmem (Sh 4096 256) .f32) (arg3 arg4 arg5 : Memref sig .tc .vmem (Sh 256 640) .bf16)
  (arg6 arg7 arg8 : Memref sig .tc .vmem (Sh 1 256) .f32)
  (arg9 : Memref sig .tc .vmem (Sh 7168 128) .bf16) (harg9 : arg9.IsWhole) (arg10 : Memref sig .tc .vmem (Sh 7168 128) .f32)
  (arg11 : Memref sig .tc .vmem (Sh 3072 128) .bf16) (harg11 : arg11.IsWhole) (arg12 : Memref sig .tc .vmem (Sh 3072 128) .f32)
  (X Y : (Sh 4096 256).Idx → Elt F .f32) (W Wd Ws : (Sh 256 640).Idx → Elt F .bf16) (b bs : (Sh 1 256).Idx → Elt F .f32)
  (O : (Sh 1 256).Idx → Elt F .f32) (l : Pair F 7168 128) (s : Pair F 3072 128)

/-- The block of leaves at a grid point. -/
theorem block_wp (i : grid0.Coords) (Q : PUnit → sProp 𝕄) :
    iprop(has c arg1 X ∗ has c arg2 Y ∗ ownP c arg9 arg10 l ∗ ownP c arg11 arg12 s)
      ⊢ iprop((has c arg1 X -∗ has c arg2 Y -∗ ownP c arg9 arg10 (blockL W b Wd X Y l)
          -∗ ownP c arg11 arg12 (blockS b Wd (512 * (i 0).val) (blockL W b Wd X Y l) s) -∗ Q ⟨⟩)
        -∗ WP c (block arg1 arg2 arg9 harg9 arg10 arg11 harg11 arg12 i W Wd b) Q) := by
  unfold block WP
  rw [wp_bind]
  iintro ⟨H1, H2, Hl, Hs⟩ Hk
  iapply (leaves_wp W b c arg1 arg2 arg9 arg10 harg9 fullShare fullShare X Y _ 16 0 _ _ l) $$ [H1 H2 Hl]
  · isplitl [H1]
    · iexact H1
    isplitl [H2]
    · iexact H2
    iexact Hl
  iintro H1 H2 Hl
  rw [wp_bind]
  iapply (level_wp_same Wd b c arg9 arg10 harg9 0 4096 _ _ 8 0 _ _ _) $$ Hl
  iintro Hl
  rw [wp_bind]
  iapply (level_wp_same Wd b c arg9 arg10 harg9 4096 6144 _ _ 4 0 _ _ _) $$ Hl
  iintro Hl
  rw [wp_bind]
  iapply (chunk_wp facts256 Wd b _ _ c arg9 arg10 arg11 arg12 harg11 _ _ _ (fits (n := 2 * 256) 6144 (by decide))
    (Gen.k0_off1_inb i 0) rfl _ _ s _) $$ [Hl Hs]
  · isplitl [Hl]
    · iexact Hl
    iexact Hs
  iintro Hl Hs
  iapply (chunk_wp facts256 Wd b _ _ c arg9 arg10 arg11 arg12 harg11 _ _ _ (fits (n := 2 * 256) 6656 (by decide))
    (Gen.k0_off1_inb i 1) rfl _ _ _ _) $$ [Hl Hs]
  · isplitl [Hl]
    · iexact Hl
    iexact Hs
  iintro Hl Hs
  rw [k0_off1_eq i 0, k0_off1_eq i 1]
  iapply Hk $$ H1 H2 [Hl] [Hs]
  · iexact Hl
  iexact Hs

/-- What the last point stores as the result, from the 384 rows it loads. -/
def finishOut (t : Pair F 384 128) : (Sh 1 256).Idx → Elt F .f32 :=
  final Wd b Ws bs (reg3H Wd b t.h t.c) (reg3C Wd b t.h t.c)

/-- The last point's work on the carried rows. -/
theorem finish_wp (Q : PUnit → sProp 𝕄) :
    iprop(has c arg5 Ws ∗ has c arg7 bs ∗ has c arg8 O ∗ ownP c arg9 arg10 l ∗ ownP c arg11 arg12 s)
      ⊢ iprop((has c arg5 Ws -∗ has c arg7 bs
          -∗ has c arg8 (finishOut Wd Ws b bs ((finishL b Wd s l).take (fits (n := 384) 2304 (by decide))))
          -∗ ownP c arg9 arg10 (finishL b Wd s l) -∗ ownP c arg11 arg12 s -∗ Q ⟨⟩)
        -∗ WP c (finish arg5 arg7 arg8 arg9 harg9 arg10 arg11 arg12 Wd b) Q) := by
  unfold finish WP
  rw [wp_bind]
  iintro ⟨H5, H7, H8, Hl, Hs⟩ Hk
  iapply (level_wp Wd b c arg11 arg12 arg9 arg10 harg9 0 0 _ s _ 6 0 _ _ l) $$ [Hl Hs]
  · isplitl [Hs]
    · iexact Hs
    iexact Hl
  iintro Hs Hl
  rw [wp_bind]
  iapply (level_wp_same Wd b c arg9 arg10 harg9 0 1536 _ _ 3 0 _ _ _) $$ Hl
  iintro Hl
  rw [wp_bind]
  iapply (level_wp_same Wd b c arg9 arg10 harg9 1536 2304 _ _ 1 0 _ _ _) $$ Hl
  iintro Hl
  rw [wp_bind]
  iapply (chunk_wp_same facts128 Wd b _ _ c arg9 arg10 harg9 _ _ _ (fits (n := 2 * 128) 2048 (by decide))
    (fits (n := 128) 2560 (by decide)) rfl _ _ _) $$ Hl
  iintro Hl
  iapply (loadH c arg9 arg10 (fits (n := 384) 2304 (by decide)) (finishL b Wd s l)) $$ [Hl]
  · iexact Hl
  iintro Hl
  iapply (loadC c arg9 arg10 (fits (n := 384) 2304 (by decide)) (finishL b Wd s l)) $$ Hl
  iintro Hl
  dsimp only [Prog.bind, WP]
  rw [wp_bind]
  iapply (getMat_wp c arg5 Ws) $$ H5
  iintro H5
  rw [wp_bind]
  iapply (getRow_wp c arg7 bs) $$ H7
  iintro H7
  iapply (load_owns c O) $$ H8
  iintro H8
  iapply (store_owns c O) $$ H8
  iintro %O' %hO H8
  iapply (ret_wp c _ Q)
  have hO' : O' = finishOut Wd Ws b bs ((finishL b Wd s l).take (fits (n := 384) 2304 (by decide))) := by
    funext x
    have := hO.1 x
    rwa [rows_emb_whole] at this
  subst hO'
  iapply Hk $$ H5 H7 H8 Hl Hs

/-- The body at a point: the block, and at the last point the rest. -/
theorem body_wp (i : grid0.Coords) (Q : PUnit → sProp 𝕄) :
    iprop(has c arg1 X ∗ has c arg2 Y ∗ has c arg3 W ∗ has c arg4 Wd ∗ has c arg5 Ws ∗ has c arg6 b ∗ has c arg7 bs ∗ has c arg8 O
        ∗ ownP c arg9 arg10 l ∗ ownP c arg11 arg12 s)
      ⊢ iprop((∀ O' l', ⌜k0_cond1 i = 1#1 → O' = finishOut Wd Ws b bs ((finishL b Wd
            (blockS b Wd (512 * (i 0).val) (blockL W b Wd X Y l) s) (blockL W b Wd X Y l)).take (fits (n := 384) 2304 (by decide)))⌝
          -∗ has c arg1 X -∗ has c arg2 Y -∗ has c arg3 W -∗ has c arg4 Wd -∗ has c arg5 Ws -∗ has c arg6 b -∗ has c arg7 bs
          -∗ has c arg8 O' -∗ ownP c arg9 arg10 l'
          -∗ ownP c arg11 arg12 (blockS b Wd (512 * (i 0).val) (blockL W b Wd X Y l) s) -∗ Q ⟨⟩)
        -∗ WP c (body arg1 arg2 arg3 arg4 arg5 arg6 arg7 arg8 arg9 harg9 arg10 arg11 harg11 arg12 i) Q) := by
  unfold body WP
  rw [wp_bind]
  iintro ⟨H1, H2, H3, H4, H5, H6, H7, H8, Hl, Hs⟩ Hk
  iapply (getMat_wp c arg3 W) $$ H3
  iintro H3
  rw [wp_bind]
  iapply (getMat_wp c arg4 Wd) $$ H4
  iintro H4
  rw [wp_bind]
  iapply (getRow_wp c arg6 b) $$ H6
  iintro H6
  rw [wp_bind]
  iapply (block_wp c arg1 arg2 arg9 harg9 arg10 arg11 harg11 arg12 X Y W Wd b l s i) $$ [H1 H2 Hl Hs]
  · isplitl [H1]
    · iexact H1
    isplitl [H2]
    · iexact H2
    isplitl [Hl]
    · iexact Hl
    iexact Hs
  iintro H1 H2 Hl Hs
  by_cases hi : k0_cond1 i = 1#1
  · rw [if_pos hi]
    iapply (finish_wp c arg5 arg7 arg8 arg9 harg9 arg10 arg11 arg12 Wd Ws b bs O _ _) $$ [H5 H7 H8 Hl Hs]
    · isplitl [H5]
      · iexact H5
      isplitl [H7]
      · iexact H7
      isplitl [H8]
      · iexact H8
      isplitl [Hl]
      · iexact Hl
      iexact Hs
    iintro H5 H7 H8 Hl Hs
    iapply Hk $$ %_ %_ [] H1 H2 H3 H4 H5 H6 H7 H8 Hl Hs
    ipureintro
    exact fun _ => rfl
  · rw [if_neg hi]
    iapply (ret_wp c ⟨⟩ Q)
    iapply Hk $$ %_ %_ [] H1 H2 H3 H4 H5 H6 H7 H8 Hl Hs
    ipureintro
    exact fun h => absurd h hi
end

end Cert.KernelIdeal.Hand

end
-- ==== Proof.Launch.lean ====
/- The kernel's run: what the scratch carries between the grid points, and what the result holds at the end. -/
module

public import proofs.«01_k».proof.Proof.BodyWp
public import proofs.«01_k».proof.Proof.BodyEq
public import proofs.«01_k».proof.Proof.Gen.KernelIdeal.Frame
public import Idealize.ShloMosaic.Lib.Pipeline.Frame
public import Idealize.ShloMosaic.Lib.Pipeline.DatRel
public import Idealize.ShloMosaic.Lib.Pipeline.ArrRel

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligationRel)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The weights and biases as the first point finds them staged. -/
abbrev wLeaf (c : Dev nD) : (Sh 256 640).Idx → Elt F .bf16 := iblk m c 2 t0_0
abbrev wDeep (c : Dev nD) : (Sh 256 640).Idx → Elt F .bf16 := iblk m c 3 t0_0
abbrev wSum (c : Dev nD) : (Sh 256 640).Idx → Elt F .bf16 := iblk m c 4 t0_0
abbrev bMerge (c : Dev nD) : (Sh 1 256).Idx → Elt F .f32 := iblk m c 5 t0_0
abbrev bSum (c : Dev nD) : (Sh 1 256).Idx → Elt F .f32 := iblk m c 6 t0_0

/-- The point that handles block `n` of the leaves. -/
def pt (n : ℕ) : Fin cfg0.N := ⟨n % 6, by rw [show cfg0.N = 6 from N_0]; omega⟩

/-- The 512 rows that block `n` of the leaves comes to. -/
def carriedOf (c : Dev nD) (n : ℕ) : Rows F :=
  next256 (wDeep m c) (bMerge m c) (blockRows (wLeaf m c) (bMerge m c) (wDeep m c) (iblk m c 0 (pt n)) (iblk m c 1 (pt n)))

/-- The 3072 rows carried to the last point. -/
def carried (c : Dev nD) : Rows F :=
  ⟨fun r d => (carriedOf m c (r / 512)).h (r % 512) d, fun r d => (carriedOf m c (r / 512)).c (r % 512) d⟩

/-- The result. -/
def result (c : Dev nD) : (Sh 1 256).Idx → Elt F .f32 :=
  finishOut (wDeep m c) (wSum m c) (bMerge m c) (bSum m c) ((topRows (bMerge m c) (wDeep m c) (carried m c)).take 384 0)

/-- The scratch buffers, whole. -/
abbrev sc0 : Memref sig .tc .vmem (Sh 7168 128) .bf16 := Memref.whole cc0_scratch0
abbrev sc1 : Memref sig .tc .vmem (Sh 7168 128) .f32 := Memref.whole cc0_scratch1
abbrev sc2 : Memref sig .tc .vmem (Sh 3072 128) .bf16 := Memref.whole cc0_scratch2
abbrev sc3 : Memref sig .tc .vmem (Sh 3072 128) .f32 := Memref.whole cc0_scratch3

/-- Between the points: the first scratch at anything, the first `n` carried rows in the second. -/
def carrying (c : Dev nD) (n : ℕ) : sProp 𝕄 :=
  iprop((∃ l, ownP c sc0 sc1 l) ∗ (∃ s, ⌜s.Has 0 n (carried m c)⌝ ∗ ownP c sc2 sc3 s) ∗ ∃ r, prngReg c r)

/-- The result's window is the one followed by what it may hold. -/
def marks : Fin 8 → Bool := fun | 7 => true | _ => false

/-- At the last point the result's window holds the result. -/
def leaves7 (c : Dev nD) : (w : Fin cfg0.W) → Fin cfg0.N → ((cfg0.win w).block.Idx → Elt F (cfg0.win w).elt) → Prop := fun w t X =>
  match w with
  | ⟨7, _⟩ => t.val = 5 → X = result m c
  | _ => True

/-- The run's data: the inputs stay as staged, the result's window is followed by `leaves7`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => result m c
  Φ t := carrying m c (512 * t.val)
  q _ := fullShare
  owed _ := 0

theorem A_eq (c : Dev nD) (w : Fin cfg0.W) : (dats m 0 c).A w = V m c (Pipeline.arrRef spec0 w) := by dsimp only [dats]

/-- What each input's staging buffer holds when the body starts. -/
theorem found0 (c : Dev nD) (t : Fin cfg0.N) (d) : (dats m 0 c).before 0 t d = iblk m c 0 t :=
  before0_0_of m (dats m 0 c) (A_eq m c 0) (fun _ => by dsimp only [dats]) t d
theorem found1 (c : Dev nD) (t : Fin cfg0.N) (d) : (dats m 0 c).before 1 t d = iblk m c 1 t :=
  before0_1_of m (dats m 0 c) (A_eq m c 1) (fun _ => by dsimp only [dats]) t d
theorem found2 (c : Dev nD) (t : Fin cfg0.N) (d) : (dats m 0 c).before 2 t d = iblk m c 2 t :=
  before0_2_of m (dats m 0 c) (A_eq m c 2) (fun _ => by dsimp only [dats]) t d
theorem found3 (c : Dev nD) (t : Fin cfg0.N) (d) : (dats m 0 c).before 3 t d = iblk m c 3 t :=
  before0_3_of m (dats m 0 c) (A_eq m c 3) (fun _ => by dsimp only [dats]) t d
theorem found4 (c : Dev nD) (t : Fin cfg0.N) (d) : (dats m 0 c).before 4 t d = iblk m c 4 t :=
  before0_4_of m (dats m 0 c) (A_eq m c 4) (fun _ => by dsimp only [dats]) t d
theorem found5 (c : Dev nD) (t : Fin cfg0.N) (d) : (dats m 0 c).before 5 t d = iblk m c 5 t :=
  before0_5_of m (dats m 0 c) (A_eq m c 5) (fun _ => by dsimp only [dats]) t d
theorem found6 (c : Dev nD) (t : Fin cfg0.N) (d) : (dats m 0 c).before 6 t d = iblk m c 6 t :=
  before0_6_of m (dats m 0 c) (A_eq m c 6) (fun _ => by dsimp only [dats]) t d

theorem coords_val : ∀ t : Fin cfg0.N, (grid0.coords t 0).val = t.val := by decide

theorem last_cond : ∀ t : Fin cfg0.N, t.val = 5 → k0_cond1 (grid0.coords t) = 1#1 := by decide

theorem const2 (c : Dev nD) (t : Fin cfg0.N) : iblk m c 2 t = wLeaf m c := rfl
theorem const3 (c : Dev nD) (t : Fin cfg0.N) : iblk m c 3 t = wDeep m c := rfl
theorem const4 (c : Dev nD) (t : Fin cfg0.N) : iblk m c 4 t = wSum m c := rfl
theorem const5 (c : Dev nD) (t : Fin cfg0.N) : iblk m c 5 t = bMerge m c := rfl
theorem const6 (c : Dev nD) (t : Fin cfg0.N) : iblk m c 6 t = bSum m c := rfl

/-- A block extends the carried rows by its 512. -/
theorem carried_step (c : Dev nD) (t : Fin cfg0.N) (l : Pair F 7168 128) (s : Pair F 3072 128) (hs : s.Has 0 (512 * t.val) (carried m c)) :
    (blockS (bMerge m c) (wDeep m c) (512 * t.val)
      (blockL (wLeaf m c) (bMerge m c) (wDeep m c) (iblk m c 0 t) (iblk m c 1 t) l) s).Has 0 (512 * (t.val + 1)) (carried m c) := by
  have ht : t.val < 6 := lt_of_lt_of_eq t.isLt N_0
  have e : pt t.val = t := Fin.ext (Nat.mod_eq_of_lt ht)
  have h := blockS_has (bMerge m c) (wDeep m c) (512 * t.val) _ s _
    (blockL_has (wLeaf m c) (bMerge m c) (wDeep m c) (iblk m c 0 t) (iblk m c 1 t) l)
  intro y hlo hhi
  by_cases hy : 512 * t.val ≤ (y 0).val
  · have h' := h.1 y hy (by omega)
    have e1 : ((y 0).val - 0) / 512 = t.val := by omega
    have e2 : ((y 0).val - 0) % 512 = (y 0).val - 512 * t.val := by omega
    unfold carried carriedOf
    dsimp only
    rw [e1, e2, e]
    exact h'
  · have h' := h.2 y (by omega)
    have h0 := hs y hlo (by omega)
    exact ⟨h'.1.trans h0.1, h'.2.trans h0.2⟩

/-- From all the carried rows the last point computes the result. -/
theorem last_result (c : Dev nD) (l : Pair F 7168 128) (s : Pair F 3072 128) (hs : s.Has 0 3072 (carried m c)) :
    finishOut (wDeep m c) (wSum m c) (bMerge m c) (bSum m c)
      ((finishL (bMerge m c) (wDeep m c) s l).take (fits (n := 384) 2304 (by decide))) = result m c := by
  rw [(finishL_has (bMerge m c) (wDeep m c) s l (carried m c) hs).take (fits (n := 384) 2304 (by decide)) rfl (by decide) (by decide)]
  rfl
/-- What the body is handed at a point, and what it gives back. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ Y, ⌜((dats m 0 c).toRRel marks (leaves7 m c)).Finds 7 t Y⌝ ∗ owns (c : Thread nD τ) (st0_7 t) fullShare Y))
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ (∃ X, ⌜leaves7 m c 7 t X⌝ ∗ owns (c : Thread nD τ) (st0_7 t) fullShare X))

/-- The body at a point keeps what is carried. -/
theorem sound_body (c : Dev nD) (t : Fin cfg0.N) :
    bodyPre m c t ⊢ wp frame (wpE (defs₀ (F := F)) Variants.none (c : Thread nD τ) none) Set.univ (bodyAt0 t) (fun _ => bodyPost m c t) := by
  unfold bodyPre bodyPost bodyAt0
  simp only [found0, found1, found2, found3, found4, found5, found6]
  unfold Dat.owesAt Pipeline.owesWithin
  rw [show (dats m 0 c).owed t.castSucc = 0 from rfl, show (dats m 0 c).owed t.succ = 0 from rfl,
    show (dats m 0 c).Φ t.castSucc = carrying m c (512 * t.val) from rfl,
    show (dats m 0 c).Φ t.succ = carrying m c (512 * (t.val + 1)) from rfl]
  unfold carrying
  iintro ⟨⟨⟨%l, Hl⟩, ⟨%s, %hs, Hs⟩, Hr⟩, ⟨%W, %hW, HO⟩, ⟨%d0, H0⟩, ⟨%d1, H1⟩, ⟨%d2, H2⟩, ⟨%d3, H3⟩, ⟨%d4, H4⟩, ⟨%d5, H5⟩, ⟨%d6, H6⟩, ⟨%Y, %hY, H7⟩⟩
  rw [body_eq]
  iapply (body_wp c (st0_0 t) (st0_1 t) (st0_2 t) (st0_3 t) (st0_4 t) (st0_5 t) (st0_6 t) (st0_7 t)
    sc0 (Memref.isWhole_whole _) sc1 sc2 (Memref.isWhole_whole _) sc3 (iblk m c 0 t) (iblk m c 1 t)
    (wLeaf m c) (wDeep m c) (wSum m c) (bMerge m c) (bSum m c) Y l s (grid0.coords t) _) $$ [H0 H1 H2 H3 H4 H5 H6 H7 Hl Hs]
  · isplitl [H0]
    · iexact H0
    isplitl [H1]
    · iexact H1
    isplitl [H2]
    · iexact H2
    isplitl [H3]
    · iexact H3
    isplitl [H4]
    · iexact H4
    isplitl [H5]
    · iexact H5
    isplitl [H6]
    · iexact H6
    isplitl [H7]
    · iexact H7
    isplitl [Hl]
    · iexact Hl
    iexact Hs
  rw [coords_val t]
  iintro %O' %l' %hO H0 H1 H2 H3 H4 H5 H6 H7 Hl Hs
  have hs' := carried_step m c t l s hs
  isplitl [Hl Hs Hr]
  · isplitl [Hl]
    · iexists _
      iexact Hl
    isplitl [Hs]
    · iexists _
      isplitr
      · ipureintro
        exact hs'
      iexact Hs
    iexact Hr
  isplitl [HO]
  · iexists W
    isplitr
    · ipureintro
      exact fun _ _ => Or.inl trivial
    iexact HO
  isplitl [H0]
  · iexact H0
  isplitl [H1]
  · iexact H1
  isplitl [H2]
  · iexact H2
  isplitl [H3]
  · iexact H3
  isplitl [H4]
  · iexact H4
  isplitl [H5]
  · iexact H5
  isplitl [H6]
  · iexact H6
  iexists O'
  isplitr
  · ipureintro
    intro ht
    rw [hO (last_cond t ht)]
    rw [ht] at hs'
    exact (by rw [ht]; exact last_result m c _ _ hs')
  iexact H7

/-- The body table's row at a point. -/
theorem defs₀_row (t : Fin cfg0.N) : defs₀ (F := F) .tc cfg0.body (cfg0.bodyArgs t (cfg0.slots t)) = bodyAt0 t := by
  unfold defs₀; rw [Defs.onTc_tc]

theorem body_obligation (c : Dev nD) :
    BodyObligationRel (dats m 0 c) (defs₀ (F := F)) Variants.none () Set.univ marks (leaves7 m c) := fun t => by
  rw [bigSep_W0, bigSep_W0, defs₀_row]
  exact triple_restated (sound_body m c t) rfl .rfl fun _ => .rfl

/-- What the run starts from holds the data's first claim. -/
theorem enter (c : Dev nD) : Pipeline.ΦA spec0 c ⊢ ((dats m 0 c).Φ 0 : sProp 𝕄) := by
  show Pipeline.ΦA spec0 c ⊢ carrying m c 0
  unfold Pipeline.ΦA carrying ownP
  rw [scopedRest0_eq]
  simp only [owns_whole]
  iintro ⟨⟨⟨%f0, H0⟩, ⟨%f1, H1⟩, ⟨%f2, H2⟩, ⟨%f3, H3⟩⟩, Hr⟩
  isplitl [H0 H1]
  · iexists (⟨f0, f1⟩ : Pair F 7168 128)
    isplitl [H0]
    · iexact H0
    iexact H1
  isplitl [H2 H3]
  · iexists (⟨f2, f3⟩ : Pair F 3072 128)
    isplitr
    · ipureintro
      exact fun y hlo hhi => by omega
    isplitl [H2]
    · iexact H2
    iexact H3
  iexact Hr

/-- The data's last claim gives the buffers back. -/
theorem leave (c : Dev nD) : ((dats m 0 c).Φ (Fin.last cfg0.N) : sProp 𝕄) ⊢ Pipeline.ΦA spec0 c := by
  show carrying m c _ ⊢ Pipeline.ΦA spec0 c
  unfold Pipeline.ΦA carrying ownP
  rw [scopedRest0_eq]
  simp only [owns_whole]
  iintro ⟨⟨%l, H0, H1⟩, ⟨%s, -, H2, H3⟩, Hr⟩
  isplitl [H0 H1 H2 H3]
  · isplitl [H0]
    · iexists _
      iexact H0
    isplitl [H1]
    · iexists _
      iexact H1
    isplitl [H2]
    · iexists _
      iexact H2
    iexists _
    iexact H3
  iexact Hr

-- the launch theorem's implicit arguments are found by unifying its conclusion with this statement
set_option backward.isDefEq.respectTransparency.types false in
/-- Every run of the program ends, with the arrays as the data say and no semaphore raised. -/
theorem run_main :
    θ_run defs (onTc (τ := τ) (main (F := F))) (s₀ m ρ)
      (fun r => Pipeline.RDat.FramePost (cfgs 0) (fun c => (dats m 0 c).toRRel marks (leaves7 m c)) (V m) r ∧ r.2.sem = fun _ => 0) :=
  Pipeline.RDat.θ_run_frame_track (Q' := _) cfgs (0 : Fin 1) launch0 defs₀ Variants.none
    (fun c => (dats m 0 c).toRRel marks (leaves7 m c)) m ρ main
    (hbody := fun c => (body_obligation m c).toRRel) (hshare := fun c => (dats m 0 c).share_full fun _ => rfl)
    (howed := fun _ _ => rfl) (V := V m) (hmain := hmain m Variants.none) (hA := A_eq m)
    (hin := enter m) (hout := leave m)

theorem whole7 : (cfg0.win 7).WholeAt t0_5 := by decide +kernel

/-- Every run of the program ends with its arguments as they were, the result in place, and no semaphore raised. -/
theorem run_result [∀ e, Nonempty (Elt F e)] :
    θ_run defs (onTc (τ := τ) (main (F := F))) (s₀ m ρ)
      (fun r => (∀ c : Dev nD,
        r.2.mem ((c.tc : Thread nD τ).loc main_v27) = result m c
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5)
        ∧ r.2.mem ((c.tc : Thread nD τ).loc main_arg6) = m ((c.tc : Thread nD τ).loc main_arg6)
        ∧ r.2.mem ((c.tc : Thread nD τ).loc main_arg7) = m ((c.tc : Thread nD τ).loc main_arg7)
        ∧ r.2.mem ((c.tc : Thread nD τ).loc main_arg8) = m ((c.tc : Thread nD τ).loc main_arg8)
        ∧ r.2.mem ((c.tc : Thread nD τ).loc main_arg9) = m ((c.tc : Thread nD τ).loc main_arg9)) ∧ r.2.sem = fun _ => 0) :=
  (θ_run defs _ _).mono (fun r h => ⟨fun c => ⟨by
      obtain ⟨X, hX, hG⟩ := ((h.1 c).1 7).emb_eq_of_wholeAt whole7
      have hX' := (dats m 0 c).toRRel_leaves (fgt := marks) (Rl := leaves7 m c) (w := 7) rfl hX rfl
      subst hX'
      exact funext hG,
    ((h.1 c).2 main_arg0 (Pipeline.mem_restRefs_of main_arg0 (by decide) (by decide))).trans (V_main_arg0 m c),
    ((h.1 c).2 main_arg1 (Pipeline.mem_restRefs_of main_arg1 (by decide) (by decide))).trans (V_main_arg1 m c),
    ((h.1 c).2 main_arg2 (Pipeline.mem_restRefs_of main_arg2 (by decide) (by decide))).trans (V_main_arg2 m c),
    ((h.1 c).2 main_arg3 (Pipeline.mem_restRefs_of main_arg3 (by decide) (by decide))).trans (V_main_arg3 m c),
    ((h.1 c).2 main_arg4 (Pipeline.mem_restRefs_of main_arg4 (by decide) (by decide))).trans (V_main_arg4 m c),
    ((h.1 c).2 main_arg5 (Pipeline.mem_restRefs_of main_arg5 (by decide) (by decide))).trans (V_main_arg5 m c),
    ((h.1 c).2 main_arg6 (Pipeline.mem_restRefs_of main_arg6 (by decide) (by decide))).trans (V_main_arg6 m c),
    ((h.1 c).2 main_arg7 (Pipeline.mem_restRefs_of main_arg7 (by decide) (by decide))).trans (V_main_arg7 m c),
    ((h.1 c).2 main_arg8 (Pipeline.mem_restRefs_of main_arg8 (by decide) (by decide))).trans (V_main_arg8 m c),
    ((h.1 c).2 main_arg9 (Pipeline.mem_restRefs_of main_arg9 (by decide) (by decide))).trans (V_main_arg9 m c)⟩, h.2⟩) (run_main m ρ)

end Cert.KernelIdeal.Hand

end
-- ==== Proof.Operands.lean ====
/- What the launch finds in its operands: the host operations before it, composed. -/
module

public import proofs.«01_k».proof.Proof.Launch
public import Idealize.ShloMosaic.Lib.StableHlo.RunRead

@[expose] public section

noncomputable section

namespace Cert.KernelIdeal.Hand

open Cert.KernelIdeal Cert.KernelIdeal.Gen
open Idealize.ShloMosaic Idealize.ShloMosaic.TcCoe

variable {F : FTy → Type} [FloatOps F]

/-- The factor of each of the 640 columns: one half on the logistic gates, one on the tanh gate. -/
def factor : FVec F S640 .f32 :=
  concatenate S640 0 [⟨S256, broadcastInDim S256 ![] bcast_S_S256 (constant S_ .f32 0x3F000000#32)⟩,
    ⟨S128, broadcastInDim S128 ![] bcast_S_S128 (constant S_ .f32 0x3F800000#32)⟩,
    ⟨S256, broadcastInDim S256 ![] bcast_S_S256 (constant S_ .f32 0x3F000000#32)⟩] concatenates_S256_S128_S256_S640_d0

/-- A row of factors repeated on every row. -/
def everyRow (f : FVec F S640 .f32) : FVec F S256x640 .f32 :=
  broadcastInDim S256x640 ![0, 1] bcast_S1x640_S256x640_0_1 (broadcastInDim S1x640 ![1] bcast_S640_S1x640_1 f)

/-- The two weight matrices side by side. -/
def both (x : FVec F S256x384 .f32) (y : FVec F S256x256 .f32) : FVec F S256x640 .f32 :=
  concatenate S256x640 1 [⟨S256x384, x⟩, ⟨S256x256, y⟩] concatenates_S256x384_S256x256_S256x640_d1

/-- The weights of the first level. -/
def leafW (x : FVec F S256x384 .f32) (y : FVec F S256x256 .f32) : FVec F S256x640 .bf16 :=
  truncf .bf16 (mulf (both x y) (everyRow factor)) bitsLt_bf16_f32

/-- The weights of the other levels. -/
def deepW (x : FVec F S256x384 .f32) (y : FVec F S256x256 .f32) : FVec F S256x640 .bf16 :=
  truncf .bf16 (mulf (broadcastInDim S256x640 ![] bcast_S_S256x640 (constant S_ .f32 0x3F000000#32)) (mulf (both x y) (everyRow factor))) bitsLt_bf16_f32

/-- The weights of the last cell. -/
def sumW (x : FVec F S256x384 .f32) (y : FVec F S256x256 .f32) : FVec F S256x640 .bf16 :=
  truncf .bf16 (mulf (everyRow (mulf (broadcastInDim S640 ![] bcast_S_S640 (constant S_ .f32 0x3F000000#32)) factor)) (both x y)) bitsLt_bf16_f32

/-- Half of a forget bias, as a row. -/
def halfBias (x : FVec F S256 .f32) : FVec F S1x256 .f32 :=
  broadcastInDim S1x256 ![1] bcast_S256_S1x256_1 (mulf (broadcastInDim S256 ![] bcast_S_S256 (constant S_ .f32 0x3F000000#32)) x)

variable (m : (ℓ : Loc nD τ sig) → Buf (Elt F) ℓ) (c : Dev nD)

theorem V_v0 : V m c main_v0 = shapeCast S24576x256 (m ((c : Thread nD τ).loc main_arg0)) shapeCasts_S49152x128_S24576x256 := by
  unfold V; after_reads_simp; rfl

theorem V_v1 : V m c main_v1 = shapeCast S24576x256 (m ((c : Thread nD τ).loc main_arg1)) shapeCasts_S49152x128_S24576x256 := by
  unfold V; after_reads_simp; rfl

theorem V_v10 : V m c main_v10 = leafW (m ((c : Thread nD τ).loc main_arg2)) (m ((c : Thread nD τ).loc main_arg4)) := by
  unfold V; after_reads_simp; rfl

theorem V_v13 : V m c main_v13 = deepW (m ((c : Thread nD τ).loc main_arg2)) (m ((c : Thread nD τ).loc main_arg4)) := by
  unfold V; after_reads_simp; rfl

theorem V_v20 : V m c main_v20 = sumW (m ((c : Thread nD τ).loc main_arg6)) (m ((c : Thread nD τ).loc main_arg8)) := by
  unfold V; after_reads_simp; rfl

theorem V_v23 : V m c main_v23 = halfBias (m ((c : Thread nD τ).loc main_arg5)) := by
  unfold V; after_reads_simp; rfl

theorem V_v26 : V m c main_v26 = halfBias (m ((c : Thread nD τ).loc main_arg9)) := by
  unfold V; after_reads_simp; rfl

/-- The windows on the weights and biases are the whole arrays. -/
theorem wLeaf_eq : wLeaf m c = leafW (m ((c : Thread nD τ).loc main_arg2)) (m ((c : Thread nD τ).loc main_arg4)) :=
  (Memref.read_access_unit_zero (Elt F) main_v10 (show (fun a => (win0_2.index t0_0) a * main_v10.ty.shape.size a) = fun _ => 0 from
    funext fun a => by fin_cases a <;> decide) (fun a => by fin_cases a <;> decide) (V m c main_v10)).trans (V_v10 m c)

theorem wDeep_eq : wDeep m c = deepW (m ((c : Thread nD τ).loc main_arg2)) (m ((c : Thread nD τ).loc main_arg4)) :=
  (Memref.read_access_unit_zero (Elt F) main_v13 (show (fun a => (win0_3.index t0_0) a * main_v13.ty.shape.size a) = fun _ => 0 from
    funext fun a => by fin_cases a <;> decide) (fun a => by fin_cases a <;> decide) (V m c main_v13)).trans (V_v13 m c)

theorem wSum_eq : wSum m c = sumW (m ((c : Thread nD τ).loc main_arg6)) (m ((c : Thread nD τ).loc main_arg8)) :=
  (Memref.read_access_unit_zero (Elt F) main_v20 (show (fun a => (win0_4.index t0_0) a * main_v20.ty.shape.size a) = fun _ => 0 from
    funext fun a => by fin_cases a <;> decide) (fun a => by fin_cases a <;> decide) (V m c main_v20)).trans (V_v20 m c)

theorem bMerge_eq : bMerge m c = halfBias (m ((c : Thread nD τ).loc main_arg5)) :=
  (Memref.read_access_unit_zero (Elt F) main_v23 (show (fun a => (win0_5.index t0_0) a * main_v23.ty.shape.size a) = fun _ => 0 from
    funext fun a => by fin_cases a <;> decide) (fun a => by fin_cases a <;> decide) (V m c main_v23)).trans (V_v23 m c)

theorem bSum_eq : bSum m c = halfBias (m ((c : Thread nD τ).loc main_arg9)) :=
  (Memref.read_access_unit_zero (Elt F) main_v26 (show (fun a => (win0_6.index t0_0) a * main_v26.ty.shape.size a) = fun _ => 0 from
    funext fun a => by fin_cases a <;> decide) (fun a => by fin_cases a <;> decide) (V m c main_v26)).trans (V_v26 m c)

/-- Block `t` of the leaves' hidden values starts at row `4096 t`. -/
theorem block0_eq (t : Fin cfg0.N) (r : Fin 4096) (k : Fin 256) (h : 4096 * t.val + r.val < 24576) :
    iblk m c 0 t (ix r k) = shapeCast S24576x256 (m ((c : Thread nD τ).loc main_arg0)) shapeCasts_S49152x128_S24576x256 (ix ⟨4096 * t.val + r.val, h⟩ k) := by
  have hi : win0_0.index t 0 = t.val ∧ win0_0.index t 1 = 0 := by
    rcases fin_N0 t with rfl | rfl | rfl | rfl | rfl | rfl <;> decide
  rw [← V_v0 m c]
  unfold iblk
  rw [View.read_apply]
  show V m c main_v0 _ = V m c main_v0 _
  refine congrArg (V m c main_v0) (funext fun a => Fin.ext ?_)
  match a with
  | ⟨0, _⟩ => show win0_0.index t 0 * 4096 + 1 * r.val = 4096 * t.val + r.val; rw [hi.1]; omega
  | ⟨1, _⟩ => show win0_0.index t 1 * 256 + 1 * k.val = k.val; rw [hi.2]; omega

/-- Block `t` of the leaves' cell values starts at row `4096 t`. -/
theorem block1_eq (t : Fin cfg0.N) (r : Fin 4096) (k : Fin 256) (h : 4096 * t.val + r.val < 24576) :
    iblk m c 1 t (ix r k) = shapeCast S24576x256 (m ((c : Thread nD τ).loc main_arg1)) shapeCasts_S49152x128_S24576x256 (ix ⟨4096 * t.val + r.val, h⟩ k) := by
  have hi : win0_1.index t 0 = t.val ∧ win0_1.index t 1 = 0 := by
    rcases fin_N0 t with rfl | rfl | rfl | rfl | rfl | rfl <;> decide
  rw [← V_v1 m c]
  unfold iblk
  rw [View.read_apply]
  show V m c main_v1 _ = V m c main_v1 _
  refine congrArg (V m c main_v1) (funext fun a => Fin.ext ?_)
  match a with
  | ⟨0, _⟩ => show win0_1.index t 0 * 4096 + 1 * r.val = 4096 * t.val + r.val; rw [hi.1]; omega
  | ⟨1, _⟩ => show win0_1.index t 1 * 256 + 1 * k.val = k.val; rw [hi.2]; omega

end Cert.KernelIdeal.Hand

end
-- ==== Proof.Tree.lean ====
/- The tree cell over the extended reals, one node at a time, and the levels of the tree. -/
module

public import Idealize.ShloMosaic.PureOps.Ideal
public import Idealize.ShloMosaic.Lib.IdealHost

@[expose] public section

noncomputable section

namespace Cert.Tree

open Idealize.ShloMosaic

/-- A node's state: 128 hidden values and 128 cell values. -/
structure Node where
  h : Fin 128 → EReal
  c : Fin 128 → EReal

/-- The cell's weights: of the input, output and update gates, of the two forget gates, and the forget bias. -/
structure Weights where
  iou : Fin 256 → Fin 384 → EReal
  fgt : Fin 256 → Fin 256 → EReal
  bf : Fin 256 → EReal

/-- Two rows of 128 side by side. -/
def pair (x y : Fin 128 → EReal) (k : Fin 256) : EReal :=
  if h : k.val < 128 then x ⟨k.val, h⟩ else y ⟨k.val - 128, by omega⟩

/-- Position `o + d`. -/
abbrev at_ {n : ℕ} (o : ℕ) (d : Fin 128) (h : o + 128 ≤ n := by decide) : Fin n := ⟨o + d.val, by omega⟩

theorem pair_left (x y : Fin 128 → EReal) (d : Fin 128) : pair x y (at_ 0 d) = x d := by
  unfold pair
  rw [dif_pos (by show 0 + d.val < 128; omega)]
  exact congrArg x (Fin.ext (Nat.zero_add _))

theorem pair_right (x y : Fin 128 → EReal) (d : Fin 128) : pair x y (at_ 128 d) = y d := by
  unfold pair
  rw [dif_neg (by show ¬ 128 + d.val < 128; omega)]
  exact congrArg y (Fin.ext (Nat.add_sub_cancel_left _ _))

section
variable (w : Weights) (a b : Node)

/-- The input, output and update gates before their activation. -/
def gate (j : Fin 384) : EReal := ∑ k : Fin 256, pair a.h b.h k * w.iou k j

/-- The forget gates before their activation. -/
def forget (j : Fin 256) : EReal := (∑ k : Fin 256, pair a.h b.h k * w.fgt k j) + w.bf j

/-- The parent's cell values. -/
def mergeC (d : Fin 128) : EReal :=
  Ideal.logistic (gate w a b (at_ 0 d)) * Ideal.tanh (gate w a b (at_ 256 d))
    + Ideal.logistic (forget w a b (at_ 0 d)) * a.c d + Ideal.logistic (forget w a b (at_ 128 d)) * b.c d

/-- The parent of two nodes. -/
def merge : Node := ⟨fun d => Ideal.logistic (gate w a b (at_ 128 d)) * Ideal.tanh (mergeC w a b d), mergeC w a b⟩
end

/-- The next level: neighbours merged. -/
def up (w : Weights) (R : ℕ → Node) : ℕ → Node := fun r => merge w (R (2 * r)) (R (2 * r + 1))

/-- Level `k` above the nodes `R`. -/
def level (w : Weights) (R : ℕ → Node) : ℕ → ℕ → Node
  | 0 => R
  | k + 1 => up w (level w R k)

/-- The levels over the nodes from `2 ^ k * s` on are those over all the nodes, from node `s` on. -/
theorem level_shift (w : Weights) (R : ℕ → Node) : ∀ (k s r : ℕ), level w (fun i => R (2 ^ k * s + i)) k r = level w R k (s + r)
  | 0, s, r => by rw [pow_zero, one_mul]; rfl
  | k + 1, s, r => by
    have e (i : ℕ) : 2 ^ (k + 1) * s + i = 2 ^ k * (2 * s) + i := by ring
    simp only [e]
    show merge w _ _ = merge w _ _
    rw [level_shift w R k (2 * s) (2 * r), level_shift w R k (2 * s) (2 * r + 1)]
    rw [show 2 * s + 2 * r = 2 * (s + r) by ring, show 2 * s + (2 * r + 1) = 2 * (s + r) + 1 by ring]

/-- A node whose cell values are real. -/
def Real' (a : Node) : Prop := ∀ d, ∃ x : ℝ, a.c d = x

/-- One half. -/
def half : EReal := ((1 / 2 : ℝ) : EReal)

theorem half_nonneg : 0 ≤ half := by
  unfold half
  exact_mod_cast (by norm_num : (0 : ℝ) ≤ 1 / 2)

theorem half_add (x y : EReal) : half * (x + y) = half * x + half * y :=
  EReal.left_distrib_of_nonneg_of_ne_top half_nonneg (EReal.coe_ne_top _) x y

theorem half_sum {ι : Type} (s : Finset ι) (f : ι → EReal) : ∑ i ∈ s, half * f i = half * ∑ i ∈ s, f i := by
  classical
  induction s using Finset.induction_on with
  | empty => simp
  | insert i s hi ih => rw [Finset.sum_insert hi, Finset.sum_insert hi, ih, half_add]

theorem two_half : (2 : EReal) * half = 1 := by
  rw [show (2 : EReal) = ((2 : ℝ) : EReal) from rfl, half, ← EReal.coe_mul]
  norm_num

/-- A hyperbolic tangent is real. -/
theorem tanh_real (x : EReal) : ∃ r : ℝ, Ideal.tanh x = r := by
  induction x with
  | bot => exact ⟨-1, rfl⟩
  | top => exact ⟨1, rfl⟩
  | coe x => exact ⟨_, rfl⟩

/-- The logistic function by the hyperbolic tangent of half its argument. -/
theorem logistic_eq (x : EReal) (r : ℝ) (h : Ideal.tanh (half * x) = r) : Ideal.logistic x = (((1 + r) / 2 : ℝ) : EReal) := by
  induction x with
  | bot =>
    rw [show half * ⊥ = ⊥ from EReal.coe_mul_bot_of_pos (by norm_num), Ideal.tanh_bot] at h
    have : r = -1 := EReal.coe_injective (h.symm.trans (by rw [EReal.coe_neg, EReal.coe_one]))
    rw [this, Ideal.logistic_bot]
    norm_num
  | top =>
    rw [show half * ⊤ = ⊤ from EReal.coe_mul_top_of_pos (by norm_num), Ideal.tanh_top] at h
    have : r = 1 := by exact_mod_cast h.symm
    rw [this, Ideal.logistic_top]
    norm_num
  | coe x =>
    rw [show half * (x : EReal) = ((1 / 2 * x : ℝ) : EReal) from (EReal.coe_mul _ _).symm, Ideal.tanh_coe] at h
    have hr : Real.tanh (1 / 2 * x) = r := by exact_mod_cast h
    rw [← hr, Ideal.logistic_coe]
    congr 1
    rw [Real.tanh_eq_sinh_div_cosh, Real.sinh_eq, Real.cosh_eq]
    have e : Real.exp (-x) = Real.exp (-(1 / 2 * x)) * Real.exp (-(1 / 2 * x)) := by rw [← Real.exp_add]; ring_nf
    have e' : Real.exp (1 / 2 * x) * Real.exp (-(1 / 2 * x)) = 1 := by rw [← Real.exp_add]; simp
    have p := Real.exp_pos (1 / 2 * x)
    have q := Real.exp_pos (-(1 / 2 * x))
    rw [e]
    generalize Real.exp (1 / 2 * x) = u at *
    generalize Real.exp (-(1 / 2 * x)) = v at *
    have hu : u = v⁻¹ := eq_inv_of_mul_eq_one_left e'
    subst hu
    field_simp
    ring

/-- The parent's cell values are real if the children's are. -/
theorem merge_real (w : Weights) (a b : Node) (ha : Real' a) (hb : Real' b) : Real' (merge w a b) := fun d => by
  obtain ⟨x, hx⟩ := ha d
  obtain ⟨y, hy⟩ := hb d
  obtain ⟨ti, hi⟩ := tanh_real (half * gate w a b (at_ 0 d))
  obtain ⟨tu, hu⟩ := tanh_real (gate w a b (at_ 256 d))
  obtain ⟨fl, hl⟩ := tanh_real (half * forget w a b (at_ 0 d))
  obtain ⟨fr, hr⟩ := tanh_real (half * forget w a b (at_ 128 d))
  refine ⟨(1 + ti) / 2 * tu + (1 + fl) / 2 * x + (1 + fr) / 2 * y, ?_⟩
  show mergeC w a b d = _
  unfold mergeC
  rw [hx, hy, hu, logistic_eq _ _ hi, logistic_eq _ _ hl, logistic_eq _ _ hr]
  push_cast
  rfl

/-- All the nodes of every level have real cell values if the leaves do. -/
theorem level_real (w : Weights) (R : ℕ → Node) (h : ∀ r, Real' (R r)) : ∀ k r, Real' (level w R k r)
  | 0, r => h r
  | k + 1, r => merge_real w _ _ (level_real w R h k _) (level_real w R h k _)

/-- The cell values by hyperbolic tangents of halved gates, everything halved at the end. -/
theorem mergeC_eq (w : Weights) (a b : Node) (ha : Real' a) (hb : Real' b) (d : Fin 128) :
    half * (Ideal.tanh (gate w a b (at_ 256 d)) + Ideal.tanh (half * gate w a b (at_ 0 d)) * Ideal.tanh (gate w a b (at_ 256 d))
      + Ideal.tanh (half * forget w a b (at_ 0 d)) * a.c d + a.c d + Ideal.tanh (half * forget w a b (at_ 128 d)) * b.c d + b.c d)
      = mergeC w a b d := by
  obtain ⟨x, hx⟩ := ha d
  obtain ⟨y, hy⟩ := hb d
  obtain ⟨ti, hi⟩ := tanh_real (half * gate w a b (at_ 0 d))
  obtain ⟨tu, hu⟩ := tanh_real (gate w a b (at_ 256 d))
  obtain ⟨fl, hl⟩ := tanh_real (half * forget w a b (at_ 0 d))
  obtain ⟨fr, hr⟩ := tanh_real (half * forget w a b (at_ 128 d))
  unfold mergeC half
  rw [logistic_eq _ _ hi, logistic_eq _ _ hl, logistic_eq _ _ hr]
  unfold half at hi hl hr
  rw [hx, hy, hu, hi, hl, hr]
  simp only [← EReal.coe_mul, ← EReal.coe_add]
  congr 1
  ring

/-- Twice the hidden values likewise. -/
theorem mergeH_eq (w : Weights) (a b : Node) (d : Fin 128) :
    Ideal.tanh (half * gate w a b (at_ 128 d)) * Ideal.tanh (mergeC w a b d) + Ideal.tanh (mergeC w a b d) = 2 * (merge w a b).h d := by
  obtain ⟨tt, ho⟩ := tanh_real (half * gate w a b (at_ 128 d))
  obtain ⟨tc, hc⟩ := tanh_real (mergeC w a b d)
  unfold merge
  dsimp only
  rw [logistic_eq _ _ ho, ho, hc, show (2 : EReal) = ((2 : ℝ) : EReal) from rfl]
  simp only [← EReal.coe_mul, ← EReal.coe_add]
  congr 1
  ring

end Cert.Tree

end
-- ==== Proof.CellValue.lean ====
/- The kernel's cell over the extended reals, read at a row. -/
module

public import proofs.«01_k».proof.Proof.Rows
public import proofs.«01_k».proof.Proof.Tree
public import Idealize.ShloMosaic.Lib.MatmulPlain
public import Idealize.ShloMosaic.Lib.Pipeline.Value

@[expose] public section

noncomputable section

namespace Cert.KernelIdeal.Hand

open Cert.KernelIdeal Cert.KernelIdeal.Gen
open Idealize.ShloMosaic
open Cert.Tree (Node Weights pair gate forget merge at_ half)

/-- The pattern of one half. -/
theorem half_bits : Ideal.ofBits .f32 0x3F000000#32 = half := by
  unfold half
  simp [Ideal.ofBits, Ideal.ieee, -EReal.coe_mul]
  norm_num

/-- The position of a row and a lane, as the library writes it. -/
theorem ix_eq {n m : ℕ} (r : Fin n) (d : Fin m) : ix r d = ValueIdx.ix2 r d := by
  funext a
  match a with
  | 0 => rfl
  | 1 => rfl

/-- A slice of columns read at a row and a column. -/
theorem slice_apply {n m p : ℕ} {α : Type} (o : ℕ) (x : (Sh n m).Idx → α) (h : (Sh n m).Slices ![0, o] (Sh n p)) (r : Fin n) (d : Fin p)
    (e : Fin m) (he : e.val = o + d.val) : extractStridedSlice (Sh n p) ![0, o] x h (ix r d) = x (ix r e) :=
  extractStridedSlice_apply _ x h _ _ fun a => by
    match a with
    | 0 => exact (Nat.zero_add _).symm
    | 1 => exact he

section
variable {n : ℕ} (hf : CellFacts n) (W : FVec Ideal (Sh 256 640) .bf16) (b : FVec Ideal (Sh n 256) .f32)
  (X : FVec Ideal (Sh n 256) .bf16) (C : FVec Ideal (Sh n 256) .f32) (r : Fin n)

/-- A gate before its activation. -/
theorem cellZ_apply (j : Fin 640) : cellZ hf W X (ix r j) = ∑ k : Fin 256, X (ix r k) * W (ix k j) := by
  have e : constant (F := Ideal) (Sh n 640) .f32 0x00000000#32 (ValueIdx.ix2 r j) = 0 := by
    show Ideal.ofBits .f32 0x00000000#32 = 0
    simp [Ideal.ofBits, Ideal.ieee]
  simp only [ix_eq]
  have h := Ideal.matmul_plain_apply none X W (constant (Sh n 640) .f32 0x00000000#32) r j
  rw [e, zero_add] at h
  exact h

/-- The new cell values at a row, by the gates there. -/
theorem cellC_apply (d : Fin 128) : cellC hf W b X C (ix r d) =
    half * (Ideal.tanh (cellZ hf W X (ix r (at_ 256 d))) + Ideal.tanh (cellZ hf W X (ix r (at_ 0 d))) * Ideal.tanh (cellZ hf W X (ix r (at_ 256 d)))
      + Ideal.tanh (cellZ hf W X (ix r (at_ 384 d)) + b (ix r (at_ 0 d))) * C (ix r (at_ 0 d)) + C (ix r (at_ 0 d))
      + Ideal.tanh (cellZ hf W X (ix r (at_ 512 d)) + b (ix r (at_ 128 d))) * C (ix r (at_ 128 d)) + C (ix r (at_ 128 d))) := by
  have hT (o : ℕ) (h : (Sh n 384).Slices ![0, o] (Sh n 128)) (e : Fin 384) (he : e.val = o + d.val) (e' : Fin 640) (he' : e'.val = o + d.val) :
      extractStridedSlice (Sh n 128) ![0, o] (cellT hf W X) h (ix r d) = Ideal.tanh (cellZ hf W X (ix r e')) := by
    rw [slice_apply o _ h r d e he]
    show Ideal.tanh (extractStridedSlice (Sh n 384) ![0, 0] (cellZ hf W X) hf.iou (ix r e)) = _
    rw [slice_apply 0 _ hf.iou r e e' (by omega)]
  have hG (o : ℕ) (h : (Sh n 256).Slices ![0, o] (Sh n 128)) (e : Fin 256) (he : e.val = o + d.val) (e' : Fin 640)
      (he' : e'.val = 384 + o + d.val) : extractStridedSlice (Sh n 128) ![0, o] (cellG hf W b X C) h (ix r d) =
      Ideal.tanh (cellZ hf W X (ix r e') + b (ix r e)) * C (ix r e) := by
    rw [slice_apply o _ h r d e he]
    show Ideal.tanh (extractStridedSlice (Sh n 256) ![0, 384] (cellZ hf W X) hf.fgt (ix r e) + b (ix r e)) * C (ix r e) = _
    rw [slice_apply 384 _ hf.fgt r e e' (by omega)]
  rw [← hT 0 hf.i0 (at_ 0 d) rfl (at_ 0 d) rfl, ← hT 256 hf.u0 (at_ 256 d) rfl (at_ 256 d) rfl,
    ← hG 0 hf.fl (at_ 0 d) rfl (at_ 384 d) rfl, ← hG 128 hf.fr (at_ 128 d) rfl (at_ 512 d) rfl,
    ← slice_apply 0 C hf.fl r d (at_ 0 d) rfl, ← slice_apply 128 C hf.fr r d (at_ 128 d) rfl, ← half_bits]
  rfl

/-- Twice the new hidden values at a row. -/
theorem cellH_apply (d : Fin 128) : cellH hf W b X C (ix r d) =
    Ideal.tanh (cellZ hf W X (ix r (at_ 128 d))) * Ideal.tanh (cellC hf W b X C (ix r d)) + Ideal.tanh (cellC hf W b X C (ix r d)) := by
  have hT : extractStridedSlice (Sh n 128) ![0, 128] (cellT hf W X) hf.o0 (ix r d) = Ideal.tanh (cellZ hf W X (ix r (at_ 128 d))) := by
    rw [slice_apply 128 _ hf.o0 r d (at_ 128 d) rfl]
    show Ideal.tanh (extractStridedSlice (Sh n 384) ![0, 0] (cellZ hf W X) hf.iou (ix r (at_ 128 d))) = _
    rw [slice_apply 0 _ hf.iou r _ (at_ 128 d) (by show 128 + d.val = 0 + (128 + d.val); omega)]
  rw [← hT]
  rfl
end

/-- The matrix `W` is the weights `w` with the scale of the hidden values and of the gates worked in: it takes `x`
    for a hidden value held as `s * x`, and the gates that are halved come out halved. -/
structure Scaled (W : FVec Ideal (Sh 256 640) .bf16) (s : EReal) (w : Weights) : Prop where
  io (x : EReal) (k j : Fin 256) : s * x * W (ix k ⟨j.val, by omega⟩) = half * (x * w.iou k ⟨j.val, by omega⟩)
  u (x : EReal) (k : Fin 256) (d : Fin 128) : s * x * W (ix k (at_ 256 d)) = x * w.iou k (at_ 256 d)
  f (x : EReal) (k j : Fin 256) : s * x * W (ix k ⟨384 + j.val, by omega⟩) = half * (x * w.fgt k j)

section
variable {n : ℕ} (hf : CellFacts n) (W : FVec Ideal (Sh 256 640) .bf16) (b : FVec Ideal (Sh n 256) .f32)
  (X : FVec Ideal (Sh n 256) .bf16) (C : FVec Ideal (Sh n 256) .f32) (r : Fin n)

/-- On a row that holds two children, the hidden values scaled by `s`, the cell computes their parent:
    twice its hidden values, and its cell values. -/
theorem cell_merge (s : EReal) (w : Weights) (hW : Scaled W s w) (hb : ∀ j : Fin 256, b (ix r j) = half * w.bf j) (l q : Node)
    (hl : Cert.Tree.Real' l) (hq : Cert.Tree.Real' q) (hX : ∀ k, X (ix r k) = s * pair l.h q.h k) (hC : ∀ k, C (ix r k) = pair l.c q.c k)
    (d : Fin 128) : cellH hf W b X C (ix r d) = 2 * (merge w l q).h d ∧ cellC hf W b X C (ix r d) = (merge w l q).c d := by
  have zio (j : Fin 256) : cellZ hf W X (ix r ⟨j.val, by omega⟩) = half * gate w l q ⟨j.val, by omega⟩ := by
    rw [cellZ_apply]
    simp only [hX, hW.io, Cert.Tree.half_sum]
    rfl
  have zu : cellZ hf W X (ix r (at_ 256 d)) = gate w l q (at_ 256 d) := by
    rw [cellZ_apply]
    simp only [hX, hW.u]
    rfl
  have zf (j : Fin 256) : cellZ hf W X (ix r ⟨384 + j.val, by omega⟩) + b (ix r j) = half * forget w l q j := by
    rw [cellZ_apply, hb]
    simp only [hX, hW.f, Cert.Tree.half_sum]
    rw [← Cert.Tree.half_add]
    rfl
  have zfl : cellZ hf W X (ix r (at_ 384 d)) + b (ix r (at_ 0 d)) = half * forget w l q (at_ 0 d) := by
    have e : (at_ 384 d : Fin 640) = ⟨384 + (at_ (n := 256) 0 d).val, by omega⟩ :=
      Fin.ext (by show 384 + d.val = 384 + (0 + d.val); omega)
    rw [e]
    exact zf _
  have zfr : cellZ hf W X (ix r (at_ 512 d)) + b (ix r (at_ 128 d)) = half * forget w l q (at_ 128 d) := by
    have e : (at_ 512 d : Fin 640) = ⟨384 + (at_ (n := 256) 128 d).val, by omega⟩ :=
      Fin.ext (by show 512 + d.val = 384 + (128 + d.val); omega)
    rw [e]
    exact zf _
  have hc : cellC hf W b X C (ix r d) = Cert.Tree.mergeC w l q d := by
    rw [cellC_apply, zfl, zfr, zu, zio (at_ 0 d), hC, hC, Cert.Tree.pair_left, Cert.Tree.pair_right]
    exact Cert.Tree.mergeC_eq w l q hl hq d
  refine ⟨?_, hc⟩
  rw [cellH_apply, hc, zio (at_ 128 d)]
  exact Cert.Tree.mergeH_eq w l q d
end
end Cert.KernelIdeal.Hand

end
-- ==== Proof.RowValue.lean ====
/- The kernel's rows over the extended reals are the nodes of the tree, level by level. -/
module

public import proofs.«01_k».proof.Proof.CellValue
public import Idealize.ShloMosaic.Lib.Pointwise.Reshape

@[expose] public section

noncomputable section

namespace Cert.KernelIdeal.Hand

open Cert.KernelIdeal Cert.KernelIdeal.Gen
open Idealize.ShloMosaic
open Cert.Tree (Node Weights pair merge up at_ half)

/-- Two matrices side by side, read at a row and a column. -/
theorem cat_apply {n p q m : ℕ} {α : Type} (x : (Sh n p).Idx → α) (y : (Sh n q).Idx → α)
    (h : Shape.Concatenates [Sh n p, Sh n q] (Sh n m) 1) (r : Fin n) (k : Fin m) :
    (∀ e : Fin p, e.val = k.val → concatenate (Sh n m) 1 [⟨Sh n p, x⟩, ⟨Sh n q, y⟩] h (ix r k) = x (ix r e)) ∧
      ∀ e : Fin q, e.val + p = k.val → concatenate (Sh n m) 1 [⟨Sh n p, x⟩, ⟨Sh n q, y⟩] h (ix r k) = y (ix r e) := by
  refine ⟨fun e he => ?_, fun e he => ?_⟩
  · refine concatenate_pair_apply_left 1 x y h (ix r k) rfl (ix r e) fun b => ?_
    match b with
    | 0 => rfl
    | 1 => exact he
  · refine concatenate_pair_apply_right 1 x y h (ix r k) rfl rfl (ix r e) (fun b hb => ?_) he
    match b with
    | 0 => rfl
    | 1 => exact absurd rfl hb

/-- Two rows of 128 extended reals side by side. -/
theorem cat_pair {n : ℕ} (x y : (Sh n 128).Idx → EReal) (h : Shape.Concatenates [Sh n 128, Sh n 128] (Sh n 256) 1) (r : Fin n) (k : Fin 256) :
    concatenate (Sh n 256) 1 [⟨Sh n 128, x⟩, ⟨Sh n 128, y⟩] h (ix r k) = pair (fun d => x (ix r d)) (fun d => y (ix r d)) k := by
  unfold pair
  by_cases hk : k.val < 128
  · rw [dif_pos hk]
    exact (cat_apply x y h r k).1 ⟨k.val, hk⟩ rfl
  · rw [dif_neg hk]
    exact (cat_apply x y h r k).2 ⟨k.val - 128, by omega⟩ (by show k.val - 128 + 128 = k.val; omega)

/-- Neighbouring rows put side by side. -/
theorem neighbours {n : ℕ} (x : (Sh (2 * n) 128).Idx → EReal) (h : (Sh (2 * n) 128).ShapeCasts (Sh n 256)) (r : Fin n) (k : Fin 256) :
    shapeCast (Sh n 256) x h (ix r k) =
      pair (fun d => x (ix ⟨2 * r.val, by omega⟩ d)) (fun d => x (ix ⟨2 * r.val + 1, by omega⟩ d)) k := by
  unfold pair
  by_cases hk : k.val < 128
  · rw [dif_pos hk]
    refine shapeCast_apply x h _ _ ?_
    rw [rowMajor_val2 _ 128 rfl, rowMajor_val2 _ 256 rfl]
    show 2 * r.val * 128 + k.val = r.val * 256 + k.val
    omega
  · rw [dif_neg hk]
    refine shapeCast_apply x h _ _ ?_
    rw [rowMajor_val2 _ 128 rfl, rowMajor_val2 _ 256 rfl]
    show (2 * r.val + 1) * 128 + (k.val - 128) = r.val * 256 + k.val
    omega

/-- The bias repeated on every row. -/
theorem bias_apply {n : ℕ} (b : (Sh 1 256).Idx → EReal) (hb : (Sh 1 256).Broadcasts (Sh n 256)) (r : Fin n) (j : Fin 256) :
    broadcastTo (Sh n 256) b hb (ix r j) = b (ix 0 j) :=
  broadcastTo_apply b hb _ _ fun a => by
    match a with
    | 0 => rfl
    | 1 => rfl

/-- Scaling two rows side by side. -/
theorem pair_scale (s : EReal) (x y : Fin 128 → EReal) (k : Fin 256) : pair (fun d => s * x d) (fun d => s * y d) k = s * pair x y k := by
  unfold pair
  split <;> rfl

/-- A row of a buffer holds a node: twice its hidden values, and its cell values. -/
def Holds {n : ℕ} (h : FVec Ideal (Sh n 128) .bf16) (c : FVec Ideal (Sh n 128) .f32) (r : Fin n) (N : Node) : Prop :=
  ∀ d, h (ix r d) = 2 * N.h d ∧ c (ix r d) = N.c d

theorem Holds.h_eq {n : ℕ} {h : FVec Ideal (Sh n 128) .bf16} {c : FVec Ideal (Sh n 128) .f32} {r : Fin n} {N : Node} (H : Holds h c r N) :
    (fun d => h (ix r d)) = fun d => 2 * N.h d := funext fun d => (H d).1

theorem Holds.c_eq {n : ℕ} {h : FVec Ideal (Sh n 128) .bf16} {c : FVec Ideal (Sh n 128) .f32} {r : Fin n} {N : Node} (H : Holds h c r N) :
    (fun d => c (ix r d)) = N.c := funext fun d => (H d).2

section
variable (W : FVec Ideal (Sh 256 640) .bf16) (b : FVec Ideal (Sh 1 256) .f32) (w : Weights) (hW : Scaled W 2 w)
  (hb : ∀ j : Fin 256, b (ix 0 j) = half * w.bf j)
include hW hb

/-- The cell on neighbouring rows that hold nodes computes their parent. -/
theorem parent {n : ℕ} (hf : CellFacts n) (hbr : (Sh 1 256).Broadcasts (Sh n 256)) (hi : (Sh (2 * n) 128).ShapeCasts (Sh n 256))
    (h : FVec Ideal (Sh (2 * n) 128) .bf16) (c : FVec Ideal (Sh (2 * n) 128) .f32) (r : Fin n) (l q : Node)
    (hl : Cert.Tree.Real' l) (hq : Cert.Tree.Real' q) (Hl : Holds h c ⟨2 * r.val, by omega⟩ l) (Hq : Holds h c ⟨2 * r.val + 1, by omega⟩ q) :
    Holds (cellH hf W (broadcastTo (Sh n 256) b hbr) (shapeCast (Sh n 256) h hi) (shapeCast (Sh n 256) c hi))
      (cellC hf W (broadcastTo (Sh n 256) b hbr) (shapeCast (Sh n 256) h hi) (shapeCast (Sh n 256) c hi)) r (merge w l q) :=
  cell_merge hf W _ _ _ r 2 w hW (fun j => (bias_apply b hbr r j).trans (hb j)) l q hl hq
    (fun k => by rw [neighbours, Hl.h_eq, Hq.h_eq, pair_scale]) (fun k => by rw [neighbours, Hl.c_eq, Hq.c_eq])

/-- The cell on two single rows side by side that hold nodes computes their parent. -/
theorem parent_side (h h' : FVec Ideal (Sh 1 128) .bf16) (c c' : FVec Ideal (Sh 1 128) .f32) (l q : Node)
    (hl : Cert.Tree.Real' l) (hq : Cert.Tree.Real' q) (Hl : Holds h c 0 l) (Hq : Holds h' c' 0 q) :
    Holds (cellH facts1 W b (side h h') (side c c')) (cellC facts1 W b (side h h') (side c c')) 0 (merge w l q) :=
  cell_merge facts1 W _ _ _ 0 2 w hW hb l q hl hq
    (fun k => by unfold side; rw [cat_pair, Hl.h_eq, Hq.h_eq, pair_scale]) (fun k => by unfold side; rw [cat_pair, Hl.c_eq, Hq.c_eq])
end

/-- The first `n` rows are the nodes `N`. -/
def Rows.Are (R : Rows Ideal) (n : ℕ) (N : ℕ → Node) : Prop := ∀ r < n, ∀ d, R.h r d = 2 * (N r).h d ∧ R.c r d = (N r).c d

/-- All the rows of a buffer are the nodes `N`. -/
def All {n : ℕ} (h : FVec Ideal (Sh n 128) .bf16) (c : FVec Ideal (Sh n 128) .f32) (N : ℕ → Node) : Prop := ∀ r : Fin n, Holds h c r (N r.val)

theorem Rows.Are.take {R : Rows Ideal} {m : ℕ} {N : ℕ → Node} (H : R.Are m N) (n o : ℕ) (r : Fin n) (ho : o + r.val < m) :
    Holds (R.take n o).h (R.take n o).c r (N (o + r.val)) := fun d => H (o + r.val) ho d

section
variable (W : FVec Ideal (Sh 256 640) .bf16) (b : FVec Ideal (Sh 1 256) .f32) (w : Weights) (hW : Scaled W 2 w)
  (hb : ∀ j : Fin 256, b (ix 0 j) = half * w.bf j) (N : ℕ → Node) (hN : ∀ r, Cert.Tree.Real' (N r))
include hW hb hN

/-- The parents of rows that are nodes are the next level's nodes. -/
theorem next_are {n : ℕ} (hf : CellFacts n) (hbr : (Sh 1 256).Broadcasts (Sh n 256)) (hs : (Sh n 128).ShapeCasts (Sh n 128))
    (hi : (Sh (2 * n) 128).ShapeCasts (Sh n 256)) (hn : 0 < n) (R : Rows Ideal) (m : ℕ) (H : R.Are (2 * m) N) :
    (next W b hf hbr hs hi hn R).Are m (up w N) := fun r hr d => by
  have hdm := Nat.div_add_mod r n
  have hlt := Nat.mod_lt r hn
  have e : 2 * n * (r / n) + 2 * (r % n) = 2 * r := by rw [mul_assoc, ← mul_add, hdm]
  have H0 := H.take (2 * n) (2 * n * (r / n)) ⟨2 * (r % n), by omega⟩ (by show 2 * n * (r / n) + 2 * (r % n) < _; omega)
  have H1 := H.take (2 * n) (2 * n * (r / n)) ⟨2 * (r % n) + 1, by omega⟩ (by show 2 * n * (r / n) + (2 * (r % n) + 1) < _; omega)
  rw [show 2 * n * (r / n) + (⟨2 * (r % n), by omega⟩ : Fin (2 * n)).val = 2 * r from e] at H0
  rw [show 2 * n * (r / n) + (⟨2 * (r % n) + 1, by omega⟩ : Fin (2 * n)).val = 2 * r + 1 by
    show 2 * n * (r / n) + (2 * (r % n) + 1) = 2 * r + 1; omega] at H1
  have h := parent W b w hW hb hf hbr hi _ _ ⟨r % n, hlt⟩ _ _ (hN _) (hN _) H0 H1 d
  unfold next chunkOut outH outC
  dsimp only
  rw [shapeCast_self, shapeCast_self]
  exact h

/-- A level in registers. -/
theorem reg_all {n : ℕ} (hf : CellFacts n) (hbr : (Sh 1 256).Broadcasts (Sh n 256)) (hi : (Sh (2 * n) 128).ShapeCasts (Sh n 256))
    (h : FVec Ideal (Sh (2 * n) 128) .bf16) (c : FVec Ideal (Sh (2 * n) 128) .f32) (H : All h c N) :
    All (regH hf W b hbr hi h c) (regC hf W b hbr hi h c) (up w N) := fun r =>
  parent W b w hW hb hf hbr hi h c r _ _ (hN _) (hN _) (H _) (H _)
end

/-- The first level's rows, from leaves scaled by one. -/
theorem firstRows_are (W : FVec Ideal (Sh 256 640) .bf16) (b : FVec Ideal (Sh 1 256) .f32) (w : Weights) (hW : Scaled W 1 w)
    (hb : ∀ j : Fin 256, b (ix 0 j) = half * w.bf j) (N : ℕ → Node) (hN : ∀ r, Cert.Tree.Real' (N r)) (X Y : (Sh 4096 256).Idx → Elt Ideal .f32)
    (hX : ∀ r k, X (ix r k) = pair (N (2 * r.val)).h (N (2 * r.val + 1)).h k)
    (hY : ∀ r k, Y (ix r k) = pair (N (2 * r.val)).c (N (2 * r.val + 1)).c k) : (firstRows W b X Y).Are 4096 (up w N) := fun r hr d => by
  have hdm := Nat.div_add_mod r 256
  have he (k : Fin 256) : (rows (fits (n := 256) (256 * (r / 256)) (by omega : 256 * (r / 256) + 256 ≤ 4096))).emb
      (ix (⟨r % 256, Nat.mod_lt _ (by decide)⟩ : Fin 256) k) = ix (⟨r, hr⟩ : Fin 4096) k := by
    funext a
    apply Fin.ext
    rw [rows_emb]
    match a with
    | 0 => exact hdm
    | 1 => exact Nat.zero_add _
  unfold firstRows leafStep
  dsimp only
  rw [dif_pos (by omega)]
  unfold leafOut outH outC
  dsimp only
  rw [shapeCast_self, shapeCast_self, shapeCast_self, shapeCast_self]
  refine cell_merge facts256 W _ _ _ ⟨r % 256, _⟩ 1 w hW (fun j => (bias_apply b _ _ j).trans (hb j)) (N (2 * r)) (N (2 * r + 1))
    (hN _) (hN _) (fun k => ?_) (fun k => ?_) d
  · rw [one_mul]
    exact (congrArg X (he k)).trans (hX ⟨r, hr⟩ k)
  · exact (congrArg Y (he k)).trans (hY ⟨r, hr⟩ k)

section
variable (W Wd : FVec Ideal (Sh 256 640) .bf16) (b : FVec Ideal (Sh 1 256) .f32) (w : Weights) (hW : Scaled W 1 w) (hWd : Scaled Wd 2 w)
  (hb : ∀ j : Fin 256, b (ix 0 j) = half * w.bf j) (N : ℕ → Node) (hN : ∀ r, Cert.Tree.Real' (N r))
include hWd hb hN

include hW in
/-- A block's 512 rows are its level-four nodes. -/
theorem block_are (X Y : (Sh 4096 256).Idx → Elt Ideal .f32)
    (hX : ∀ r k, X (ix r k) = pair (N (2 * r.val)).h (N (2 * r.val + 1)).h k)
    (hY : ∀ r k, Y (ix r k) = pair (N (2 * r.val)).c (N (2 * r.val + 1)).c k) :
    (next256 Wd b (blockRows W b Wd X Y)).Are 512 (Cert.Tree.level w N 4) := by
  have h1 := firstRows_are W b w hW hb N hN X Y hX hY
  have h2 := next_are Wd b w hWd hb _ (Cert.Tree.level_real w N hN 1) facts256 (by decide) (by decide) (by decide) (by decide) _ 2048 h1
  have h3 := next_are Wd b w hWd hb _ (Cert.Tree.level_real w N hN 2) facts256 (by decide) (by decide) (by decide) (by decide) _ 1024 h2
  exact next_are Wd b w hWd hb _ (Cert.Tree.level_real w N hN 3) facts256 (by decide) (by decide) (by decide) (by decide) _ 512 h3

/-- The 384 rows loaded at the last point are the nodes three levels up. -/
theorem top_are (R : Rows Ideal) (H : R.Are 3072 N) : (topRows b Wd R).Are 384 (Cert.Tree.level w N 3) := by
  have h1 := next_are Wd b w hWd hb N hN facts256 (by decide) (by decide) (by decide) (by decide) R 1536 H
  have h2 := next_are Wd b w hWd hb _ (Cert.Tree.level_real w N hN 1) facts256 (by decide) (by decide) (by decide) (by decide) _ 768 h1
  have h3 := next_are Wd b w hWd hb _ (Cert.Tree.level_real w N hN 2) facts256 (by decide) (by decide) (by decide) (by decide) _ 384 h2
  have h3' := next_are Wd b w hWd hb _ (Cert.Tree.level_real w N hN 2) facts128 (by decide) (by decide) (by decide) (by decide) _ 384 h2
  intro r hr d
  unfold topRows
  dsimp only
  split
  · exact h3 r hr d
  · exact h3' r hr d

/-- The three rows left after the levels in registers are the nodes seven levels up. -/
theorem regs_all (h : FVec Ideal (Sh 384 128) .bf16) (c : FVec Ideal (Sh 384 128) .f32) (H : All h c N) :
    All (reg3H Wd b h c) (reg3C Wd b h c) (Cert.Tree.level w N 7) := by
  have R (k : ℕ) := Cert.Tree.level_real w N hN k
  have h1 := reg_all Wd b w hWd hb _ (R 0) facts192 (by decide) (by decide) h c H
  have h2 := reg_all Wd b w hWd hb _ (R 1) facts96 (by decide) (by decide) _ _ h1
  have h3 := reg_all Wd b w hWd hb _ (R 2) facts48 (by decide) (by decide) _ _ h2
  have h4 := reg_all Wd b w hWd hb _ (R 3) facts24 (by decide) (by decide) _ _ h3
  have h5 := reg_all Wd b w hWd hb _ (R 4) facts12 (by decide) (by decide) _ _ h4
  have h6 := reg_all Wd b w hWd hb _ (R 5) facts6 (by decide) (by decide) _ _ h5
  exact reg_all Wd b w hWd hb _ (R 6) facts3 (by decide) (by decide) _ _ h6
end

/-- One of three rows. -/
theorem rowOf_apply {e : FTy} (i : ℕ) (hi : (Sh 3 128).Slices ![i, 0] (Sh 1 128)) (x : FVec Ideal (Sh 3 128) e) (h : i < 3) (d : Fin 128) :
    rowOf i hi x (ix 0 d) = x (ix ⟨i, h⟩ d) :=
  extractStridedSlice_apply _ x hi _ _ fun a => by
    match a with
    | 0 => rfl
    | 1 => exact (Nat.zero_add _).symm

/-- The result: the final cell on the third node and the merged first two. -/
theorem final_apply (W Ws : FVec Ideal (Sh 256 640) .bf16) (b bs : FVec Ideal (Sh 1 256) .f32) (w ws : Weights) (hW : Scaled W 2 w)
    (hWs : Scaled Ws 2 ws) (hb : ∀ j : Fin 256, b (ix 0 j) = half * w.bf j) (hbs : ∀ j : Fin 256, bs (ix 0 j) = half * ws.bf j)
    (N : ℕ → Node) (hN : ∀ r, Cert.Tree.Real' (N r)) (h : FVec Ideal (Sh 3 128) .bf16) (c : FVec Ideal (Sh 3 128) .f32) (H : All h c N)
    (k : Fin 256) : final W b Ws bs h c (ix 0 k) = pair (merge ws (N 2) (up w N 0)).h (merge ws (N 2) (up w N 0)).c k := by
  have row (i : ℕ) (hi : (Sh 3 128).Slices ![i, 0] (Sh 1 128)) (hlt : i < 3) : Holds (rowOf i hi h) (rowOf i hi c) 0 (N i) := fun d => by
    rw [rowOf_apply i hi h hlt d, rowOf_apply i hi c hlt d]
    exact H ⟨i, hlt⟩ d
  have hm : Holds (mergeH W b h c) (mergeC W b h c) 0 (up w N 0) :=
    parent_side W b w hW hb _ _ _ _ (N 0) (N 1) (hN 0) (hN 1) (row 0 (by decide) (by decide)) (row 1 (by decide) (by decide))
  have hf := parent_side Ws bs ws hWs hbs _ _ _ _ (N 2) (up w N 0) (hN 2) (Cert.Tree.merge_real w _ _ (hN _) (hN _))
    (row 2 (by decide) (by decide)) hm
  unfold final side
  rw [cat_pair]
  congr 1
  · funext d
    show Ideal.ofBits .f32 0x3F000000#32 * cellH facts1 Ws bs _ _ (ix 0 d) = _
    rw [half_bits]
    refine (congrArg (half * ·) (hf d).1).trans ?_
    rw [← mul_assoc, mul_comm half 2, Cert.Tree.two_half, one_mul]
  · funext d
    exact (hf d).2

end Cert.KernelIdeal.Hand

end
-- ==== Proof.KernelValue.lean ====
/- The kernel's result over the extended reals: the state of the tree's root. -/
module

public import proofs.«01_k».proof.Proof.Operands
public import proofs.«01_k».proof.Proof.RowValue

@[expose] public section

noncomputable section

namespace Cert.KernelIdeal.Hand

open Cert.KernelIdeal Cert.KernelIdeal.Gen
open Idealize.ShloMosaic Idealize.ShloMosaic.TcCoe
open Cert.Tree (Node Weights pair merge up at_ half)

/-- An index of a vector. -/
def at1 {n : ℕ} (j : Fin n) : (⟨1, ![n]⟩ : Shape).Idx := fun a => match a with | 0 => j

/-- The cell's weights as the arrays give them. -/
def weights (x : FVec Ideal S256x384 .f32) (y : FVec Ideal S256x256 .f32) (b : FVec Ideal S256 .f32) : Weights :=
  ⟨fun k j => x (ix k j), fun k j => y (ix k j), fun j => b (at1 j)⟩

/-- The leaves as the arrays give them, and zeros beyond. -/
def leafAt (x y : FVec Ideal S49152x128 .f32) (r : ℕ) : Node :=
  if h : r < 49152 then ⟨fun d => x (ix ⟨r, h⟩ d), fun d => y (ix ⟨r, h⟩ d)⟩ else ⟨0, 0⟩

theorem leafAt_real (x y : FVec Ideal S49152x128 .f32) (hy : ∀ i, ∃ v : ℝ, y i = (v : EReal)) (r : ℕ) : Cert.Tree.Real' (leafAt x y r) := by
  intro d
  unfold leafAt
  split
  · exact hy _
  · exact ⟨0, rfl⟩

/-- The root of the tree: node 2 of level 14, and the merged nodes 0 and 1 of it, merged by the last cell's weights. -/
def root (w ws : Weights) (L : ℕ → Node) : Node := merge ws (Cert.Tree.level w L 14 2) (Cert.Tree.level w L 15 0)

/-- The factor of a column. -/
theorem factor_apply (j : Fin 640) :
    (factor (F := Ideal)) (at1 j) = if 256 ≤ j.val ∧ j.val < 384 then 1 else half := by
  unfold factor
  by_cases h1 : j.val < 256
  · rw [if_neg (by omega)]
    refine (concatenate_apply_piece (t := S640) 0 _ _ (at1 j) 0 (by decide) S256 _ rfl rfl 0 rfl
      (at1 ⟨j.val, h1⟩) (fun b hb => absurd (Subsingleton.elim _ _) hb) (Nat.zero_add _)).trans ?_
    exact half_bits
  by_cases h2 : j.val < 384
  · rw [if_pos (by omega)]
    refine (concatenate_apply_piece (t := S640) 0 _ _ (at1 j) 1 (by decide) S128 _ rfl rfl 256 rfl
      (at1 ⟨j.val - 256, by omega⟩) (fun b hb => absurd (Subsingleton.elim _ _) hb) (by show 256 + (j.val - 256) = j.val; omega)).trans ?_
    exact Ideal.ofBits_one_f32
  · rw [if_neg (by omega)]
    refine (concatenate_apply_piece (t := S640) 0 _ _ (at1 j) 2 (by decide) S256 _ rfl rfl 384 rfl
      (at1 ⟨j.val - 384, by omega⟩) (fun b hb => absurd (Subsingleton.elim _ _) hb) (by show 384 + (j.val - 384) = j.val; omega)).trans ?_
    exact half_bits

theorem everyRow_apply (f : FVec Ideal S640 .f32) (k : Fin 256) (j : Fin 640) : everyRow f (ix k j) = f (at1 j) := by
  unfold everyRow
  refine (broadcastInDim_apply _ _ _ (ix k j) (ix (0 : Fin 1) j) fun a => ?_).trans (broadcastInDim_apply _ _ _ (ix (0 : Fin 1) j) (at1 j) fun a => ?_)
  · match a with
    | 0 => rfl
    | 1 => rfl
  · match a with
    | 0 => rfl

section
variable (x : FVec Ideal S256x384 .f32) (y : FVec Ideal S256x256 .f32)

theorem both_left (k : Fin 256) (j : Fin 640) (e : Fin 384) (h : e.val = j.val) : both x y (ix k j) = x (ix k e) :=
  (cat_apply x y _ k j).1 e h

theorem both_right (k : Fin 256) (j : Fin 640) (e : Fin 256) (h : e.val + 384 = j.val) : both x y (ix k j) = y (ix k e) :=
  (cat_apply x y _ k j).2 e h

/-- A matrix that is the weights' columns times `s` and the columns' factor, `s` undone by the hidden values' scale. -/
theorem scaled (W : FVec Ideal (Sh 256 640) .bf16) (b : FVec Ideal S256 .f32) (s t : EReal) (hs : s * t = 1)
    (hW : ∀ k j, W (ix k j) = t * (both x y (ix k j) * factor (F := Ideal) (at1 j))) : Scaled W s (weights x y b) where
  io v k j := by
    rw [hW, factor_apply, if_neg (by show ¬(256 ≤ j.val ∧ _); omega), both_left x y k _ ⟨j.val, by omega⟩ rfl]
    show _ = half * (v * x (ix k ⟨j.val, _⟩))
    calc _ = s * t * (half * (v * x (ix k ⟨j.val, _⟩))) := by ac_rfl
      _ = _ := by rw [hs, one_mul]
  u v k d := by
    rw [hW, factor_apply, if_pos (by show 256 ≤ 256 + d.val ∧ 256 + d.val < 384; omega), both_left x y k _ (at_ 256 d) rfl]
    show _ = v * x (ix k (at_ 256 d))
    calc _ = s * t * (v * x (ix k (at_ 256 d))) := by rw [mul_one]; ac_rfl
      _ = _ := by rw [hs, one_mul]
  f v k j := by
    rw [hW, factor_apply, if_neg (by show ¬(256 ≤ 384 + j.val ∧ 384 + j.val < 384); omega),
      both_right x y k _ j (by show j.val + 384 = 384 + j.val; omega)]
    show _ = half * (v * y (ix k j))
    calc _ = s * t * (half * (v * y (ix k j))) := by ac_rfl
      _ = _ := by rw [hs, one_mul]

theorem leafW_scaled (b : FVec Ideal S256 .f32) : Scaled (leafW x y) 1 (weights x y b) :=
  scaled x y _ b 1 1 (one_mul 1) fun k j => by
    rw [one_mul, ← everyRow_apply factor k j]
    rfl

theorem deepW_scaled (b : FVec Ideal S256 .f32) : Scaled (deepW x y) 2 (weights x y b) :=
  scaled x y _ b 2 half Cert.Tree.two_half fun k j => by
    rw [← everyRow_apply factor k j, ← half_bits]
    rfl

theorem sumW_scaled (b : FVec Ideal S256 .f32) : Scaled (sumW x y) 2 (weights x y b) :=
  scaled x y _ b 2 half Cert.Tree.two_half fun k j => by
    show everyRow _ (ix k j) * both x y (ix k j) = _
    rw [everyRow_apply]
    show Ideal.ofBits .f32 0x3F000000#32 * factor (F := Ideal) (at1 j) * both x y (ix k j) = _
    rw [half_bits, mul_assoc, mul_comm (factor (F := Ideal) (at1 j))]
end

theorem halfBias_apply (x : FVec Ideal S256x384 .f32) (y : FVec Ideal S256x256 .f32) (b : FVec Ideal S256 .f32) (j : Fin 256) :
    halfBias b (ix 0 j) = half * (weights x y b).bf j := by
  unfold halfBias
  refine (broadcastInDim_apply _ _ _ (ix 0 j) (at1 j) fun a => ?_).trans ?_
  · match a with
    | 0 => rfl
  · rw [← half_bits]
    rfl

/-- A row of the leaves taken two by two. -/
theorem two_by_two (x y : FVec Ideal S49152x128 .f32) (o : ℕ) (r : Fin 4096) (h : o + r.val < 24576) (k : Fin 256) :
    shapeCast S24576x256 x shapeCasts_S49152x128_S24576x256 (ix ⟨o + r.val, h⟩ k) =
        pair (leafAt x y (2 * o + 2 * r.val)).h (leafAt x y (2 * o + (2 * r.val + 1))).h k ∧
      shapeCast S24576x256 y shapeCasts_S49152x128_S24576x256 (ix ⟨o + r.val, h⟩ k) =
        pair (leafAt x y (2 * o + 2 * r.val)).c (leafAt x y (2 * o + (2 * r.val + 1))).c k := by
  have e0 : leafAt x y (2 * o + 2 * r.val) = ⟨fun d => x (ix ⟨2 * (o + r.val), by omega⟩ d), fun d => y (ix ⟨2 * (o + r.val), by omega⟩ d)⟩ := by
    rw [show 2 * o + 2 * r.val = 2 * (o + r.val) by omega]
    exact dif_pos _
  have e1 : leafAt x y (2 * o + (2 * r.val + 1)) =
      ⟨fun d => x (ix ⟨2 * (o + r.val) + 1, by omega⟩ d), fun d => y (ix ⟨2 * (o + r.val) + 1, by omega⟩ d)⟩ := by
    rw [show 2 * o + (2 * r.val + 1) = 2 * (o + r.val) + 1 by omega]
    exact dif_pos _
  rw [e0, e1]
  exact ⟨neighbours (n := 24576) x _ ⟨o + r.val, h⟩ k, neighbours (n := 24576) y _ ⟨o + r.val, h⟩ k⟩

variable (m : (ℓ : Loc nD τ sig) → Buf (Elt Ideal) ℓ) (c : Dev nD)

/-- The leaves in memory. -/
abbrev memLeaves : ℕ → Node := leafAt (m ((c : Thread nD τ).loc main_arg0)) (m ((c : Thread nD τ).loc main_arg1))

/-- The weights of the merging cell in memory. -/
abbrev memMerge : Weights := weights (m ((c : Thread nD τ).loc main_arg2)) (m ((c : Thread nD τ).loc main_arg4)) (m ((c : Thread nD τ).loc main_arg5))

/-- The weights of the last cell in memory. -/
abbrev memSum : Weights := weights (m ((c : Thread nD τ).loc main_arg6)) (m ((c : Thread nD τ).loc main_arg8)) (m ((c : Thread nD τ).loc main_arg9))

section
variable (hL : ∀ r, Cert.Tree.Real' (memLeaves m c r))
include hL

/-- Block `n` comes to its 512 nodes of level 4. -/
theorem carriedOf_are (n : ℕ) (hn : n < 6) : (carriedOf m c n).Are 512 fun r => Cert.Tree.level (memMerge m c) (memLeaves m c) 4 (512 * n + r) := by
  have h := block_are (wLeaf m c) (wDeep m c) (bMerge m c) (memMerge m c) (by rw [wLeaf_eq]; exact leafW_scaled _ _ _)
    (by rw [wDeep_eq]; exact deepW_scaled _ _ _) (fun j => by rw [bMerge_eq]; exact halfBias_apply _ _ _ j)
    (fun i => memLeaves m c (2 ^ 4 * (512 * n) + i)) (fun r => hL _) (iblk m c 0 (pt n)) (iblk m c 1 (pt n))
    (fun r k => by
      have e : (pt n).val = n := Nat.mod_eq_of_lt hn
      rw [block0_eq m c (pt n) r k (by omega), (two_by_two _ (m ((c : Thread nD τ).loc main_arg1)) _ r _ k).1]
      simp only [e, show 2 * (4096 * n) = 2 ^ 4 * (512 * n) by omega])
    (fun r k => by
      have e : (pt n).val = n := Nat.mod_eq_of_lt hn
      rw [block1_eq m c (pt n) r k (by omega), (two_by_two (m ((c : Thread nD τ).loc main_arg0)) _ _ r _ k).2]
      simp only [e, show 2 * (4096 * n) = 2 ^ 4 * (512 * n) by omega])
  intro r hr d
  dsimp only
  rw [← Cert.Tree.level_shift]
  exact h r hr d

/-- The rows carried to the last point are the nodes of level 4. -/
theorem carried_are : (carried m c).Are 3072 (Cert.Tree.level (memMerge m c) (memLeaves m c) 4) := fun r hr d => by
  have h := carriedOf_are m c hL (r / 512) (by omega) (r % 512) (Nat.mod_lt _ (by decide)) d
  dsimp only at h
  rw [Nat.div_add_mod] at h
  exact h

/-- The kernel's result is the root's hidden values and its cell values, side by side. -/
theorem result_root (k : Fin 256) : result m c (ix 0 k) =
    pair (root (memMerge m c) (memSum m c) (memLeaves m c)).h (root (memMerge m c) (memSum m c) (memLeaves m c)).c k := by
  have hd : Scaled (wDeep m c) 2 (memMerge m c) := by rw [wDeep_eq]; exact deepW_scaled _ _ _
  have hs : Scaled (wSum m c) 2 (memSum m c) := by rw [wSum_eq]; exact sumW_scaled _ _ _
  have hb : ∀ j : Fin 256, bMerge m c (ix 0 j) = half * (memMerge m c).bf j := fun j => by rw [bMerge_eq]; exact halfBias_apply _ _ _ j
  have hbs : ∀ j : Fin 256, bSum m c (ix 0 j) = half * (memSum m c).bf j := fun j => by rw [bSum_eq]; exact halfBias_apply _ _ _ j
  have R := Cert.Tree.level_real (memMerge m c) (memLeaves m c) hL
  have h1 := top_are (wDeep m c) (bMerge m c) (memMerge m c) hd hb _ (R 4) (carried m c) (carried_are m c hL)
  have h2 := regs_all (wDeep m c) (bMerge m c) (memMerge m c) hd hb (Cert.Tree.level (memMerge m c) (memLeaves m c) 7) (R 7) _ _
    (fun r => by
      have h := h1.take 384 0 r (by omega)
      rw [Nat.zero_add] at h
      exact h)
  exact final_apply (wDeep m c) (wSum m c) (bMerge m c) (bSum m c) _ _ hd hs hb hbs (Cert.Tree.level (memMerge m c) (memLeaves m c) 14) (R 14) _ _ h2 k
end

end Cert.KernelIdeal.Hand

end
-- ==== Proof.HostCell.lean ====
/- The reference's cell on `n` rows, as the host computes it, and its rows over the extended reals. -/
module

public import proofs.«01_k».proof.Proof.KernelValue
public import Idealize.ShloMosaic.Lib.StackMember

@[expose] public section

noncomputable section

namespace Cert.ReferenceIdeal.Hand

open Idealize.ShloMosaic
open Cert.KernelIdeal.Hand (Sh ix at1 ix_eq slice_apply cat_pair)
open Cert.Tree (Node Weights pair merge up gate forget at_)

/-- The shape of a single number. -/
abbrev S0 : Shape := ⟨0, ![]⟩

/-- 128 of the columns. -/
theorem columns (n m o : ℕ) (h : o + 128 ≤ m) : (Sh n m).Slices ![0, o] (Sh n 128) :=
  ⟨rfl, fun a => by
    match a with
    | 0 => exact (Nat.zero_add n).le
    | 1 => exact h⟩

/-- Every second row. -/
theorem every_second (n s : ℕ) (h : s < 2) : (Sh (2 * n) 128).SlicesBy ![s, 0] ![2, 1] (Sh n 128) :=
  ⟨rfl, fun a => by
    match a with
    | 0 =>
      refine ⟨Nat.two_pos, ?_⟩
      show n = 0 ∨ s + 2 * (n - 1) < 2 * n
      omega
    | 1 => exact ⟨Nat.one_pos, Or.inr (show 0 + 1 * (128 - 1) < 128 by decide)⟩⟩

/-- Two blocks of 128 columns side by side. -/
theorem beside (n : ℕ) : Shape.Concatenates [Sh n 128, Sh n 128] (Sh n 256) 1 :=
  ⟨Nat.le_refl 2, fun s hs => by
    simp only [List.mem_cons, List.mem_nil_iff, or_false, or_self] at hs
    subst hs
    refine ⟨rfl, fun b hb => ?_⟩
    match b with
    | 0 => rfl
    | 1 => exact absurd rfl hb, rfl⟩

/-- A number repeated everywhere. -/
theorem everywhere (S : Shape) : S0.BroadcastsInDim S ![] := ⟨fun a => a.elim0, fun a => a.elim0⟩

/-- One row repeated on every row. -/
theorem repeated (n m : ℕ) : (Sh 1 m).BroadcastsInDim (Sh n m) ![0, 1] :=
  ⟨show Function.Injective (![0, 1] : Fin 2 → Fin 2) by decide, fun a => by
    match a with
    | 0 => exact Or.inl rfl
    | 1 => exact Or.inr rfl⟩

/-- A vector as a row. -/
theorem as_row (m : ℕ) : (⟨1, ![m]⟩ : Shape).BroadcastsInDim (Sh 1 m) ![1] :=
  ⟨show Function.Injective (![1] : Fin 1 → Fin 2) by decide, fun a => by
    match a with
    | 0 => exact Or.inr rfl⟩

section
variable {F : FTy → Type} [FloatOps F]

/-- The logistic function, spelt out. -/
def sigma {S : Shape} (x : FVec F S .f32) : FVec F S .f32 :=
  Host.divf (broadcastInDim S ![] (everywhere S) (constant S0 .f32 0x3F800000#32))
    (addf (broadcastInDim S ![] (everywhere S) (constant S0 .f32 0x3F800000#32)) (Host.exp (Host.negf x)))

/-- A bias as a row, and that row on every row. -/
def biasRow {m : ℕ} (b : FVec F ⟨1, ![m]⟩ .f32) : FVec F (Sh 1 m) .f32 := broadcastInDim (Sh 1 m) ![1] (as_row m) b
def biasRows (n : ℕ) {m : ℕ} (b : FVec F ⟨1, ![m]⟩ .f32) : FVec F (Sh n m) .f32 := broadcastInDim (Sh n m) ![0, 1] (repeated n m) (biasRow b)

variable {n : ℕ} (Wi : FVec F (Sh 256 384) .f32) (Wf : FVec F (Sh 256 256) .f32) (Bi : FVec F (Sh n 384) .f32) (Bf : FVec F (Sh n 256) .f32)
  (h1 c1 h2 c2 : FVec F (Sh n 128) .f32)

/-- The children's hidden values side by side. -/
def hostX : FVec F (Sh n 256) .f32 := concatenate (Sh n 256) 1 [⟨Sh n 128, h1⟩, ⟨Sh n 128, h2⟩] (beside n)

/-- The input, output and update gates before their activation. -/
def hostI : FVec F (Sh n 384) .f32 := addf (Host.dotGeneral (DotDims.plain n 256 384) none (hostX h1 h2) Wi) Bi

/-- The two forget gates. -/
def hostF : FVec F (Sh n 256) .f32 := sigma (addf (Host.dotGeneral (DotDims.plain n 256 256) none (hostX h1 h2) Wf) Bf)

/-- The parents' cell values. -/
def hostC : FVec F (Sh n 128) .f32 :=
  addf (addf (mulf (sigma (extractStridedSlice (Sh n 128) ![0, 0] (hostI Wi Bi h1 h2) (columns n 384 0 (by decide))))
        (Host.tanh (extractStridedSlice (Sh n 128) ![0, 256] (hostI Wi Bi h1 h2) (columns n 384 256 (by decide)))))
      (mulf (extractStridedSlice (Sh n 128) ![0, 0] (hostF Wf Bf h1 h2) (columns n 256 0 (by decide))) c1))
    (mulf (extractStridedSlice (Sh n 128) ![0, 128] (hostF Wf Bf h1 h2) (columns n 256 128 (by decide))) c2)

/-- The parents' hidden values. -/
def hostH : FVec F (Sh n 128) .f32 :=
  mulf (sigma (extractStridedSlice (Sh n 128) ![0, 128] (hostI Wi Bi h1 h2) (columns n 384 128 (by decide))))
    (Host.tanh (hostC Wi Wf Bi Bf h1 c1 h2 c2))
end

section
variable {F : FTy → Type} [FloatOps F]
variable {n : ℕ} (Wi : FVec F (Sh 256 384) .f32) (Wf : FVec F (Sh 256 256) .f32) (Bi : FVec F (Sh n 384) .f32) (Bf : FVec F (Sh n 256) .f32)
  (h c : FVec F (Sh (2 * n) 128) .f32)

/-- The rows `s`, `s + 2`, `s + 4`, … -/
def second (s : ℕ) (hs : s < 2) (x : FVec F (Sh (2 * n) 128) .f32) : FVec F (Sh n 128) .f32 := Host.slice (Sh n 128) ![s, 0] ![2, 1] x (every_second n s hs)

/-- The parents' cell values, the children being neighbouring rows. -/
def upC : FVec F (Sh n 128) .f32 :=
  hostC Wi Wf Bi Bf (second 0 (by decide) h) (second 0 (by decide) c) (second 1 (by decide) h) (second 1 (by decide) c)

/-- The parents' hidden values, the children being neighbouring rows. -/
def upH : FVec F (Sh n 128) .f32 :=
  hostH Wi Wf Bi Bf (second 0 (by decide) h) (second 0 (by decide) c) (second 1 (by decide) h) (second 1 (by decide) c)
end

theorem sigma_apply {S : Shape} (x : FVec Ideal S .f32) (i : S.Idx) : sigma x i = Ideal.logistic (x i) := by
  show Ideal.div (Ideal.ofBits .f32 0x3F800000#32) (Ideal.ofBits .f32 0x3F800000#32 + Ideal.exp (-(x i))) = _
  rw [Ideal.ofBits_one_f32]
  rfl

theorem biasRow_apply {m : ℕ} (b : FVec Ideal ⟨1, ![m]⟩ .f32) (j : Fin m) : biasRow b (ix 0 j) = b (at1 j) :=
  broadcastInDim_apply _ _ b _ _ fun a => by
    match a with
    | 0 =>
      show j.val = if m = 1 then 0 else j.val
      split <;> omega

theorem biasRows_apply (n : ℕ) {m : ℕ} (b : FVec Ideal ⟨1, ![m]⟩ .f32) (r : Fin n) (j : Fin m) : biasRows n b (ix r j) = b (at1 j) :=
  (broadcastInDim_apply _ _ (biasRow b) (ix r j) (ix 0 j) fun a => by
    match a with
    | 0 => rfl
    | 1 =>
      show j.val = if m = 1 then 0 else j.val
      split <;> omega).trans (biasRow_apply b j)

theorem second_apply {n : ℕ} (s : ℕ) (hs : s < 2) (x : FVec Ideal (Sh (2 * n) 128) .f32) (r : Fin n) (d : Fin 128) :
    second s hs x (ix r d) = x (ix ⟨2 * r.val + s, by omega⟩ d) := by
  unfold second Host.slice
  refine congrArg x (funext fun a => Fin.ext ?_)
  match a with
  | 0 => exact Nat.add_comm _ _
  | 1 => show 0 + 1 * d.val = d.val; omega

section
variable {n : ℕ} (Wi : FVec Ideal (Sh 256 384) .f32) (Wf : FVec Ideal (Sh 256 256) .f32) (Bi : FVec Ideal (Sh n 384) .f32) (Bf : FVec Ideal (Sh n 256) .f32)
  (w : Weights) (hWi : ∀ k j, Wi (ix k j) = w.iou k j) (hWf : ∀ k j, Wf (ix k j) = w.fgt k j)
include hWi hWf

/-- On a row that holds two children the host's cell computes their parent. -/
theorem cell_host (h1 c1 h2 c2 : FVec Ideal (Sh n 128) .f32) (r : Fin n) (hBi : ∀ j, Bi (ix r j) = 0) (hBf : ∀ j, Bf (ix r j) = w.bf j)
    (l q : Node) (e1 : (fun d => h1 (ix r d)) = l.h) (e2 : (fun d => c1 (ix r d)) = l.c) (e3 : (fun d => h2 (ix r d)) = q.h)
    (e4 : (fun d => c2 (ix r d)) = q.c) (d : Fin 128) :
    hostH Wi Wf Bi Bf h1 c1 h2 c2 (ix r d) = (merge w l q).h d ∧ hostC Wi Wf Bi Bf h1 c1 h2 c2 (ix r d) = (merge w l q).c d := by
  have x (k : Fin 256) : hostX h1 h2 (ix r k) = pair l.h q.h k := by
    unfold hostX
    rw [cat_pair, e1, e3]
  have i (j : Fin 384) : hostI Wi Bi h1 h2 (ix r j) = gate w l q j := by
    show Host.dotGeneral (DotDims.plain n 256 384) none (hostX h1 h2) Wi (ix r j) + Bi (ix r j) = _
    rw [hBi, add_zero, ix_eq, StackMember.dotGeneral_plain_apply]
    simp only [← ix_eq, x, hWi]
    rfl
  have f (j : Fin 256) : hostF Wf Bf h1 h2 (ix r j) = Ideal.logistic (forget w l q j) := by
    unfold hostF
    rw [sigma_apply]
    show Ideal.logistic (Host.dotGeneral (DotDims.plain n 256 256) none (hostX h1 h2) Wf (ix r j) + Bf (ix r j)) = _
    rw [hBf, ix_eq, StackMember.dotGeneral_plain_apply]
    simp only [← ix_eq, x, hWf]
    rfl
  have hc : hostC Wi Wf Bi Bf h1 c1 h2 c2 (ix r d) = Cert.Tree.mergeC w l q d := by
    show sigma (extractStridedSlice (Sh n 128) ![0, 0] (hostI Wi Bi h1 h2) _) (ix r d)
          * Ideal.tanh (extractStridedSlice (Sh n 128) ![0, 256] (hostI Wi Bi h1 h2) _ (ix r d))
        + extractStridedSlice (Sh n 128) ![0, 0] (hostF Wf Bf h1 h2) _ (ix r d) * c1 (ix r d)
        + extractStridedSlice (Sh n 128) ![0, 128] (hostF Wf Bf h1 h2) _ (ix r d) * c2 (ix r d) = _
    rw [sigma_apply, slice_apply 0 _ _ r d (at_ 0 d) rfl, slice_apply 256 _ _ r d (at_ 256 d) rfl, slice_apply 0 _ _ r d (at_ 0 d) rfl,
      slice_apply 128 _ _ r d (at_ 128 d) rfl, i, i, f, f, show c1 (ix r d) = l.c d from congrFun e2 d, show c2 (ix r d) = q.c d from congrFun e4 d]
    rfl
  refine ⟨?_, hc⟩
  show sigma (extractStridedSlice (Sh n 128) ![0, 128] (hostI Wi Bi h1 h2) _) (ix r d) * Ideal.tanh (hostC Wi Wf Bi Bf h1 c1 h2 c2 (ix r d)) = _
  rw [hc, sigma_apply, slice_apply 128 _ _ r d (at_ 128 d) rfl, i]
  rfl

/-- The rows of the two arrays are the nodes `N`. -/
def Rows {n : ℕ} (h c : FVec Ideal (Sh n 128) .f32) (N : ℕ → Node) : Prop := ∀ r : Fin n, ∀ d, h (ix r d) = (N r.val).h d ∧ c (ix r d) = (N r.val).c d

omit hWi hWf in
/-- A level: the parents of rows that are nodes are the next level's nodes. -/
theorem up_rows (Wi : FVec Ideal (Sh 256 384) .f32) (Wf : FVec Ideal (Sh 256 256) .f32) (w : Weights)
    (hWi : ∀ k j, Wi (ix k j) = w.iou k j) (hWf : ∀ k j, Wf (ix k j) = w.fgt k j)
    (hBi : ∀ r j, Bi (ix r j) = 0) (hBf : ∀ r j, Bf (ix r j) = w.bf j)
    (h c : FVec Ideal (Sh (2 * n) 128) .f32) (N : ℕ → Node) (H : Rows h c N) :
    Rows (upH Wi Wf Bi Bf h c) (upC Wi Wf Bi Bf h c) (up w N) := fun r d =>
  cell_host Wi Wf Bi Bf w hWi hWf _ _ _ _ r (hBi r) (hBf r) _ _
    (funext fun e => (second_apply 0 _ h r e).trans (H ⟨2 * r.val, by omega⟩ e).1) (funext fun e => (second_apply 0 _ c r e).trans (H ⟨2 * r.val, by omega⟩ e).2)
    (funext fun e => (second_apply 1 _ h r e).trans (H ⟨2 * r.val + 1, by omega⟩ e).1) (funext fun e => (second_apply 1 _ c r e).trans (H ⟨2 * r.val + 1, by omega⟩ e).2) d
end

end Cert.ReferenceIdeal.Hand

end
-- ==== Proof.HostTree.lean ====
/- The reference's result over the extended reals: the state of the tree's root. -/
module

public import proofs.«01_k».proof.Proof.HostCell
public import proofs.«01_k».proof.Proof.Gen.ReferenceIdeal.Read

@[expose] public section

noncomputable section

namespace Cert.ReferenceIdeal.Hand

open Cert.ReferenceIdeal Cert.ReferenceIdeal.Gen Cert.ReferenceIdeal.Read
open Idealize.ShloMosaic
open Cert.KernelIdeal.Hand (Sh ix at1 slice_apply cat_pair weights leafAt root)
open Cert.Tree (Node Weights pair merge up level)

section
variable (x0 x1 : FVec Ideal S49152x128 .f32) (x2 : FVec Ideal S256x384 .f32) (x3 : FVec Ideal S384 .f32) (x4 : FVec Ideal S256x256 .f32) (x5 : FVec Ideal S256 .f32)

/-- A level above one of at least four rows. -/
theorem level_rows (hx3 : ∀ i, x3 i = 0) (n : ℕ) (h c : FVec Ideal (Sh (2 * n) 128) .f32) (N : ℕ → Node) (H : Rows h c N) :
    Rows (upH x2 x4 (biasRows n x3) (biasRows n x5) h c) (upC x2 x4 (biasRows n x3) (biasRows n x5) h c) (up (weights x2 x4 x5) N) :=
  up_rows _ _ x2 x4 (weights x2 x4 x5) (fun _ _ => rfl) (fun _ _ => rfl) (fun r j => (biasRows_apply n x3 r j).trans (hx3 _))
    (fun r j => biasRows_apply n x5 r j) h c N H

/-- The level above one of two rows. -/
theorem last_rows (hx3 : ∀ i, x3 i = 0) (h c : FVec Ideal (Sh (2 * 1) 128) .f32) (N : ℕ → Node) (H : Rows h c N) :
    Rows (upH x2 x4 (biasRow x3) (biasRow x5) h c) (upC x2 x4 (biasRow x3) (biasRow x5) h c) (up (weights x2 x4 x5) N) :=
  up_rows _ _ x2 x4 (weights x2 x4 x5) (fun _ _ => rfl) (fun _ _ => rfl)
    (fun r j => by rw [show r = 0 from Subsingleton.elim _ _, biasRow_apply]; exact hx3 _)
    (fun r j => by rw [show r = 0 from Subsingleton.elim _ _, biasRow_apply]; rfl) h c N H

/-- The leaves from row `o` on. -/
theorem leaf_rows (n o : ℕ) (hs : (Sh 49152 128).Slices ![o, 0] (Sh n 128)) (ho : o + n ≤ 49152) :
    Rows (extractStridedSlice (Sh n 128) ![o, 0] x0 hs) (extractStridedSlice (Sh n 128) ![o, 0] x1 hs) fun r => leafAt x0 x1 (o + r) := fun r d => by
  have e (x : FVec Ideal (Sh 49152 128) .f32) : extractStridedSlice (Sh n 128) ![o, 0] x hs (ix r d) = x (ix ⟨o + r.val, by omega⟩ d) :=
    extractStridedSlice_apply _ x hs _ _ fun a => by
      match a with
      | 0 => rfl
      | 1 => exact (Nat.zero_add _).symm
  have l : leafAt x0 x1 (o + r.val) = ⟨fun d => x0 (ix ⟨o + r.val, by omega⟩ d), fun d => x1 (ix ⟨o + r.val, by omega⟩ d)⟩ := dif_pos _
  dsimp only
  rw [e, e, l]
  exact ⟨rfl, rfl⟩

/-- The larger subtree: the node above the first 32768 leaves. -/
theorem high_rows (hx3 : ∀ i, x3 i = 0) :
    Rows (val_main_v659 (F := Ideal) x0 x1 x2 x3 x4 x5) (val_main_v657 (F := Ideal) x0 x1 x2 x3 x4 x5) (level (weights x2 x4 x5) (fun r => leafAt x0 x1 (0 + r)) 15) := by
  have U := level_rows x2 x3 x4 x5 hx3
  set w := weights x2 x4 x5
  set L := fun r => leafAt x0 x1 (0 + r)
  have h0 : Rows (val_main_v0 (F := Ideal) x0) (val_main_v1 (F := Ideal) x1) (level w L 0) := leaf_rows x0 x1 32768 0 _ (by decide)
  have h1 : Rows (val_main_v45 (F := Ideal) x0 x1 x2 x3 x4 x5) (val_main_v43 (F := Ideal) x0 x1 x2 x3 x4 x5) (level w L 1) := U 16384 _ _ _ h0
  have h2 : Rows (val_main_v89 (F := Ideal) x0 x1 x2 x3 x4 x5) (val_main_v87 (F := Ideal) x0 x1 x2 x3 x4 x5) (level w L 2) := U 8192 _ _ _ h1
  have h3 : Rows (val_main_v133 (F := Ideal) x0 x1 x2 x3 x4 x5) (val_main_v131 (F := Ideal) x0 x1 x2 x3 x4 x5) (level w L 3) := U 4096 _ _ _ h2
  have h4 : Rows (val_main_v177 (F := Ideal) x0 x1 x2 x3 x4 x5) (val_main_v175 (F := Ideal) x0 x1 x2 x3 x4 x5) (level w L 4) := U 2048 _ _ _ h3
  have h5 : Rows (val_main_v221 (F := Ideal) x0 x1 x2 x3 x4 x5) (val_main_v219 (F := Ideal) x0 x1 x2 x3 x4 x5) (level w L 5) := U 1024 _ _ _ h4
  have h6 : Rows (val_main_v265 (F := Ideal) x0 x1 x2 x3 x4 x5) (val_main_v263 (F := Ideal) x0 x1 x2 x3 x4 x5) (level w L 6) := U 512 _ _ _ h5
  have h7 : Rows (val_main_v309 (F := Ideal) x0 x1 x2 x3 x4 x5) (val_main_v307 (F := Ideal) x0 x1 x2 x3 x4 x5) (level w L 7) := U 256 _ _ _ h6
  have h8 : Rows (val_main_v353 (F := Ideal) x0 x1 x2 x3 x4 x5) (val_main_v351 (F := Ideal) x0 x1 x2 x3 x4 x5) (level w L 8) := U 128 _ _ _ h7
  have h9 : Rows (val_main_v397 (F := Ideal) x0 x1 x2 x3 x4 x5) (val_main_v395 (F := Ideal) x0 x1 x2 x3 x4 x5) (level w L 9) := U 64 _ _ _ h8
  have h10 : Rows (val_main_v441 (F := Ideal) x0 x1 x2 x3 x4 x5) (val_main_v439 (F := Ideal) x0 x1 x2 x3 x4 x5) (level w L 10) := U 32 _ _ _ h9
  have h11 : Rows (val_main_v485 (F := Ideal) x0 x1 x2 x3 x4 x5) (val_main_v483 (F := Ideal) x0 x1 x2 x3 x4 x5) (level w L 11) := U 16 _ _ _ h10
  have h12 : Rows (val_main_v529 (F := Ideal) x0 x1 x2 x3 x4 x5) (val_main_v527 (F := Ideal) x0 x1 x2 x3 x4 x5) (level w L 12) := U 8 _ _ _ h11
  have h13 : Rows (val_main_v573 (F := Ideal) x0 x1 x2 x3 x4 x5) (val_main_v571 (F := Ideal) x0 x1 x2 x3 x4 x5) (level w L 13) := U 4 _ _ _ h12
  have h14 : Rows (val_main_v617 (F := Ideal) x0 x1 x2 x3 x4 x5) (val_main_v615 (F := Ideal) x0 x1 x2 x3 x4 x5) (level w L 14) := U 2 _ _ _ h13
  exact last_rows x2 x3 x4 x5 hx3 _ _ _ h14

/-- The smaller subtree: the node above the last 16384 leaves. -/
theorem low_rows (hx3 : ∀ i, x3 i = 0) :
    Rows (val_main_v1275 (F := Ideal) x0 x1 x2 x3 x4 x5) (val_main_v1273 (F := Ideal) x0 x1 x2 x3 x4 x5) (level (weights x2 x4 x5) (fun r => leafAt x0 x1 (32768 + r)) 14) := by
  have U := level_rows x2 x3 x4 x5 hx3
  set w := weights x2 x4 x5
  set L' := fun r => leafAt x0 x1 (32768 + r)
  have h0 : Rows (val_main_v660 (F := Ideal) x0) (val_main_v661 (F := Ideal) x1) (level w L' 0) := leaf_rows x0 x1 16384 32768 _ (by decide)
  have h1 : Rows (val_main_v705 (F := Ideal) x0 x1 x2 x3 x4 x5) (val_main_v703 (F := Ideal) x0 x1 x2 x3 x4 x5) (level w L' 1) := U 8192 _ _ _ h0
  have h2 : Rows (val_main_v749 (F := Ideal) x0 x1 x2 x3 x4 x5) (val_main_v747 (F := Ideal) x0 x1 x2 x3 x4 x5) (level w L' 2) := U 4096 _ _ _ h1
  have h3 : Rows (val_main_v793 (F := Ideal) x0 x1 x2 x3 x4 x5) (val_main_v791 (F := Ideal) x0 x1 x2 x3 x4 x5) (level w L' 3) := U 2048 _ _ _ h2
  have h4 : Rows (val_main_v837 (F := Ideal) x0 x1 x2 x3 x4 x5) (val_main_v835 (F := Ideal) x0 x1 x2 x3 x4 x5) (level w L' 4) := U 1024 _ _ _ h3
  have h5 : Rows (val_main_v881 (F := Ideal) x0 x1 x2 x3 x4 x5) (val_main_v879 (F := Ideal) x0 x1 x2 x3 x4 x5) (level w L' 5) := U 512 _ _ _ h4
  have h6 : Rows (val_main_v925 (F := Ideal) x0 x1 x2 x3 x4 x5) (val_main_v923 (F := Ideal) x0 x1 x2 x3 x4 x5) (level w L' 6) := U 256 _ _ _ h5
  have h7 : Rows (val_main_v969 (F := Ideal) x0 x1 x2 x3 x4 x5) (val_main_v967 (F := Ideal) x0 x1 x2 x3 x4 x5) (level w L' 7) := U 128 _ _ _ h6
  have h8 : Rows (val_main_v1013 (F := Ideal) x0 x1 x2 x3 x4 x5) (val_main_v1011 (F := Ideal) x0 x1 x2 x3 x4 x5) (level w L' 8) := U 64 _ _ _ h7
  have h9 : Rows (val_main_v1057 (F := Ideal) x0 x1 x2 x3 x4 x5) (val_main_v1055 (F := Ideal) x0 x1 x2 x3 x4 x5) (level w L' 9) := U 32 _ _ _ h8
  have h10 : Rows (val_main_v1101 (F := Ideal) x0 x1 x2 x3 x4 x5) (val_main_v1099 (F := Ideal) x0 x1 x2 x3 x4 x5) (level w L' 10) := U 16 _ _ _ h9
  have h11 : Rows (val_main_v1145 (F := Ideal) x0 x1 x2 x3 x4 x5) (val_main_v1143 (F := Ideal) x0 x1 x2 x3 x4 x5) (level w L' 11) := U 8 _ _ _ h10
  have h12 : Rows (val_main_v1189 (F := Ideal) x0 x1 x2 x3 x4 x5) (val_main_v1187 (F := Ideal) x0 x1 x2 x3 x4 x5) (level w L' 12) := U 4 _ _ _ h11
  have h13 : Rows (val_main_v1233 (F := Ideal) x0 x1 x2 x3 x4 x5) (val_main_v1231 (F := Ideal) x0 x1 x2 x3 x4 x5) (level w L' 13) := U 2 _ _ _ h12
  exact last_rows x2 x3 x4 x5 hx3 _ _ _ h13

variable (x6 : FVec Ideal S256x384 .f32) (x7 : FVec Ideal S384 .f32) (x8 : FVec Ideal S256x256 .f32) (x9 : FVec Ideal S256 .f32)

/-- The reference's result is the root's hidden values and its cell values, side by side. -/
theorem reference_root (hx3 : ∀ i, x3 i = 0) (hx7 : ∀ i, x7 i = 0) (k : Fin 256) :
    val_main_v1314 (F := Ideal) x0 x1 x2 x3 x4 x5 x6 x7 x8 x9 (ix 0 k) =
      pair (root (weights x2 x4 x5) (weights x6 x8 x9) (leafAt x0 x1)).h (root (weights x2 x4 x5) (weights x6 x8 x9) (leafAt x0 x1)).c k := by
  have hh : Rows (val_main_v659 (F := Ideal) x0 x1 x2 x3 x4 x5) (val_main_v657 (F := Ideal) x0 x1 x2 x3 x4 x5) (fun r => level (weights x2 x4 x5) (leafAt x0 x1) 15 (0 + r)) := by
    have h := high_rows x0 x1 x2 x3 x4 x5 hx3
    simpa only [Nat.zero_add] using h
  have hl : Rows (val_main_v1275 (F := Ideal) x0 x1 x2 x3 x4 x5) (val_main_v1273 (F := Ideal) x0 x1 x2 x3 x4 x5)
      (fun r => level (weights x2 x4 x5) (leafAt x0 x1) 14 (2 + r)) := fun r d => by
    have h := low_rows x0 x1 x2 x3 x4 x5 hx3 r d
    rw [show (fun r => leafAt x0 x1 (32768 + r)) = fun r => leafAt x0 x1 (2 ^ 14 * 2 + r) from rfl, Cert.Tree.level_shift] at h
    exact h
  have hf := cell_host (n := 1) x6 x8 (biasRow x7) (biasRow x9) (weights x6 x8 x9) (fun _ _ => rfl) (fun _ _ => rfl)
    (val_main_v1275 (F := Ideal) x0 x1 x2 x3 x4 x5) (val_main_v1273 (F := Ideal) x0 x1 x2 x3 x4 x5) (val_main_v659 (F := Ideal) x0 x1 x2 x3 x4 x5) (val_main_v657 (F := Ideal) x0 x1 x2 x3 x4 x5) 0
    (fun j => (biasRow_apply x7 j).trans (hx7 _)) (fun j => biasRow_apply x9 j) _ _
    (funext fun d => (hl 0 d).1) (funext fun d => (hl 0 d).2) (funext fun d => (hh 0 d).1) (funext fun d => (hh 0 d).2)
  refine (cat_pair (n := 1) (val_main_v1313 (F := Ideal) x0 x1 x2 x3 x4 x5 x6 x7 x8 x9) (val_main_v1311 (F := Ideal) x0 x1 x2 x3 x4 x5 x6 x7 x8 x9) (beside 1) 0 k).trans ?_
  have e1 : (fun d => val_main_v1313 (F := Ideal) x0 x1 x2 x3 x4 x5 x6 x7 x8 x9 (ix 0 d)) = (root (weights x2 x4 x5) (weights x6 x8 x9) (leafAt x0 x1)).h :=
    funext fun d => (hf d).1
  have e2 : (fun d => val_main_v1311 (F := Ideal) x0 x1 x2 x3 x4 x5 x6 x7 x8 x9 (ix 0 d)) = (root (weights x2 x4 x5) (weights x6 x8 x9) (leafAt x0 x1)).c :=
    funext fun d => (hf d).2
  rw [e1, e2]
end

end Cert.ReferenceIdeal.Hand

end
-- ==== Proof.HostRun.lean ====
/-
  The reference's run: its result is the composed value of its arguments, the arguments stay as they were, and, as the
  program declares no semaphore, every counter is zero.
-/
module

public import proofs.«01_k».proof.Proof.HostTree
public import proofs.«01_k».proof.Proof.Gen.ReferenceIdeal.Run
public import Idealize.ShloMosaic.Lib.Quiescent

@[expose] public section

noncomputable section

namespace Cert.ReferenceIdeal.Hand

open Cert.ReferenceIdeal Cert.ReferenceIdeal.Gen Cert.ReferenceIdeal.Read
open Idealize.ShloMosaic Idealize.SL.Sem

variable (m : (ℓ : Loc nD τ sig) → Buf (Elt Ideal) ℓ) (ρ : Dev nD → PrngReg)

/-- What the reference computes on device `c`. -/
def value (c : Dev nD) : Buf (Elt Ideal) ((c.tc : Thread nD τ).loc main_v1314) :=
  val_main_v1314 (F := Ideal) (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4))
    (m ((c.tc : Thread nD τ).loc main_arg5)) (m ((c.tc : Thread nD τ).loc main_arg6)) (m ((c.tc : Thread nD τ).loc main_arg7))
    (m ((c.tc : Thread nD τ).loc main_arg8)) (m ((c.tc : Thread nD τ).loc main_arg9))

/-- Every run of the reference ends with its value in place, its arguments as they were, and no semaphore raised. -/
theorem run_value : θ_run defs (onTc (τ := τ) (main (F := Ideal))) ⟨m, fun _ => 0, ρ⟩
    (fun r => (∀ c : Dev nD,
        r.2.mem ((c.tc : Thread nD τ).loc main_v1314) = value m c
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5)
        ∧ r.2.mem ((c.tc : Thread nD τ).loc main_arg6) = m ((c.tc : Thread nD τ).loc main_arg6)
        ∧ r.2.mem ((c.tc : Thread nD τ).loc main_arg7) = m ((c.tc : Thread nD τ).loc main_arg7)
        ∧ r.2.mem ((c.tc : Thread nD τ).loc main_arg8) = m ((c.tc : Thread nD τ).loc main_arg8)
        ∧ r.2.mem ((c.tc : Thread nD τ).loc main_arg9) = m ((c.tc : Thread nD τ).loc main_arg9)) ∧ r.2.sem = fun _ => 0) :=
  (θ_run defs _ _).mono (fun r h => ⟨fun c => ⟨(h c).1.trans (val_main_v1314_eq (F := Ideal) (StableHlo.launchContents m c)), (h c).2⟩,
    sem_eq_zero_of_no_sems (by decide) r.2⟩) (Cert.ReferenceIdeal.Value.run (F := Ideal) m ρ)

end Cert.ReferenceIdeal.Hand

end
-- ==== Proof.PreValue.lean ====
/-
  What the precondition says of the arrays: every cell value of the leaves is a real number, and the two `b_iou` biases
  are zero at every index.
-/
module

public import proofs.«01_k».proof.Pre_no_iou_bias_and_finite_cells
public import Idealize.ShloMosaic.Lib.ReduceAll
public import Idealize.ShloMosaic.PureOps.Ideal

@[expose] public section

noncomputable section

namespace Cert.Pre_no_iou_bias_and_finite_cells.Hand

open Idealize.ShloMosaic Cert.Pre_no_iou_bias_and_finite_cells

/-- The side conditions of the predicate's operations hold. -/
theorem facts : Facts where
  bcast_S_S49152x128 := by decide
  reducesTo_S49152x128_S_d0_1 := by decide
  h_S_ := by decide
  bcast_S_S384 := by decide
  reducesTo_S384_S_d0 := by decide

/-- A rank-0 array has one index. -/
instance : Subsingleton S_.Idx := ⟨fun a b => funext fun i => i.elim0⟩

/-- Two one-bit words whose `and` is 1 are both 1. -/
theorem and_one {a b : BitVec 1} (h : IntOp.andi a b = 1#1) : a = 1#1 ∧ b = 1#1 := by
  revert a b; unfold IntOp.andi; decide

/-- A comparison whose bit is 1 holds. -/
theorem bit_one {p : Prop} [Decidable p] (h : BitVec.ofBool (decide p) = 1#1) : p := by
  by_contra hp
  rw [decide_eq_false hp] at h
  exact absurd h (by decide)

/-- An extended real whose absolute value is below `⊤` is a real number. -/
theorem real_of_abs {x : EReal} (h : max x (-x) < ⊤) : ∃ v : ℝ, x = (v : EReal) := by
  induction x with
  | bot => simp at h
  | top => simp at h
  | coe v => exact ⟨v, rfl⟩

variable [Facts]
variable (a0 a1 : FVec Ideal S49152x128 .f32) (a2 : FVec Ideal S256x384 .f32) (a3 : FVec Ideal S384 .f32) (a4 : FVec Ideal S256x256 .f32)
  (a5 : FVec Ideal S256 .f32) (a6 : FVec Ideal S256x384 .f32) (a7 : FVec Ideal S384 .f32) (a8 : FVec Ideal S256x256 .f32) (a9 : FVec Ideal S256 .f32)

/-- Where the precondition holds, the leaves' cell values are real numbers and both `b_iou` biases are zero. -/
theorem reads (h : fn (F := Ideal) a0 a1 a2 a3 a4 a5 a6 a7 a8 a9 = fun _ => 1#1) :
    (∀ i, ∃ v : ℝ, a1 i = (v : EReal)) ∧ (∀ i, a3 i = (0 : EReal)) ∧ (∀ i, a7 i = (0 : EReal)) := by
  have h0 := congrFun h (fun i => i.elim0)
  obtain ⟨h01, h7⟩ := and_one h0
  obtain ⟨h1, h3⟩ := and_one h01
  have zero : Ideal.ofBits .f32 0x00000000#32 = (0 : EReal) := by simp [Ideal.ofBits, Ideal.ieee]
  have top : Ideal.ofBits .f32 0x7F800000#32 = (⊤ : EReal) := by simp [Ideal.ofBits, Ideal.ieee]
  refine ⟨fun i => ?_, fun i => ?_, fun i => ?_⟩
  · have e := Host.reduce_andi_all _ _ _ _ _ h1 i
    change BitVec.ofBool (decide (max (a1 i : EReal) (-(a1 i : EReal)) < Ideal.ofBits .f32 0x7F800000#32)) = 1#1 at e
    rw [top] at e
    exact real_of_abs (bit_one e)
  · have e := Host.reduce_andi_all _ _ _ _ _ h3 i
    change BitVec.ofBool (decide ((a3 i : EReal) = Ideal.ofBits .f32 0x00000000#32)) = 1#1 at e
    rw [zero] at e
    exact bit_one e
  · have e := Host.reduce_andi_all _ _ _ _ _ h7 i
    change BitVec.ofBool (decide ((a7 i : EReal) = Ideal.ofBits .f32 0x00000000#32)) = 1#1 at e
    rw [zero] at e
    exact bit_one e

end Cert.Pre_no_iou_bias_and_finite_cells.Hand

end
-- ==== Proof.Agree.lean ====
/- Where the precondition holds and the arguments agree, the kernel's result is the reference's. -/
module

public import proofs.«01_k».proof.Proof.KernelValue
public import proofs.«01_k».proof.Proof.HostRun
public import proofs.«01_k».proof.Proof.PreValue
public import proofs.«01_k».proof.Defs

@[expose] public section

noncomputable section

namespace Cert.Agree

open Idealize.ShloMosaic Idealize.SL.Sem
open Cert.KernelIdeal.Hand (ix ix_eta result memLeaves memMerge memSum leafAt leafAt_real result_root)

variable [Cert.Pre_no_iou_bias_and_finite_cells.Facts]
variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)

/-- Both programs' results are the state of the same tree's root. -/
theorem result_eq (c : Dev Cert.KernelIdeal.nD) (hp : Cert.Pre_KernelIdeal_no_iou_bias_and_finite_cells m)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (h8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (h9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) :
    Cert.ReferenceIdeal.Hand.value m' c = result m c := by
  obtain ⟨hc, hm, hs⟩ := Cert.Pre_no_iou_bias_and_finite_cells.Hand.reads _ _ _ _ _ _ _ _ _ _ (hp c)
  unfold Cert.ReferenceIdeal.Hand.value
  rw [h0, h1, h2, h3, h4, h5, h6, h7, h8, h9]
  refine funext fun (i : (Cert.KernelIdeal.Hand.Sh 1 256).Idx) => ?_
  rw [← ix_eta i, show i 0 = (0 : Fin 1) from Subsingleton.elim (α := Fin 1) _ _]
  refine (Cert.ReferenceIdeal.Hand.reference_root _ _ _ _ _ _ _ _ _ _ hm hs (i 1)).trans ?_
  exact (result_root m c (leafAt_real _ _ hc) (i 1)).symm

end Cert.Agree

end
-- ==== Proof.Same.lean ====
/- The program printed for words and the one printed for the extended reals are the same program. -/
module

public import proofs.«01_k».proof.Proof.Gen.Kernel
public import proofs.«01_k».proof.Proof.Gen.KernelIdeal

@[expose] public section

noncomputable section

namespace Cert.Same

open Idealize.ShloMosaic Idealize.SL.Sem

attribute [local instance] Cert.Kernel.Gen.facts Cert.KernelIdeal.Gen.facts

variable {F : FTy → Type} [FloatOps F]

set_option maxRecDepth 65536 in
/-- The two bodies are the same. -/
theorem body_same : @Cert.Kernel.cc0__body F _ _ = @Cert.KernelIdeal.cc0__body F _ _ := rfl

set_option maxRecDepth 65536 in
/-- The two body tables are the same. -/
theorem table_same : Cert.Kernel.defs₀ (F := F) = Cert.KernelIdeal.defs₀ (F := F) := by
  unfold Cert.Kernel.defs₀ Cert.KernelIdeal.defs₀
  rw [body_same]
  refine congrArg Defs.onTc (funext fun l => funext fun a => ?_)
  match l, a with
  | 0, (t, s) => rfl
  | ⟨_ + 1, h⟩, _ => exact absurd h (Nat.not_lt.2 (Nat.le_add_left _ _))

/-- So are the tables with the launch's region. -/
theorem defs_same : Cert.Kernel.defs (F := F) = Cert.KernelIdeal.defs (F := F) := by
  unfold Cert.Kernel.defs Cert.KernelIdeal.defs
  rw [table_same]
  rfl

end Cert.Same

end
-- ==== Proof.lean ====
module

public import proofs.«01_k».proof.Defs
public import proofs.«01_k».proof.Proof.Gen.Kernel
public import proofs.«01_k».proof.Proof.Launch
public import proofs.«01_k».proof.Proof.Agree
public import proofs.«01_k».proof.Proof.Same
public import Idealize.ShloMosaic.Adequacy
public import Idealize.ShloMosaic.Init

@[expose] public section

noncomputable section

namespace Cert.Proof

open Idealize.ShloMosaic Idealize.SL.Sem

section
open Cert.KernelIdeal Cert.KernelIdeal.Gen

/-- For any reading of the floats, the kernel runs, its arguments end unchanged and every counter reads zero. -/
theorem frame_any {F : FTy → Type} [FloatOps F] (m : (ℓ : Loc nD τ sig) → Buf (Elt F) ℓ) (g : Dev nD → PrngReg) :
    θ_run (defs (F := F)) (onTc (τ := τ) (main (F := F))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  (θ_run _ _ _).mono (fun _ h => ⟨fun c => (h.1 c).2, h.2⟩) (Cert.KernelIdeal.Hand.run_result m g)
end

/-- At words, the kernel runs, its arguments end unchanged and every counter reads zero: the program read at words is
    the one read over the extended reals, operation for operation. -/
theorem kernel_frame : Cert.quiescent_Kernel (hKernel := Cert.Kernel.Gen.facts) := fun m g _ => by
  rw [Cert.Same.defs_same]
  exact frame_any (F := Bits) m g

/-- The same over the extended reals. -/
theorem ideal_frame : Cert.quiescent_KernelIdeal (hKernelIdeal := Cert.KernelIdeal.Gen.facts) := fun m g _ => frame_any m g

/-- The same of the reference. -/
theorem reference_frame : Cert.quiescent_ReferenceIdeal (hReferenceIdeal := Cert.ReferenceIdeal.Gen.facts) := fun m g _ =>
  (θ_run _ _ _).mono (fun _ h => ⟨fun c => (h.1 c).2, h.2⟩) (Cert.ReferenceIdeal.Hand.run_value m g)

/-- Where the precondition holds, the kernel and the reference end with the same result. -/
theorem agree : Cert.algebraic_KernelIdeal_ReferenceIdeal_pre_no_iou_bias_and_finite_cells (hKernelIdeal := Cert.KernelIdeal.Gen.facts)
    (hReferenceIdeal := Cert.ReferenceIdeal.Gen.facts) (hPre_no_iou_bias_and_finite_cells := Cert.Pre_no_iou_bias_and_finite_cells.Hand.facts) :=
  fun m g m' g' hp hm =>
    ⟨fun c => Cert.KernelIdeal.Hand.result m c,
      (θ_run _ _ _).mono (fun _ h => h.1) (Cert.KernelIdeal.Hand.run_result (F := Ideal) m g),
      (θ_run _ _ _).mono (fun _ h c => ⟨(h.1 c).1.trans (by
          obtain ⟨h0, h1, h2, h3, h4, h5, h6, h7, h8, h9⟩ := hm c
          letI := Cert.Pre_no_iou_bias_and_finite_cells.Hand.facts
          exact Cert.Agree.result_eq m m' c hp h0 h1 h2 h3 h4 h5 h6 h7 h8 h9), (h.1 c).2⟩)
        (Cert.ReferenceIdeal.Hand.run_value m' g')⟩

/-- Everything claimed. -/
theorem claim : Cert.Claim :=
  ⟨Cert.Kernel.Gen.facts, Cert.KernelIdeal.Gen.facts, Cert.ReferenceIdeal.Gen.facts, Cert.Pre_no_iou_bias_and_finite_cells.Hand.facts,
    kernel_frame, ideal_frame, fun m g _ => ideal_frame m g trivial, reference_frame, fun m g _ => reference_frame m g trivial, trivial, agree⟩

end Cert.Proof

end
